-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥
  ∧ IdealRules.named_const.Statement Cert.KernelIdeal.κ "qscale" .f32 0x3E0293EE#32 (((Real.sqrt 128)⁻¹ * (Real.log 2)⁻¹ : ℝ) : EReal)

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 1024, 8, 128]⟩ ⟨4, ![1, 4096, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v37) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024x8x128 : S_.BroadcastsInDim S1x1024x8x128 (![] : Fin 0 → Fin S1x1024x8x128.rank)
  reducesTo_S1x1024x8x128_S_d0_1_2_3 : S1x1024x8x128.ReducesTo [0, 1, 2, 3] S_

variable [Facts]

def fn {F : FTy → Type} [FloatOps F] (main_arg0 : FVec F S1x1024x1024 .f32) (main_arg1 : FVec F S1024x1024 .f32) (main_arg2 : FVec F S1x1024x8x128 .f32) (main_arg3 : FVec F S1x1024x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x8x128 .f32 := Host.absf main_arg2
  let main_cst_2 : FVec F S_ .f32 := constant S_ .f32 0x7F800000#32
  let main_v10 : FVec F S1x1024x8x128 .f32 := broadcastInDim S1x1024x8x128 ![] bcast_S_S1x1024x8x128 main_cst_2
  let main_v11 : IVec S1x1024x8x128 1 := cmpf .olt main_v9 main_v10
  let main_c_3 : IVec S_ 1 := constantI S_ 1 1#1
  let main_v12 : IVec S_ 1 := (fun x v => Host.reduce IntOp.andi x v reducesTo_S1x1024x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x1024x1024 .f32) (main_arg1 : FVec F S1024x1024 .f32) (main_arg2 : FVec F S1x4096x8x128 .f32) (main_arg3 : FVec F S1x4096x8x128 .f32) (main_arg4 : FVec F S1024x1024 .f32) : IVec S_ 1 :=
  let main_v0 : FVec F S1x1024x1024 .f32 := Host.absf main_arg0
  let main_cst : FVec F S_ .f32 := constant S_ .f32 0x7F800000#32
  let main_v1 : FVec F S1x1024x1024 .f32 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .f32 := Host.absf main_arg2
  let main_cst_2 : FVec F S_ .f32 := constant S_ .f32 0x7F800000#32
  let main_v10 : FVec F S1x4096x8x128 .f32 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Kernel.lean ====
abbrev S1x1024x1024 : Shape := ⟨3, ![1, 1024, 1024]⟩
abbrev S1024x1024 : Shape := ⟨2, ![1024, 1024]⟩
abbrev S1x1024x8x128 : Shape := ⟨4, ![1, 1024, 8, 128]⟩
abbrev S8x2x512x128 : Shape := ⟨4, ![8, 2, 512, 128]⟩
abbrev S160x8 : Shape := ⟨2, ![160, 8]⟩
abbrev S9x128x128 : Shape := ⟨3, ![9, 128, 128]⟩
abbrev S3x9x32x128 : Shape := ⟨4, ![3, 9, 32, 128]⟩
abbrev S160x1024 : Shape := ⟨2, ![160, 1024]⟩
abbrev S4x256x512 : Shape := ⟨3, ![4, 256, 512]⟩
abbrev S2x8 : Shape := ⟨2, ![2, 8]⟩
abbrev S9 : Shape := ⟨1, ![9]⟩
abbrev S5 : Shape := ⟨1, ![5]⟩
abbrev S_ : Shape := ⟨0, ![]⟩
abbrev S256x512 : Shape := ⟨2, ![256, 512]⟩
abbrev S1x256x512 : Shape := ⟨3, ![1, 256, 512]⟩
abbrev S1024x128 : Shape := ⟨2, ![1024, 128]⟩
abbrev S256x128 : Shape := ⟨2, ![256, 128]⟩
abbrev S1x512x1x128 : Shape := ⟨4, ![1, 512, 1, 128]⟩
abbrev S512x128 : Shape := ⟨2, ![512, 128]⟩
abbrev S256 : Shape := ⟨1, ![256]⟩
abbrev S256x1 : Shape := ⟨2, ![256, 1]⟩
abbrev S1x1x256x128 : Shape := ⟨4, ![1, 1, 256, 128]⟩
abbrev S32x128 : Shape := ⟨2, ![32, 128]⟩
abbrev S32x512 : Shape := ⟨2, ![32, 512]⟩
abbrev S32x1 : Shape := ⟨2, ![32, 1]⟩
abbrev S32 : Shape := ⟨1, ![32]⟩
abbrev S1x1x32x128 : Shape := ⟨4, ![1, 1, 32, 128]⟩
abbrev S1x32x1x128 : Shape := ⟨4, ![1, 32, 1, 128]⟩
abbrev S256x32 : Shape := ⟨2, ![256, 32]⟩
abbrev S128x128 : Shape := ⟨2, ![128, 128]⟩
abbrev S1x1x128x128 : Shape := ⟨4, ![1, 1, 128, 128]⟩
abbrev S128x1 : Shape := ⟨2, ![128, 1]⟩
abbrev S1x1 : Shape := ⟨2, ![1, 1]⟩
abbrev S1x2x512x128 : Shape := ⟨4, ![1, 2, 512, 128]⟩
abbrev S2x512x128 : Shape := ⟨3, ![2, 512, 128]⟩
abbrev S1 : Shape := ⟨1, ![1]⟩
abbrev S864x1024 : Shape := ⟨2, ![864, 1024]⟩
abbrev S1x864x1024 : Shape := ⟨3, ![1, 864, 1024]⟩
abbrev S1x480x1024 : Shape := ⟨3, ![1, 480, 1024]⟩
abbrev S480x1024 : Shape := ⟨2, ![480, 1024]⟩
abbrev S1x1x480x128 : Shape := ⟨4, ![1, 1, 480, 128]⟩
abbrev S480x128 : Shape := ⟨2, ![480, 128]⟩
abbrev S128x1024 : Shape := ⟨2, ![128, 1024]⟩
abbrev S1x384x1024 : Shape := ⟨3, ![1, 384, 1024]⟩
abbrev S384x1024 : Shape := ⟨2, ![384, 1024]⟩
abbrev S1x1x384x128 : Shape := ⟨4, ![1, 1, 384, 128]⟩
abbrev S384x128 : Shape := ⟨2, ![384, 128]⟩
abbrev S1x9x32x128 : Shape := ⟨4, ![1, 9, 32, 128]⟩
abbrev S9x32x128 : Shape := ⟨3, ![9, 32, 128]⟩
abbrev S1x1024x1x128 : Shape := ⟨4, ![1, 1024, 1, 128]⟩
abbrev S1x32x1024 : Shape := ⟨3, ![1, 32, 1024]⟩
abbrev S32x1024 : Shape := ⟨2, ![32, 1024]⟩
abbrev S1x1x32x1 : Shape := ⟨4, ![1, 1, 32, 1]⟩
abbrev S1x128x1024 : Shape := ⟨3, ![1, 128, 1024]⟩
abbrev S1x128x128 : Shape := ⟨3, ![1, 128, 128]⟩
abbrev S128 : Shape := ⟨1, ![128]⟩
abbrev S1x128x1 : Shape := ⟨3, ![1, 128, 1]⟩
abbrev S1x1x512x128 : Shape := ⟨4, ![1, 1, 512, 128]⟩
abbrev S32x8 : Shape := ⟨2, ![32, 8]⟩
abbrev S1x1x32x8 : Shape := ⟨4, ![1, 1, 32, 8]⟩
abbrev S128x8 : Shape := ⟨2, ![128, 8]⟩
abbrev S1x128x8 : Shape := ⟨3, ![1, 128, 8]⟩

abbrev nBuf : Space → Nat
  | .hbm => 6
  | .vmem => 13
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x8x128, .f32⟩
  | .hbm, ⟨3, _⟩ => ⟨S1x1024x8x128, .f32⟩
  | .hbm, ⟨4, _⟩ => ⟨S1024x1024, .f32⟩
  | .hbm, ⟨5, _⟩ => ⟨S1x1024x1024, .f32⟩
  | .local _ .vmem, ⟨0, _⟩ => ⟨S1x1024x1024, .f32⟩
  | .local _ .vmem, ⟨1, _⟩ => ⟨S1024x1024, .f32⟩
  | .local _ .vmem, ⟨2, _⟩ => ⟨S1x1024x8x128, .f32⟩
  | .local _ .vmem, ⟨3, _⟩ => ⟨S1x1024x8x128, .f32⟩
  | .local _ .vmem, ⟨4, _⟩ => ⟨S1024x1024, .f32⟩
  | .local _ .vmem, ⟨5, _⟩ => ⟨S1x1024x1024, .f32⟩
  | .local _ .vmem, ⟨6, _⟩ => ⟨S8x2x512x128, .bf16⟩
  | .local _ .vmem, ⟨7, _⟩ => ⟨S160x8, .f32⟩
  | .local _ .vmem, ⟨8, _⟩ => ⟨S9x128x128, .bf16⟩
  | .local _ .vmem, ⟨9, _⟩ => ⟨S3x9x32x128, .bf16⟩
  | .local _ .vmem, ⟨10, _⟩ => ⟨S160x1024, .f32⟩
  | .local _ .vmem, ⟨11, _⟩ => ⟨S160x8, .f32⟩
  | .local _ .vmem, ⟨12, _⟩ => ⟨S4x256x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 1 52 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_358 : BitVec 32 := 0#32
  let c0_i32_356 : BitVec 32 := 0#32
  let c1_i32_357 : BitVec 32 := 1#32
  let v414 : BitVec 32 := Scalar.muli c0_i32_356 c1_i32_357
  let v415 : BitVec 32 := Scalar.addi c0_i32_358 v414
  v415.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_358 : BitVec 32 := 0#32
  let c1_i32_356 : BitVec 32 := 1#32
  let c1_i32_357 : BitVec 32 := 1#32
  let v414 : BitVec 32 := Scalar.muli c1_i32_356 c1_i32_357
  let v415 : BitVec 32 := Scalar.addi c0_i32_358 v414
  v415.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_358 : BitVec 32 := 0#32
  let c2_i32_356 : BitVec 32 := 2#32
  let c1_i32_357 : BitVec 32 := 1#32
  let v414 : BitVec 32 := Scalar.muli c2_i32_356 c1_i32_357
  let v415 : BitVec 32 := Scalar.addi c0_i32_358 v414
  v415.toNat
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_358 : BitVec 32 := 0#32
  let c3_i32_356 : BitVec 32 := 3#32
  let c1_i32_357 : BitVec 32 := 1#32
  let v414 : BitVec 32 := Scalar.muli c3_i32_356 c1_i32_357
  let v415 : BitVec 32 := Scalar.addi c0_i32_358 v414
  v415.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_6 : BitVec 32 := 0#32
  let v16 : BitVec 1 := Scalar.cmpi .eq v2 c0_i32_6
  let v17 : BitVec 32 := Scalar.extui v16
  let c0_i32_7 : BitVec 32 := 0#32
  let v18 : BitVec 1 := Scalar.cmpi .ne v17 c0_i32_7
  v18

def k0_dev5 : Nat :=
  let c0_i32_526 : BitVec 32 := 0#32
  let c1_i32_524 : BitVec 32 := 1#32
  let c1_i32_525 : BitVec 32 := 1#32
  let v639 : BitVec 32 := Scalar.muli c1_i32_524 c1_i32_525
  let v640 : BitVec 32 := Scalar.addi c0_i32_526 v639
  v640.toNat
def k0_dev6 : Nat :=
  let c0_i32_541 : BitVec 32 := 0#32
  let c3_i32_539 : BitVec 32 := 3#32
  let c1_i32_540 : BitVec 32 := 1#32
  let v649 : BitVec 32 := Scalar.muli c3_i32_539 c1_i32_540
  let v650 : BitVec 32 := Scalar.addi c0_i32_541 v649
  v650.toNat
def k0_dev7 : Nat :=
  let c0_i32_691 : BitVec 32 := 0#32
  let c1_i32_689 : BitVec 32 := 1#32
  let c1_i32_690 : BitVec 32 := 1#32
  let v814 : BitVec 32 := Scalar.muli c1_i32_689 c1_i32_690
  let v815 : BitVec 32 := Scalar.addi c0_i32_691 v814
  v815.toNat
def k0_dev8 : Nat :=
  let c0_i32_706 : BitVec 32 := 0#32
  let c3_i32_704 : BitVec 32 := 3#32
  let c1_i32_705 : BitVec 32 := 1#32
  let v824 : BitVec 32 := Scalar.muli c3_i32_704 c1_i32_705
  let v825 : BitVec 32 := Scalar.addi c0_i32_706 v824
  v825.toNat
def k0_dev9 : Nat :=
  let c0_i32_856 : BitVec 32 := 0#32
  let c1_i32_854 : BitVec 32 := 1#32
  let c1_i32_855 : BitVec 32 := 1#32
  let v989 : BitVec 32 := Scalar.muli c1_i32_854 c1_i32_855
  let v990 : BitVec 32 := Scalar.addi c0_i32_856 v989
  v990.toNat
def k0_dev10 : Nat :=
  let c0_i32_871 : BitVec 32 := 0#32
  let c3_i32_869 : BitVec 32 := 3#32
  let c1_i32_870 : BitVec 32 := 1#32
  let v999 : BitVec 32 := Scalar.muli c3_i32_869 c1_i32_870
  let v1000 : BitVec 32 := Scalar.addi c0_i32_871 v999
  v1000.toNat
def k0_dev11 : Nat :=
  let c0_i32_1021 : BitVec 32 := 0#32
  let c1_i32_1019 : BitVec 32 := 1#32
  let c1_i32_1020 : BitVec 32 := 1#32
  let v1164 : BitVec 32 := Scalar.muli c1_i32_1019 c1_i32_1020
  let v1165 : BitVec 32 := Scalar.addi c0_i32_1021 v1164
  v1165.toNat
def k0_dev12 : Nat :=
  let c0_i32_1036 : BitVec 32 := 0#32
  let c3_i32_1034 : BitVec 32 := 3#32
  let c1_i32_1035 : BitVec 32 := 1#32
  let v1174 : BitVec 32 := Scalar.muli c3_i32_1034 c1_i32_1035
  let v1175 : BitVec 32 := Scalar.addi c0_i32_1036 v1174
  v1175.toNat
def k0_dev13 : Nat :=
  let c0_i32_1186 : BitVec 32 := 0#32
  let c1_i32_1184 : BitVec 32 := 1#32
  let c1_i32_1185 : BitVec 32 := 1#32
  let v1339 : BitVec 32 := Scalar.muli c1_i32_1184 c1_i32_1185
  let v1340 : BitVec 32 := Scalar.addi c0_i32_1186 v1339
  v1340.toNat
def k0_dev14 : Nat :=
  let c0_i32_1201 : BitVec 32 := 0#32
  let c3_i32_1199 : BitVec 32 := 3#32
  let c1_i32_1200 : BitVec 32 := 1#32
  let v1349 : BitVec 32 := Scalar.muli c3_i32_1199 c1_i32_1200
  let v1350 : BitVec 32 := Scalar.addi c0_i32_1201 v1349
  v1350.toNat
def k0_dev15 : Nat :=
  let c0_i32_1350 : BitVec 32 := 0#32
  let c1_i32_1348 : BitVec 32 := 1#32
  let c1_i32_1349 : BitVec 32 := 1#32
  let v1514 : BitVec 32 := Scalar.muli c1_i32_1348 c1_i32_1349
  let v1515 : BitVec 32 := Scalar.addi c0_i32_1350 v1514
  v1515.toNat
def k0_dev16 : Nat :=
  let c0_i32_1365 : BitVec 32 := 0#32
  let c3_i32_1363 : BitVec 32 := 3#32
  let c1_i32_1364 : BitVec 32 := 1#32
  let v1524 : BitVec 32 := Scalar.muli c3_i32_1363 c1_i32_1364
  let v1525 : BitVec 32 := Scalar.addi c0_i32_1365 v1524
  v1525.toNat
def k0_dev17 : Nat :=
  let c0_i32_1514 : BitVec 32 := 0#32
  let c1_i32_1512 : BitVec 32 := 1#32
  let c1_i32_1513 : BitVec 32 := 1#32
  let v1689 : BitVec 32 := Scalar.muli c1_i32_1512 c1_i32_1513
  let v1690 : BitVec 32 := Scalar.addi c0_i32_1514 v1689
  v1690.toNat
def k0_dev18 : Nat :=
  let c0_i32_1529 : BitVec 32 := 0#32
  let c3_i32_1527 : BitVec 32 := 3#32
  let c1_i32_1528 : BitVec 32 := 1#32
  let v1699 : BitVec 32 := Scalar.muli c3_i32_1527 c1_i32_1528
  let v1700 : BitVec 32 := Scalar.addi c0_i32_1529 v1699
  v1700.toNat
def k0_dev19 : Nat :=
  let c0_i32_1678 : BitVec 32 := 0#32
  let c1_i32_1676 : BitVec 32 := 1#32
  let c1_i32_1677 : BitVec 32 := 1#32
  let v1864 : BitVec 32 := Scalar.muli c1_i32_1676 c1_i32_1677
  let v1865 : BitVec 32 := Scalar.addi c0_i32_1678 v1864
  v1865.toNat
def k0_dev20 : Nat :=
  let c0_i32_1693 : BitVec 32 := 0#32
  let c3_i32_1691 : BitVec 32 := 3#32
  let c1_i32_1692 : BitVec 32 := 1#32
  let v1874 : BitVec 32 := Scalar.muli c3_i32_1691 c1_i32_1692
  let v1875 : BitVec 32 := Scalar.addi c0_i32_1693 v1874
  v1875.toNat
def k0_dev21 : Nat :=
  let c0_i32_1704 : BitVec 32 := 0#32
  let c1_i32_1702 : BitVec 32 := 1#32
  let c1_i32_1703 : BitVec 32 := 1#32
  let v1884 : BitVec 32 := Scalar.muli c1_i32_1702 c1_i32_1703
  let v1885 : BitVec 32 := Scalar.addi c0_i32_1704 v1884
  v1885.toNat
def k0_dev22 : Nat :=
  let c0_i32_1709 : BitVec 32 := 0#32
  let c2_i32_1707 : BitVec 32 := 2#32
  let c1_i32_1708 : BitVec 32 := 1#32
  let v1890 : BitVec 32 := Scalar.muli c2_i32_1707 c1_i32_1708
  let v1891 : BitVec 32 := Scalar.addi c0_i32_1709 v1890
  v1891.toNat
def k0_dev23 : Nat :=
  let c0_i32_1713 : BitVec 32 := 0#32
  let c3_i32_1711 : BitVec 32 := 3#32
  let c1_i32_1712 : BitVec 32 := 1#32
  let v1896 : BitVec 32 := Scalar.muli c3_i32_1711 c1_i32_1712
  let v1897 : BitVec 32 := Scalar.addi c0_i32_1713 v1896
  v1897.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_8 : BitVec 32 := 1#32
  let v19 : BitVec 1 := Scalar.cmpi .eq v2 c1_i32_8
  let v20 : BitVec 32 := Scalar.extui v19
  let c0_i32_9 : BitVec 32 := 0#32
  let v21 : BitVec 1 := Scalar.cmpi .ne v20 c0_i32_9
  v21

def k0_dev24 : Nat :=
  let c0_i32_761 : BitVec 32 := 0#32
  let c0_i32_759 : BitVec 32 := 0#32
  let c1_i32_760 : BitVec 32 := 1#32
  let v851 : BitVec 32 := Scalar.muli c0_i32_759 c1_i32_760
  let v852 : BitVec 32 := Scalar.addi c0_i32_761 v851
  v852.toNat
def k0_dev25 : Nat :=
  let c0_i32_766 : BitVec 32 := 0#32
  let c2_i32_764 : BitVec 32 := 2#32
  let c1_i32_765 : BitVec 32 := 1#32
  let v857 : BitVec 32 := Scalar.muli c2_i32_764 c1_i32_765
  let v858 : BitVec 32 := Scalar.addi c0_i32_766 v857
  v858.toNat
def k0_dev26 : Nat :=
  let c0_i32_771 : BitVec 32 := 0#32
  let c3_i32_769 : BitVec 32 := 3#32
  let c1_i32_770 : BitVec 32 := 1#32
  let v863 : BitVec 32 := Scalar.muli c3_i32_769 c1_i32_770
  let v864 : BitVec 32 := Scalar.addi c0_i32_771 v863
  v864.toNat
def k0_dev27 : Nat :=
  let c0_i32_778 : BitVec 32 := 0#32
  let c0_i32_776 : BitVec 32 := 0#32
  let c1_i32_777 : BitVec 32 := 1#32
  let v869 : BitVec 32 := Scalar.muli c0_i32_776 c1_i32_777
  let v870 : BitVec 32 := Scalar.addi c0_i32_778 v869
  v870.toNat
def k0_dev28 : Nat :=
  let c0_i32_791 : BitVec 32 := 0#32
  let c2_i32_789 : BitVec 32 := 2#32
  let c1_i32_790 : BitVec 32 := 1#32
  let v879 : BitVec 32 := Scalar.muli c2_i32_789 c1_i32_790
  let v880 : BitVec 32 := Scalar.addi c0_i32_791 v879
  v880.toNat
def k0_dev29 : Nat :=
  let c0_i32_803 : BitVec 32 := 0#32
  let c3_i32_801 : BitVec 32 := 3#32
  let c1_i32_802 : BitVec 32 := 1#32
  let v889 : BitVec 32 := Scalar.muli c3_i32_801 c1_i32_802
  let v890 : BitVec 32 := Scalar.addi c0_i32_803 v889
  v890.toNat
def k0_dev30 : Nat :=
  let c0_i32_839 : BitVec 32 := 0#32
  let c2_i32_837 : BitVec 32 := 2#32
  let c1_i32_838 : BitVec 32 := 1#32
  let v911 : BitVec 32 := Scalar.muli c2_i32_837 c1_i32_838
  let v912 : BitVec 32 := Scalar.addi c0_i32_839 v911
  v912.toNat
def k0_dev31 : Nat :=
  let c0_i32_895 : BitVec 32 := 0#32
  let c2_i32_893 : BitVec 32 := 2#32
  let c1_i32_894 : BitVec 32 := 1#32
  let v953 : BitVec 32 := Scalar.muli c2_i32_893 c1_i32_894
  let v954 : BitVec 32 := Scalar.addi c0_i32_895 v953
  v954.toNat
def k0_dev32 : Nat :=
  let c0_i32_951 : BitVec 32 := 0#32
  let c2_i32_949 : BitVec 32 := 2#32
  let c1_i32_950 : BitVec 32 := 1#32
  let v995 : BitVec 32 := Scalar.muli c2_i32_949 c1_i32_950
  let v996 : BitVec 32 := Scalar.addi c0_i32_951 v995
  v996.toNat
def k0_dev33 : Nat :=
  let c0_i32_1007 : BitVec 32 := 0#32
  let c2_i32_1005 : BitVec 32 := 2#32
  let c1_i32_1006 : BitVec 32 := 1#32
  let v1037 : BitVec 32 := Scalar.muli c2_i32_1005 c1_i32_1006
  let v1038 : BitVec 32 := Scalar.addi c0_i32_1007 v1037
  v1038.toNat
def k0_dev34 : Nat :=
  let c0_i32_1063 : BitVec 32 := 0#32
  let c2_i32_1061 : BitVec 32 := 2#32
  let c1_i32_1062 : BitVec 32 := 1#32
  let v1079 : BitVec 32 := Scalar.muli c2_i32_1061 c1_i32_1062
  let v1080 : BitVec 32 := Scalar.addi c0_i32_1063 v1079
  v1080.toNat
def k0_dev35 : Nat :=
  let c0_i32_1119 : BitVec 32 := 0#32
  let c2_i32_1117 : BitVec 32 := 2#32
  let c1_i32_1118 : BitVec 32 := 1#32
  let v1121 : BitVec 32 := Scalar.muli c2_i32_1117 c1_i32_1118
  let v1122 : BitVec 32 := Scalar.addi c0_i32_1119 v1121
  v1122.toNat
def k0_dev36 : Nat :=
  let c0_i32_1174 : BitVec 32 := 0#32
  let c2_i32_1172 : BitVec 32 := 2#32
  let c1_i32_1173 : BitVec 32 := 1#32
  let v1163 : BitVec 32 := Scalar.muli c2_i32_1172 c1_i32_1173
  let v1164 : BitVec 32 := Scalar.addi c0_i32_1174 v1163
  v1164.toNat
def k0_dev37 : Nat :=
  let c0_i32_1229 : BitVec 32 := 0#32
  let c2_i32_1227 : BitVec 32 := 2#32
  let c1_i32_1228 : BitVec 32 := 1#32
  let v1205 : BitVec 32 := Scalar.muli c2_i32_1227 c1_i32_1228
  let v1206 : BitVec 32 := Scalar.addi c0_i32_1229 v1205
  v1206.toNat
def k0_cond7 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_10 : BitVec 32 := 2#32
  let v22 : BitVec 1 := Scalar.cmpi .eq v2 c2_i32_10
  let v23 : BitVec 32 := Scalar.extui v22
  let c0_i32_11 : BitVec 32 := 0#32
  let v24 : BitVec 1 := Scalar.cmpi .ne v23 c0_i32_11
  v24

def k0_dev38 : Nat :=
  let c0_i32_569 : BitVec 32 := 0#32
  let c0_i32_567 : BitVec 32 := 0#32
  let c1_i32_568 : BitVec 32 := 1#32
  let v622 : BitVec 32 := Scalar.muli c0_i32_567 c1_i32_568
  let v623 : BitVec 32 := Scalar.addi c0_i32_569 v622
  v623.toNat
def k0_dev39 : Nat :=
  let c0_i32_582 : BitVec 32 := 0#32
  let c1_i32_580 : BitVec 32 := 1#32
  let c1_i32_581 : BitVec 32 := 1#32
  let v632 : BitVec 32 := Scalar.muli c1_i32_580 c1_i32_581
  let v633 : BitVec 32 := Scalar.addi c0_i32_582 v632
  v633.toNat
def k0_dev40 : Nat :=
  let c0_i32_595 : BitVec 32 := 0#32
  let c3_i32_593 : BitVec 32 := 3#32
  let c1_i32_594 : BitVec 32 := 1#32
  let v642 : BitVec 32 := Scalar.muli c3_i32_593 c1_i32_594
  let v643 : BitVec 32 := Scalar.addi c0_i32_595 v642
  v643.toNat
def k0_cond8 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_12 : BitVec 32 := 3#32
  let v25 : BitVec 1 := Scalar.cmpi .eq v2 c3_i32_12
  let v26 : BitVec 32 := Scalar.extui v25
  let c0_i32_13 : BitVec 32 := 0#32
  let v27 : BitVec 1 := Scalar.cmpi .ne v26 c0_i32_13
  v27

def k0_dev41 : Nat :=
  let c0_i32_569 : BitVec 32 := 0#32
  let c0_i32_567 : BitVec 32 := 0#32
  let c1_i32_568 : BitVec 32 := 1#32
  let v622 : BitVec 32 := Scalar.muli c0_i32_567 c1_i32_568
  let v623 : BitVec 32 := Scalar.addi c0_i32_569 v622
  v623.toNat
def k0_dev42 : Nat :=
  let c0_i32_582 : BitVec 32 := 0#32
  let c1_i32_580 : BitVec 32 := 1#32
  let c1_i32_581 : BitVec 32 := 1#32
  let v632 : BitVec 32 := Scalar.muli c1_i32_580 c1_i32_581
  let v633 : BitVec 32 := Scalar.addi c0_i32_582 v632
  v633.toNat
def k0_dev43 : Nat :=
  let c0_i32_595 : BitVec 32 := 0#32
  let c2_i32_593 : BitVec 32 := 2#32
  let c1_i32_594 : BitVec 32 := 1#32
  let v642 : BitVec 32 := Scalar.muli c2_i32_593 c1_i32_594
  let v643 : BitVec 32 := Scalar.addi c0_i32_595 v642
  v643.toNat
def k0_dev44 : Nat :=
  let c0_i32_631 : BitVec 32 := 0#32
  let c2_i32_629 : BitVec 32 := 2#32
  let c1_i32_630 : BitVec 32 := 1#32
  let v664 : BitVec 32 := Scalar.muli c2_i32_629 c1_i32_630
  let v665 : BitVec 32 := Scalar.addi c0_i32_631 v664
  v665.toNat
def k0_dev45 : Nat :=
  let c0_i32_687 : BitVec 32 := 0#32
  let c2_i32_685 : BitVec 32 := 2#32
  let c1_i32_686 : BitVec 32 := 1#32
  let v706 : BitVec 32 := Scalar.muli c2_i32_685 c1_i32_686
  let v707 : BitVec 32 := Scalar.addi c0_i32_687 v706
  v707.toNat
def k0_dev46 : Nat :=
  let c0_i32_743 : BitVec 32 := 0#32
  let c2_i32_741 : BitVec 32 := 2#32
  let c1_i32_742 : BitVec 32 := 1#32
  let v748 : BitVec 32 := Scalar.muli c2_i32_741 c1_i32_742
  let v749 : BitVec 32 := Scalar.addi c0_i32_743 v748
  v749.toNat
def k0_dev47 : Nat :=
  let c0_i32_799 : BitVec 32 := 0#32
  let c2_i32_797 : BitVec 32 := 2#32
  let c1_i32_798 : BitVec 32 := 1#32
  let v790 : BitVec 32 := Scalar.muli c2_i32_797 c1_i32_798
  let v791 : BitVec 32 := Scalar.addi c0_i32_799 v790
  v791.toNat
def k0_dev48 : Nat :=
  let c0_i32_855 : BitVec 32 := 0#32
  let c2_i32_853 : BitVec 32 := 2#32
  let c1_i32_854 : BitVec 32 := 1#32
  let v832 : BitVec 32 := Scalar.muli c2_i32_853 c1_i32_854
  let v833 : BitVec 32 := Scalar.addi c0_i32_855 v832
  v833.toNat
def k0_dev49 : Nat :=
  let c0_i32_910 : BitVec 32 := 0#32
  let c2_i32_908 : BitVec 32 := 2#32
  let c1_i32_909 : BitVec 32 := 1#32
  let v874 : BitVec 32 := Scalar.muli c2_i32_908 c1_i32_909
  let v875 : BitVec 32 := Scalar.addi c0_i32_910 v874
  v875.toNat
def k0_dev50 : Nat :=
  let c0_i32_965 : BitVec 32 := 0#32
  let c2_i32_963 : BitVec 32 := 2#32
  let c1_i32_964 : BitVec 32 := 1#32
  let v916 : BitVec 32 := Scalar.muli c2_i32_963 c1_i32_964
  let v917 : BitVec 32 := Scalar.addi c0_i32_965 v916
  v917.toNat
def k0_dev51 : Nat :=
  let c0_i32_1020 : BitVec 32 := 0#32
  let c2_i32_1018 : BitVec 32 := 2#32
  let c1_i32_1019 : BitVec 32 := 1#32
  let v958 : BitVec 32 := Scalar.muli c2_i32_1018 c1_i32_1019
  let v959 : BitVec 32 := Scalar.addi c0_i32_1020 v958
  v959.toNat
abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "qscale" => some (((Real.sqrt 128)⁻¹ * (Real.log 2)⁻¹ : ℝ) : EReal)
  | _ => none
-- ==== ReferenceIdeal.lean ====
abbrev S1x1024x1024 : Shape := ⟨3, ![1, 1024, 1024]⟩
abbrev S1024x1024 : Shape := ⟨2, ![1024, 1024]⟩
abbrev S1x4096x8x128 : Shape := ⟨4, ![1, 4096, 8, 128]⟩
abbrev S1x1024x8x128 : Shape := ⟨4, ![1, 1024, 8, 128]⟩
abbrev S1024x4096 : Shape := ⟨2, ![1024, 4096]⟩
abbrev S_ : Shape := ⟨0, ![]⟩
abbrev S1x8x1024x4096 : Shape := ⟨4, ![1, 8, 1024, 4096]⟩
abbrev S1x1x1024x4096 : Shape := ⟨4, ![1, 1, 1024, 4096]⟩
abbrev S1x8x1024 : Shape := ⟨3, ![1, 8, 1024]⟩
abbrev S1x8x1024x1 : Shape := ⟨4, ![1, 8, 1024, 1]⟩
abbrev S1024 : Shape := ⟨1, ![1024]⟩
abbrev S1x1x1024x1 : Shape := ⟨4, ![1, 1, 1024, 1]⟩
abbrev S1x8x128x1024 : Shape := ⟨4, ![1, 8, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x4096x8x128, .f32⟩
  | .hbm, ⟨3, _⟩ => ⟨S1x4096x8x128, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024x8x128, .f32⟩
  | .hbm, ⟨8, _⟩ => ⟨S1024x4096, .i32⟩
  | .hbm, ⟨9, _⟩ => ⟨S1024x4096, .i32⟩
  | .hbm, ⟨10, _⟩ => ⟨S1024x4096, .i32⟩
  | .hbm, ⟨11, _⟩ => ⟨S1024x4096, .i32⟩
  | .hbm, ⟨12, _⟩ => ⟨S_, .i32⟩
  | .hbm, ⟨13, _⟩ => ⟨S1024x4096, .i32⟩
  | .hbm, ⟨14, _⟩ => ⟨S1024x4096, .i1⟩
  | .hbm, ⟨15, _⟩ => ⟨S_, .i32⟩
  | .hbm, ⟨16, _⟩ => ⟨S1024x4096, .i32⟩
  | .hbm, ⟨17, _⟩ => ⟨S1024x4096, .i1⟩
  | .hbm, ⟨18, _⟩ => ⟨S1024x4096, .i1⟩
  | .hbm, ⟨19, _⟩ => ⟨S_, .i32⟩
  | .hbm, ⟨20, _⟩ => ⟨S1024x4096, .i32⟩
  | .hbm, ⟨21, _⟩ => ⟨S1024x4096, .i1⟩
  | .hbm, ⟨22, _⟩ => ⟨S1024x4096, .i1⟩
  | .hbm, ⟨23, _⟩ => ⟨S1x8x1024x4096, .f32⟩
  | .hbm, ⟨24, _⟩ => ⟨S_, .f32⟩
  | .hbm, ⟨25, _⟩ => ⟨S_, .f32⟩
  | .hbm, ⟨26, _⟩ => ⟨S1x8x1024x4096, .f32⟩
  | .hbm, ⟨27, _⟩ => ⟨S1x8x1024x4096, .f32⟩
  | .hbm, ⟨28, _⟩ => ⟨S1x1x1024x4096, .i1⟩
  | .hbm, ⟨29, _⟩ => ⟨S_, .f32⟩
  | .hbm, ⟨30, _⟩ => ⟨S_, .f32⟩
  | .hbm, ⟨31, _⟩ => ⟨S1x8x1024x4096, .i1⟩
  | .hbm, ⟨32, _⟩ => ⟨S1x8x1024x4096, .f32⟩
  | .hbm, ⟨33, _⟩ => ⟨S1x8x1024x4096, .f32⟩
  | .hbm, ⟨34, _⟩ => ⟨S_, .f32⟩
  | .hbm, ⟨35, _⟩ => ⟨S1x8x1024, .f32⟩
  | .hbm, ⟨36, _⟩ => ⟨S1x8x1024x1, .f32⟩
  | .hbm, ⟨37, _⟩ => ⟨S1x8x1024x4096, .f32⟩
  | .hbm, ⟨38, _⟩ => ⟨S1x8x1024x4096, .f32⟩
  | .hbm, ⟨39, _⟩ => ⟨S1x8x1024x4096, .f32⟩
  | .hbm, ⟨40, _⟩ => ⟨S_, .i1⟩
  | .hbm, ⟨41, _⟩ => ⟨S1024, .i1⟩
  | .hbm, ⟨42, _⟩ => ⟨S1x1x1024x1, .i1⟩
  | .hbm, ⟨43, _⟩ => ⟨S_, .f32⟩
  | .hbm, ⟨44, _⟩ => ⟨S1x8x1024, .f32⟩
  | .hbm, ⟨45, _⟩ => ⟨S1x8x1024x1, .f32⟩
  | .hbm, ⟨46, _⟩ => ⟨S_, .f32⟩
  | .hbm, ⟨47, _⟩ => ⟨S_, .f32⟩
  | .hbm, ⟨48, _⟩ => ⟨S1x8x1024x1, .i1⟩
  | .hbm, ⟨49, _⟩ => ⟨S1x8x1024x1, .f32⟩
  | .hbm, ⟨50, _⟩ => ⟨S1x8x1024x1, .f32⟩
  | .hbm, ⟨51, _⟩ => ⟨S1x8x1024x4096, .f32⟩
  | .hbm, ⟨52, _⟩ => ⟨S1x8x1024x4096, .f32⟩
  | .hbm, ⟨53, _⟩ => ⟨S_, .f32⟩
  | .hbm, ⟨54, _⟩ => ⟨S_, .f32⟩
  | .hbm, ⟨55, _⟩ => ⟨S1x8x1024x4096, .i1⟩
  | .hbm, ⟨56, _⟩ => ⟨S1x8x1024x4096, .f32⟩
  | .hbm, ⟨57, _⟩ => ⟨S1x8x1024x4096, .f32⟩
  | .hbm, ⟨58, _⟩ => ⟨S1x8x128x1024, .f32⟩
  | .hbm, ⟨59, _⟩ => ⟨S1x1024x8x128, .f32⟩
  | .hbm, ⟨60, _⟩ => ⟨S1x1024x1024, .f32⟩
  | .hbm, ⟨61, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_4 : Ref sig .tc := ⟨.hbm, 40, rfl⟩
abbrev main_v26 : Ref sig .tc := ⟨.hbm, 41, rfl⟩
abbrev main_v27 : Ref sig .tc := ⟨.hbm, 42, rfl⟩
abbrev main_cst_5 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Proof.Base.lean ====
/-
The kernel's memory, cut into regions, and its stretches of plain computation.

A device's VMEM holds the five staged arguments, the staged result and seven scratch buffers. The kernel's transfers
move whole buffers, slabs of the `glob` buffer, and heads (or half heads) of the partial-result buffer `p0`; so the
memory is cut into REGIONS (`Rg`): one per buffer, except that `p0` is cut into its sixteen half heads and `glob` into
its three slabs. A device's state (`St`) gives each region the contents of its buffer, of which only the region's own
elements matter.

A stretch of loads, arithmetic and stores is a `Blk`: `Blk.prog` is the program it stands for, `Blk.run` what it does
to the state, `Blk.Ok` that it reads and writes only inside the regions named. `wp_blk` is their one soundness theorem.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.VecWindow
public import Idealize.ShloMosaic.Lib.Tactic

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## Regions -/

/-- The regions of a device's VMEM. -/
inductive Rg
  | x | wq | k | v | wo | out
  | p0 (h : Fin 8) (r : Fin 2)
  | d0 | ed
  | gl (r : Fin 3)
  | acc | lt | md
deriving DecidableEq

/-- The shape of the region's buffer. -/
@[reducible] def Rg.shape : Rg → Shape
  | .x => S1x1024x1024 | .wq => S1024x1024 | .k => S1x1024x8x128 | .v => S1x1024x8x128 | .wo => S1024x1024
  | .out => S1x1024x1024 | .p0 _ _ => S8x2x512x128 | .d0 => S160x8 | .ed => S9x128x128 | .gl _ => S3x9x32x128
  | .acc => S160x1024 | .lt => S160x8 | .md => S4x256x512

/-- The element type of the region's buffer. -/
@[reducible] def Rg.elt : Rg → EltTy
  | .p0 _ _ => .bf16 | .ed => .bf16 | .gl _ => .bf16 | _ => .f32

/-- The region's buffer, whole. -/
@[reducible] def Rg.mref : (r : Rg) → Memref sig .tc .vmem r.shape r.elt
  | .x => Memref.whole cc0_stg0_0 | .wq => Memref.whole cc0_stg1_0 | .k => Memref.whole cc0_stg2_0
  | .v => Memref.whole cc0_stg3_0 | .wo => Memref.whole cc0_stg4_0 | .out => Memref.whole cc0_stg5_0
  | .p0 _ _ => Memref.whole cc0_scratch0 | .d0 => Memref.whole cc0_scratch1 | .ed => Memref.whole cc0_scratch2
  | .gl _ => Memref.whole cc0_scratch3 | .acc => Memref.whole cc0_scratch4 | .lt => Memref.whole cc0_scratch5
  | .md => Memref.whole cc0_scratch6

/-- The elements of the buffer that are the region's. -/
@[reducible] def Rg.set : (r : Rg) → Finset r.shape.Idx
  | .p0 h r => Finset.univ.filter fun i : S8x2x512x128.Idx => (i 0).val = h.val ∧ (i 1).val = r.val
  | .gl r => Finset.univ.filter fun i : S3x9x32x128.Idx => (i 0).val = r.val
  | _ => Finset.univ

/-- Contents of the region's buffer. -/
abbrev Con (F : FTy → Type) (r : Rg) : Type := r.shape.Idx → Elt F r.elt

/-- A device's state: contents for every region. -/
abbrev St (F : FTy → Type) : Type := (r : Rg) → Con F r

/-! ## Blocks -/

/-- A stretch of loads and stores with arithmetic between them. -/
inductive Blk (F : FTy → Type) : Type
  | done
  | ld (r : Rg) (off size : Fin r.shape.rank → ℕ) (inb : ∀ a, off a + size a ≤ r.shape.size a)
      (hp : 0 < (Rect.unit off size inb).shape.numel) (k : ((Rect.unit off size inb).shape.Idx → Elt F r.elt) → Blk F)
  | st (r : Rg) (off size : Fin r.shape.rank → ℕ) (inb : ∀ a, off a + size a ≤ r.shape.size a)
      (w : (Rect.unit off size inb).shape.Idx → Elt F r.elt)
      (hs : (r.mref.access (Rect.unit off size inb)).Stores Finset.univ) (k : Blk F)

namespace Blk

/-- The program a block followed by `K` stands for. -/
def prog : Blk F → Prog (TpuEff nD τ sig (Elt F) Λ₀ .tc) PUnit → Prog (TpuEff nD τ sig (Elt F) Λ₀ .tc) PUnit
  | .done, K => K
  | .ld r off size inb hp k, K => .op (.load r.mref (Rect.unit off size inb).toLoadRect (View.loadsAt_vmem hp)) fun v => (k v).prog K
  | .st r off size inb w hs k, K => .op (.store r.mref (Rect.unit off size inb) w Finset.univ hs (.inl rfl)) fun _ => k.prog K

/-- What a block does to the state. -/
def run : Blk F → St F → St F
  | .done, σ => σ
  | .ld r off size inb hp k, σ => (k (VecWindow.window (σ r) off size inb)).run σ
  | .st r off size inb w hs k, σ => k.run (Function.update σ r (VecWindow.put (σ r) off size w))

/-- The block loads from the regions `rd` and stores to the regions `wr`, inside each. -/
def Ok (rd wr : List Rg) : Blk F → Prop
  | .done => True
  | .ld r off size inb hp k => r ∈ rd ∧ (Rect.unit off size inb).set ⊆ r.set ∧ ∀ v, Ok rd wr (k v)
  | .st r off size inb w hs k => r ∈ wr ∧ (Rect.unit off size inb).set ⊆ r.set ∧ Ok rd wr k

end Blk

end Cert.Attn

end
-- ==== Proof.Pieces.lean ====
/-
The kernel's computation, piece by piece: the arithmetic of each piece as a function of the vectors it loads, and the
piece as a block of loads and stores at a symbolic head `h`.
-/
module

public import proofs.«01_k».proof.Proof.Base

@[expose] public section

noncomputable section

namespace Cert.Attn

open Cert.KernelIdeal Cert.KernelIdeal.Gen

open Idealize.ShloMosaic
open Idealize.ShloMosaic.TcCoe
open Idealize.SL.Sem

variable {F : FTy → Type} [FloatOps F] [Named F]

/-! ## Boxes -/

theorem inb2 {s0 s1 o0 o1 t0 t1 : ℕ} (h0 : o0 + t0 ≤ s0) (h1 : o1 + t1 ≤ s1) :
    ∀ a, (![o0, o1] : Fin 2 → ℕ) a + (![t0, t1] : Fin 2 → ℕ) a ≤ (![s0, s1] : Fin 2 → ℕ) a := by
  intro a; fin_cases a <;> assumption
theorem inb3 {s0 s1 s2 o0 o1 o2 t0 t1 t2 : ℕ} (h0 : o0 + t0 ≤ s0) (h1 : o1 + t1 ≤ s1) (h2 : o2 + t2 ≤ s2) :
    ∀ a, (![o0, o1, o2] : Fin 3 → ℕ) a + (![t0, t1, t2] : Fin 3 → ℕ) a ≤ (![s0, s1, s2] : Fin 3 → ℕ) a := by
  intro a; fin_cases a <;> assumption
theorem inb4 {s0 s1 s2 s3 o0 o1 o2 o3 t0 t1 t2 t3 : ℕ} (h0 : o0 + t0 ≤ s0) (h1 : o1 + t1 ≤ s1) (h2 : o2 + t2 ≤ s2) (h3 : o3 + t3 ≤ s3) :
    ∀ a, (![o0, o1, o2, o3] : Fin 4 → ℕ) a + (![t0, t1, t2, t3] : Fin 4 → ℕ) a ≤ (![s0, s1, s2, s3] : Fin 4 → ℕ) a := by
  intro a; fin_cases a <;> assumption

/-! ## Arithmetic -/

section Arith

variable (F)
/-- The named query scale `1 / (√128 · ln 2)`. -/
abbrev qsc : F .f32 := Named.named κ "qscale" 0x3E0293EE#32
/-- The named mask constant. -/
abbrev mk : F .f32 := Named.named κ "mask" 0xCE6E6B28#32
/-- The zero constant. -/
abbrev z0 : F .f32 := Scalar.ofBits .f32 0x00000000#32
variable {F}

/-- The window mask of query block `b`: keys from `ks`, queries from `qs`. -/
def maskB (qs ks : BitVec 32) : FVec F S256x512 .f32 :=
  select (cmpi .sle (absi (subi (addi (iota .tc S256x512 32 [0] iota_S256x512_d0_w32) (broadcast S256x512 qs))
      (addi (iota .tc S256x512 32 [1] iota_S256x512_d1_w32) (broadcast S256x512 ks)))) (broadcast S256x512 128#32))
    (broadcast S256x512 (z0 F)) (broadcast S256x512 (mk F))
/-- The mask of the first query block, with the global keys and the global queries. -/
def mask0 : FVec F S256x512 .f32 :=
  select (ori (ori (cmpi .sle (absi (subi (addi (iota .tc S256x512 32 [0] iota_S256x512_d0_w32) (broadcast S256x512 0#32))
      (addi (iota .tc S256x512 32 [1] iota_S256x512_d1_w32) (broadcast S256x512 0#32)))) (broadcast S256x512 128#32))
      (cmpi .slt (addi (iota .tc S256x512 32 [1] iota_S256x512_d1_w32) (broadcast S256x512 0#32)) (broadcast S256x512 32#32)))
      (cmpi .slt (addi (iota .tc S256x512 32 [0] iota_S256x512_d0_w32) (broadcast S256x512 0#32)) (broadcast S256x512 32#32)))
    (broadcast S256x512 (z0 F)) (broadcast S256x512 (mk F))
/-- The mask of the rows that also see the second device's keys. -/
def maskE : FVec F S128x1024 .f32 :=
  select (cmpi .sle (absi (subi (addi (iota .tc S128x1024 32 [0] iota_S128x1024_d0_w32) (broadcast S128x1024 896#32))
      (addi (iota .tc S128x1024 32 [1] iota_S128x1024_d1_w32) (broadcast S128x1024 1024#32)))) (broadcast S128x1024 128#32))
    (broadcast S128x1024 (z0 F)) (broadcast S128x1024 (mk F))

/-- A head's scaled queries, all rows. -/
def qAll (x : Vec F S1x1024x1024 .f32) (w : Vec F S1024x128 .f32) : FVec F S1024x128 .bf16 :=
  truncf .bf16 (mulf (matmul dot_S1024x1024_S1024x128_S1024x128_1_0_0_1_n_n none (shapeCast S1024x1024 x shapeCasts_S1x1024x1024_S1024x1024)
    (shapeCast S1024x128 w shapeCasts_S1024x128_S1024x128) (constant S1024x128 .f32 0x00000000#32)) (broadcast S1024x128 (qsc F))) bitsLt_bf16_f32
/-- A head's scaled queries, the 32 global rows. -/
def qGlob (x : Vec F S1x32x1024 .f32) (w : Vec F S1024x128 .f32) : FVec F S32x128 .bf16 :=
  truncf .bf16 (mulf (matmul dot_S32x1024_S1024x128_S32x128_1_0_0_1_n_n none (shapeCast S32x1024 x shapeCasts_S1x32x1024_S32x1024)
    (shapeCast S1024x128 w shapeCasts_S1024x128_S1024x128) (constant S32x128 .f32 0x00000000#32)) (broadcast S32x128 (qsc F))) bitsLt_bf16_f32
/-- A head's scaled queries, the last 128 rows. -/
def qEdge (x : Vec F S1x128x1024 .f32) (w : Vec F S1024x128 .f32) : FVec F S128x128 .bf16 :=
  truncf .bf16 (mulf (matmul dot_S128x1024_S1024x128_S128x128_1_0_0_1_n_n none (shapeCast S128x1024 x shapeCasts_S1x128x1024_S128x1024)
    (shapeCast S1024x128 w shapeCasts_S1024x128_S1024x128) (constant S128x128 .f32 0x00000000#32)) (broadcast S128x128 (qsc F))) bitsLt_bf16_f32

/-- The 512 keys or values of a head a load brings, as a matrix. -/
abbrev c512 (k : Vec F S1x512x1x128 .f32) : FVec F S512x128 .f32 := shapeCast S512x128 k shapeCasts_S1x512x1x128_S512x128
abbrev c32 (k : Vec F S1x32x1x128 .f32) : FVec F S32x128 .f32 := shapeCast S32x128 k shapeCasts_S1x32x1x128_S32x128
abbrev c1024 (k : Vec F S1x1024x1x128 .f32) : FVec F S1024x128 .f32 := shapeCast S1024x128 k shapeCasts_S1x1024x1x128_S1024x128

/-- The weights of 256 queries against 512 keys under a mask. -/
def wBlk (q : FVec F S256x128 .bf16) (k : Vec F S1x512x1x128 .f32) (m : Vec F S1x256x512 .f32) : FVec F S256x512 .f32 :=
  exp2 (addf (matmul dot_S256x128_S512x128_S256x512_1_1_0_0_n_n none q (truncf .bf16 (c512 k) bitsLt_bf16_f32) (constant S256x512 .f32 0x00000000#32))
    (shapeCast S256x512 m shapeCasts_S1x256x512_S256x512))
/-- Their row sums. -/
def lBlk (w : FVec F S256x512 .f32) : FVec F S256x1 .f32 :=
  shapeCast S256x1 (multiReduction .add [1] S256 w 0x00000000#32 reduces_S256x512_S256 (.inl rfl) rfl) shapeCasts_S256_S256x1
/-- Their weighted values. -/
def cBlk (w : FVec F S256x512 .f32) (v : Vec F S1x512x1x128 .f32) : FVec F S256x128 .f32 :=
  matmul dot_S256x512_S512x128_S256x128_1_0_0_1_n_n none w (c512 v) (constant S256x128 .f32 0x00000000#32)
/-- The quotient, rounded. -/
def quo (c : FVec F S256x128 .f32) (l : FVec F S256x1 .f32) : FVec F S256x128 .bf16 :=
  truncf .bf16 (divf c (broadcastTo S256x128 l broadcasts_S256x1_S256x128)) bitsLt_bf16_f32

/-- The weights of the 32 global queries against 512 further keys. -/
def w32 (q : FVec F S32x128 .bf16) (k : Vec F S1x512x1x128 .f32) : FVec F S32x512 .f32 :=
  exp2 (matmul dot_S32x128_S512x128_S32x512_1_1_0_0_n_n none q (truncf .bf16 (c512 k) bitsLt_bf16_f32) (constant S32x512 .f32 0x00000000#32))
def c32Add (c : FVec F S256x128 .f32) (w : FVec F S32x512 .f32) (v : Vec F S1x512x1x128 .f32) : FVec F S32x128 .f32 :=
  addf (extractStridedSlice S32x128 ![0, 0] c slices_S256x128_o0_0_S32x128)
    (matmul dot_S32x512_S512x128_S32x128_1_0_0_1_n_n none w (c512 v) (constant S32x128 .f32 0x00000000#32))
def l32Add (l : FVec F S256x1 .f32) (w : FVec F S32x512 .f32) : FVec F S32x1 .f32 :=
  addf (extractStridedSlice S32x1 ![0, 0] l slices_S256x1_o0_0_S32x1)
    (shapeCast S32x1 (multiReduction .add [1] S32 w 0x00000000#32 reduces_S32x512_S32 (.inl rfl) rfl) shapeCasts_S32_S32x1)

/-- The weights of 256 queries against the 32 global keys. -/
def wG (q : FVec F S256x128 .bf16) (k : Vec F S1x32x1x128 .f32) : FVec F S256x32 .f32 :=
  exp2 (matmul dot_S256x128_S32x128_S256x32_1_1_0_0_n_n none q (truncf .bf16 (c32 k) bitsLt_bf16_f32) (constant S256x32 .f32 0x00000000#32))
def lGAdd (l : FVec F S256x1 .f32) (w : FVec F S256x32 .f32) : FVec F S256x1 .f32 :=
  addf l (shapeCast S256x1 (multiReduction .add [1] S256 w 0x00000000#32 reduces_S256x32_S256 (.inl rfl) rfl) shapeCasts_S256_S256x1)
def cGAdd (c : FVec F S256x128 .f32) (w : FVec F S256x32 .f32) (v : Vec F S1x32x1x128 .f32) : FVec F S256x128 .f32 :=
  addf c (matmul dot_S256x32_S32x128_S256x128_1_0_0_1_n_n none w (c32 v) (constant S256x128 .f32 0x00000000#32))

/-- The weights of the 32 global queries against a device's keys. -/
def wGl (q : FVec F S32x128 .bf16) (k : Vec F S1x1024x1x128 .f32) : FVec F S32x1024 .f32 :=
  exp2 (matmul dot_S32x128_S1024x128_S32x1024_1_1_0_0_n_n none q (truncf .bf16 (c1024 k) bitsLt_bf16_f32) (constant S32x1024 .f32 0x00000000#32))
def cGl (w : FVec F S32x1024 .f32) (v : Vec F S1x1024x1x128 .f32) : FVec F S32x128 .bf16 :=
  truncf .bf16 (matmul dot_S32x1024_S1024x128_S32x128_1_0_0_1_n_n none w (c1024 v) (constant S32x128 .f32 0x00000000#32)) bitsLt_bf16_f32
def lGl (w : FVec F S32x1024 .f32) : FVec F S32x1 .bf16 :=
  truncf .bf16 (shapeCast S32x1 (multiReduction .add [1] S32 w 0x00000000#32 reduces_S32x1024_S32 (.inl rfl) rfl) shapeCasts_S32_S32x1) bitsLt_bf16_f32

/-- The weights of the last 128 queries against the second device's keys. -/
def wEd (q : FVec F S128x128 .bf16) (k : Vec F S1x1024x1x128 .f32) : FVec F S128x1024 .f32 :=
  exp2 (addf (matmul dot_S128x128_S1024x128_S128x1024_1_1_0_0_n_n none q (truncf .bf16 (c1024 k) bitsLt_bf16_f32) (constant S128x1024 .f32 0x00000000#32)) maskE)
def cEd (w : FVec F S128x1024 .f32) (v : Vec F S1x1024x1x128 .f32) : FVec F S128x128 .bf16 :=
  truncf .bf16 (matmul dot_S128x1024_S1024x128_S128x128_1_0_0_1_n_n none w (c1024 v) (constant S128x128 .f32 0x00000000#32)) bitsLt_bf16_f32
def lEd (w : FVec F S128x1024 .f32) : FVec F S128x1 .bf16 :=
  truncf .bf16 (shapeCast S128x1 (multiReduction .add [1] S128 w 0x00000000#32 reduces_S128x1024_S128 (.inl rfl) rfl) shapeCasts_S128_S128x1) bitsLt_bf16_f32

/-- One head's share of the output projection, rows 32 to 511. -/
def woA (o : Vec F S1x480x1024 .f32) (p : Vec F S1x1x480x128 .bf16) (w : Vec F S128x1024 .f32) : Vec F S1x480x1024 .f32 :=
  shapeCast S1x480x1024 (addf (shapeCast S480x1024 o shapeCasts_S1x480x1024_S480x1024)
    (matmul dot_S480x128_S128x1024_S480x1024_1_0_0_1_n_n none (extf .f32 (shapeCast S480x128 p shapeCasts_S1x1x480x128_S480x128) bitsLt_bf16_f32)
      (shapeCast S128x1024 w shapeCasts_S128x1024_S128x1024) (constant S480x1024 .f32 0x00000000#32))) shapeCasts_S480x1024_S1x480x1024
/-- One head's share of the output projection, rows 512 to 895. -/
def woB (o : Vec F S1x384x1024 .f32) (p : Vec F S1x1x384x128 .bf16) (w : Vec F S128x1024 .f32) : Vec F S1x384x1024 .f32 :=
  shapeCast S1x384x1024 (addf (shapeCast S384x1024 o shapeCasts_S1x384x1024_S384x1024)
    (matmul dot_S384x128_S128x1024_S384x1024_1_0_0_1_n_n none (extf .f32 (shapeCast S384x128 p shapeCasts_S1x1x384x128_S384x128) bitsLt_bf16_f32)
      (shapeCast S128x1024 w shapeCasts_S128x1024_S128x1024) (constant S384x1024 .f32 0x00000000#32))) shapeCasts_S384x1024_S1x384x1024

abbrev e32 (p : Vec F S1x1x32x128 .bf16) : FVec F S32x128 .f32 := extf .f32 (shapeCast S32x128 p shapeCasts_S1x1x32x128_S32x128) bitsLt_bf16_f32
/-- The global rows' weighted values, summed over the four devices. -/
def accG (p g0 g1 g2 : Vec F S1x1x32x128 .bf16) : Vec F S32x128 .f32 :=
  shapeCast S32x128 (addf (addf (addf (e32 p) (e32 g0)) (e32 g1)) (e32 g2)) shapeCasts_S32x128_S32x128
/-- The last rows' weighted values, summed over the two devices. -/
def accE (p : Vec F S1x1x128x128 .bf16) (e : Vec F S1x128x128 .bf16) : Vec F S128x128 .f32 :=
  shapeCast S128x128 (addf (extf .f32 (shapeCast S128x128 p shapeCasts_S1x1x128x128_S128x128) bitsLt_bf16_f32)
    (extf .f32 (shapeCast S128x128 e shapeCasts_S1x128x128_S128x128) bitsLt_bf16_f32)) shapeCasts_S128x128_S128x128
abbrev e32x8 (g : Vec F S1x1x32x8 .bf16) : FVec F S32x8 .f32 := extf .f32 (shapeCast S32x8 g shapeCasts_S1x1x32x8_S32x8) bitsLt_bf16_f32
def ltG (d : Vec F S32x8 .f32) (g0 g1 g2 : Vec F S1x1x32x8 .bf16) : Vec F S32x8 .f32 :=
  shapeCast S32x8 (addf (addf (addf d (e32x8 g0)) (e32x8 g1)) (e32x8 g2)) shapeCasts_S32x8_S32x8
def ltE (d : Vec F S128x8 .f32) (e : Vec F S1x128x8 .bf16) : Vec F S128x8 .f32 :=
  shapeCast S128x8 (addf d (extf .f32 (shapeCast S128x8 e shapeCasts_S1x128x8_S128x8) bitsLt_bf16_f32)) shapeCasts_S128x8_S128x8
def divG (a : Vec F S32x128 .f32) (l : Vec F S32x1 .f32) : Vec F S32x128 .f32 :=
  shapeCast S32x128 (divf a (broadcastTo S32x128 l broadcasts_S32x1_S32x128)) shapeCasts_S32x128_S32x128
def divE (a : Vec F S128x128 .f32) (l : Vec F S128x1 .f32) : Vec F S128x128 .f32 :=
  shapeCast S128x128 (divf a (broadcastTo S128x128 l broadcasts_S128x1_S128x128)) shapeCasts_S128x128_S128x128
def finG (a : Vec F S32x1024 .f32) (w : Vec F S1024x1024 .f32) : Vec F S1x32x1024 .f32 :=
  shapeCast S1x32x1024 (matmul dot_S32x1024_S1024x1024_S32x1024_1_0_0_1_n_n none a (shapeCast S1024x1024 w shapeCasts_S1024x1024_S1024x1024) (constant S32x1024 .f32 0x00000000#32)) shapeCasts_S32x1024_S1x32x1024
def finE (a : Vec F S128x1024 .f32) (w : Vec F S1024x1024 .f32) : Vec F S1x128x1024 .f32 :=
  shapeCast S1x128x1024 (matmul dot_S128x1024_S1024x1024_S128x1024_1_0_0_1_n_n none a (shapeCast S1024x1024 w shapeCasts_S1024x1024_S1024x1024) (constant S128x1024 .f32 0x00000000#32)) shapeCasts_S128x1024_S1x128x1024

end Arith

/-! ## Loads and stores of the boxes the kernel uses -/

section Boxes

variable (h : Fin 8)

def ldX : (k : Vec F S1x1024x1024 .f32 → Blk F) → Blk F := .ld .x ![0, 0, 0] S1x1024x1024.size inb_S1x1024x1024_S1x1024x1024_0_0_0 h_S1x1024x1024
def ldX32 : (k : Vec F S1x32x1024 .f32 → Blk F) → Blk F := .ld .x ![0, 0, 0] S1x32x1024.size inb_S1x1024x1024_S1x32x1024_0_0_0 h_S1x32x1024
def ldX128 : (k : Vec F S1x128x1024 .f32 → Blk F) → Blk F := .ld .x ![0, 896, 0] S1x128x1024.size inb_S1x1024x1024_S1x128x1024_0_896_0 h_S1x128x1024
def ldWq : (k : Vec F S1024x128 .f32 → Blk F) → Blk F :=
  .ld .wq ![0, 128 * h.val] S1024x128.size (inb2 (by omega) (by omega)) h_S1024x128
def ldWoH : (k : Vec F S128x1024 .f32 → Blk F) → Blk F :=
  .ld .wo ![128 * h.val, 0] S128x1024.size (inb2 (by omega) (by omega)) h_S128x1024
def ldWo : (k : Vec F S1024x1024 .f32 → Blk F) → Blk F :=
  .ld .wo ![0, 0] S1024x1024.size (inb2 (by omega) (by omega)) h_S1024x1024
def ldK512 (o : ℕ) (ho : o + 512 ≤ 1024) : (k : Vec F S1x512x1x128 .f32 → Blk F) → Blk F :=
  .ld .k ![0, o, h.val, 0] S1x512x1x128.size (inb4 (by omega) ho (by omega) (by omega)) h_S1x512x1x128
def ldV512 (o : ℕ) (ho : o + 512 ≤ 1024) : (k : Vec F S1x512x1x128 .f32 → Blk F) → Blk F :=
  .ld .v ![0, o, h.val, 0] S1x512x1x128.size (inb4 (by omega) ho (by omega) (by omega)) h_S1x512x1x128
def ldK32 : (k : Vec F S1x32x1x128 .f32 → Blk F) → Blk F :=
  .ld .k ![0, 0, h.val, 0] S1x32x1x128.size (inb4 (by omega) (by omega) (by omega) (by omega)) h_S1x32x1x128
def ldV32 : (k : Vec F S1x32x1x128 .f32 → Blk F) → Blk F :=
  .ld .v ![0, 0, h.val, 0] S1x32x1x128.size (inb4 (by omega) (by omega) (by omega) (by omega)) h_S1x32x1x128
def ldKA : (k : Vec F S1x1024x1x128 .f32 → Blk F) → Blk F :=
  .ld .k ![0, 0, h.val, 0] S1x1024x1x128.size (inb4 (by omega) (by omega) (by omega) (by omega)) h_S1x1024x1x128
def ldVA : (k : Vec F S1x1024x1x128 .f32 → Blk F) → Blk F :=
  .ld .v ![0, 0, h.val, 0] S1x1024x1x128.size (inb4 (by omega) (by omega) (by omega) (by omega)) h_S1x1024x1x128
def ldMd (b : Fin 4) : (k : Vec F S1x256x512 .f32 → Blk F) → Blk F :=
  .ld .md ![b.val, 0, 0] S1x256x512.size (inb3 (by omega) (by omega) (by omega)) h_S1x256x512
def stMd (b : Fin 4) (w : FVec F S256x512 .f32) (K : Blk F) : Blk F :=
  ldMd b fun _ => .st .md ![b.val, 0, 0] S1x256x512.size (inb3 (by omega) (by omega) (by omega))
    (shapeCast S1x256x512 w shapeCasts_S256x512_S1x256x512) (View.stores_vmem_bits_univ h_S1x256x512 rfl) K

theorem packed_p0_256 (r : Fin 2) (o : Fin 2) : (Rect.unit (s := S8x2x512x128) ![h.val, r.val, 256 * o.val, 0] S1x1x256x128.size
    (inb4 (by omega) (by omega) (by omega) (by omega))).PackedRows (EltTy.packing .bf16) := by
  revert h r o; decide
theorem packed_p0_32 : (Rect.unit (s := S8x2x512x128) ![h.val, 0, 0, 0] S1x1x32x128.size
    (inb4 (by omega) (by omega) (by omega) (by omega))).PackedRows (EltTy.packing .bf16) := by
  revert h; decide
theorem packed_p0_128 : (Rect.unit (s := S8x2x512x128) ![h.val, 1, 384, 0] S1x1x128x128.size
    (inb4 (by omega) (by omega) (by omega) (by omega))).PackedRows (EltTy.packing .bf16) := by
  revert h; decide
theorem packed_gl (r : Fin 3) : (Rect.unit (s := S3x9x32x128) ![r.val, h.val, 0, 0] S1x1x32x128.size
    (inb4 (by omega) (by omega) (by omega) (by omega))).PackedRows (EltTy.packing .bf16) := by
  revert h r; decide
theorem packed_gl8 (r : Fin 3) : (Rect.unit (s := S3x9x32x128) ![r.val, 8, 0, h.val] S1x1x32x1.size
    (inb4 (by omega) (by omega) (by omega) (by omega))).PackedRows (EltTy.packing .bf16) := by
  revert h r; decide
theorem packed_ed : (Rect.unit (s := S9x128x128) ![h.val, 0, 0] S1x128x128.size
    (inb3 (by omega) (by omega) (by omega))).PackedRows (EltTy.packing .bf16) := by
  revert h; decide
theorem packed_ed8 : (Rect.unit (s := S9x128x128) ![8, 0, h.val] S1x128x1.size
    (inb3 (by omega) (by omega) (by omega))).PackedRows (EltTy.packing .bf16) := by
  revert h; decide

def stP256 (r o : Fin 2) (w : FVec F S256x128 .bf16) (K : Blk F) : Blk F :=
  .ld (.p0 h r) ![h.val, r.val, 256 * o.val, 0] S1x1x256x128.size (inb4 (by omega) (by omega) (by omega) (by omega)) h_S1x1x256x128 fun _ =>
  .st (.p0 h r) ![h.val, r.val, 256 * o.val, 0] S1x1x256x128.size (inb4 (by omega) (by omega) (by omega) (by omega))
    (shapeCast S1x1x256x128 w shapeCasts_S256x128_S1x1x256x128)
    (View.stores_vmem h_S1x1x256x128 ((Memref.isWhole_whole cc0_scratch0).storeExact_slice rfl _ (packed_p0_256 h r o)) (fun _ => rfl)) K
def ldP32 : (k : Vec F S1x1x32x128 .bf16 → Blk F) → Blk F :=
  .ld (.p0 h 0) ![h.val, 0, 0, 0] S1x1x32x128.size (inb4 (by omega) (by omega) (by omega) (by omega)) h_S1x1x32x128
def stP32 (w : FVec F S32x128 .bf16) (K : Blk F) : Blk F :=
  ldP32 h fun _ =>
  .st (.p0 h 0) ![h.val, 0, 0, 0] S1x1x32x128.size (inb4 (by omega) (by omega) (by omega) (by omega))
    (shapeCast S1x1x32x128 w shapeCasts_S32x128_S1x1x32x128)
    (View.stores_vmem h_S1x1x32x128 ((Memref.isWhole_whole cc0_scratch0).storeExact_slice rfl _ (packed_p0_32 h)) (fun _ => rfl)) K
def ldP128 : (k : Vec F S1x1x128x128 .bf16 → Blk F) → Blk F :=
  .ld (.p0 h 1) ![h.val, 1, 384, 0] S1x1x128x128.size (inb4 (by omega) (by omega) (by omega) (by omega)) h_S1x1x128x128
def stP128 (w : FVec F S128x128 .bf16) (K : Blk F) : Blk F :=
  ldP128 h fun _ =>
  .st (.p0 h 1) ![h.val, 1, 384, 0] S1x1x128x128.size (inb4 (by omega) (by omega) (by omega) (by omega))
    (shapeCast S1x1x128x128 w shapeCasts_S128x128_S1x1x128x128)
    (View.stores_vmem h_S1x1x128x128 ((Memref.isWhole_whole cc0_scratch0).storeExact_slice rfl _ (packed_p0_128 h)) (fun _ => rfl)) K
def stD32 (w : FVec F S32x1 .f32) (K : Blk F) : Blk F :=
  .ld .d0 ![0, h.val] S32x1.size (inb2 (by omega) (by omega)) h_S32x1 fun _ =>
  .st .d0 ![0, h.val] S32x1.size (inb2 (by omega) (by omega)) (shapeCast S32x1 w shapeCasts_S32x1_S32x1) (View.stores_vmem_bits_univ h_S32x1 rfl) K
def stD128 (w : FVec F S128x1 .f32) (K : Blk F) : Blk F :=
  .ld .d0 ![32, h.val] S128x1.size (inb2 (by omega) (by omega)) h_S128x1 fun _ =>
  .st .d0 ![32, h.val] S128x1.size (inb2 (by omega) (by omega)) (shapeCast S128x1 w shapeCasts_S128x1_S128x1) (View.stores_vmem_bits_univ h_S128x1 rfl) K
def ldGl (r : Fin 3) : (k : Vec F S1x1x32x128 .bf16 → Blk F) → Blk F :=
  .ld (.gl r) ![r.val, h.val, 0, 0] S1x1x32x128.size (inb4 (by omega) (by omega) (by omega) (by omega)) h_S1x1x32x128
def stGl (r : Fin 3) (w : FVec F S32x128 .bf16) (K : Blk F) : Blk F :=
  ldGl h r fun _ =>
  .st (.gl r) ![r.val, h.val, 0, 0] S1x1x32x128.size (inb4 (by omega) (by omega) (by omega) (by omega))
    (shapeCast S1x1x32x128 w shapeCasts_S32x128_S1x1x32x128)
    (View.stores_vmem h_S1x1x32x128 ((Memref.isWhole_whole cc0_scratch3).storeExact_slice rfl _ (packed_gl h r)) (fun _ => rfl)) K
def stGl8 (r : Fin 3) (w : FVec F S32x1 .bf16) (K : Blk F) : Blk F :=
  .ld (.gl r) ![r.val, 8, 0, h.val] S1x1x32x1.size (inb4 (by omega) (by omega) (by omega) (by omega)) h_S1x1x32x1 fun _ =>
  .st (.gl r) ![r.val, 8, 0, h.val] S1x1x32x1.size (inb4 (by omega) (by omega) (by omega) (by omega))
    (shapeCast S1x1x32x1 w shapeCasts_S32x1_S1x1x32x1)
    (View.stores_vmem h_S1x1x32x1 ((Memref.isWhole_whole cc0_scratch3).storeExact_slice rfl _ (packed_gl8 h r)) (fun _ => rfl)) K
def ldGl8 (r : Fin 3) : (k : Vec F S1x1x32x8 .bf16 → Blk F) → Blk F :=
  .ld (.gl r) ![r.val, 8, 0, 0] S1x1x32x8.size (inb4 (by omega) (by omega) (by omega) (by omega)) h_S1x1x32x8
def ldEd : (k : Vec F S1x128x128 .bf16 → Blk F) → Blk F :=
  .ld .ed ![h.val, 0, 0] S1x128x128.size (inb3 (by omega) (by omega) (by omega)) h_S1x128x128
def stEd (w : FVec F S128x128 .bf16) (K : Blk F) : Blk F :=
  ldEd h fun _ =>
  .st .ed ![h.val, 0, 0] S1x128x128.size (inb3 (by omega) (by omega) (by omega))
    (shapeCast S1x128x128 w shapeCasts_S128x128_S1x128x128)
    (View.stores_vmem h_S1x128x128 ((Memref.isWhole_whole cc0_scratch2).storeExact_slice rfl _ (packed_ed h)) (fun _ => rfl)) K
def stEd8 (w : FVec F S128x1 .bf16) (K : Blk F) : Blk F :=
  .ld .ed ![8, 0, h.val] S1x128x1.size (inb3 (by omega) (by omega) (by omega)) h_S1x128x1 fun _ =>
  .st .ed ![8, 0, h.val] S1x128x1.size (inb3 (by omega) (by omega) (by omega))
    (shapeCast S1x128x1 w shapeCasts_S128x1_S1x128x1)
    (View.stores_vmem h_S1x128x1 ((Memref.isWhole_whole cc0_scratch2).storeExact_slice rfl _ (packed_ed8 h)) (fun _ => rfl)) K
def ldEd8 : (k : Vec F S1x128x8 .bf16 → Blk F) → Blk F :=
  .ld .ed ![8, 0, 0] S1x128x8.size (inb3 (by omega) (by omega) (by omega)) h_S1x128x8
def ldPA : (k : Vec F S1x1x480x128 .bf16 → Blk F) → Blk F :=
  .ld (.p0 h 0) ![h.val, 0, 32, 0] S1x1x480x128.size (inb4 (by omega) (by omega) (by omega) (by omega)) h_S1x1x480x128
def ldPB : (k : Vec F S1x1x384x128 .bf16 → Blk F) → Blk F :=
  .ld (.p0 h 1) ![h.val, 1, 0, 0] S1x1x384x128.size (inb4 (by omega) (by omega) (by omega) (by omega)) h_S1x1x384x128
def ldOA : (k : Vec F S1x480x1024 .f32 → Blk F) → Blk F := .ld .out ![0, 32, 0] S1x480x1024.size (inb3 (by omega) (by omega) (by omega)) h_S1x480x1024
def ldOB : (k : Vec F S1x384x1024 .f32 → Blk F) → Blk F := .ld .out ![0, 512, 0] S1x384x1024.size (inb3 (by omega) (by omega) (by omega)) h_S1x384x1024
def stOA (w : Vec F S1x480x1024 .f32) (K : Blk F) : Blk F :=
  ldOA fun _ => .st .out ![0, 32, 0] S1x480x1024.size (inb3 (by omega) (by omega) (by omega)) w (View.stores_vmem_bits_univ h_S1x480x1024 rfl) K
def stOB (w : Vec F S1x384x1024 .f32) (K : Blk F) : Blk F :=
  ldOB fun _ => .st .out ![0, 512, 0] S1x384x1024.size (inb3 (by omega) (by omega) (by omega)) w (View.stores_vmem_bits_univ h_S1x384x1024 rfl) K
def ldA32 : (k : Vec F S32x128 .f32 → Blk F) → Blk F := .ld .acc ![0, 128 * h.val] S32x128.size (inb2 (by omega) (by omega)) h_S32x128
def ldA128 : (k : Vec F S128x128 .f32 → Blk F) → Blk F := .ld .acc ![32, 128 * h.val] S128x128.size (inb2 (by omega) (by omega)) h_S128x128
def stA32 (w : Vec F S32x128 .f32) (K : Blk F) : Blk F :=
  ldA32 h fun _ => .st .acc ![0, 128 * h.val] S32x128.size (inb2 (by omega) (by omega)) w (View.stores_vmem_bits_univ h_S32x128 rfl) K
def stA128 (w : Vec F S128x128 .f32) (K : Blk F) : Blk F :=
  ldA128 h fun _ => .st .acc ![32, 128 * h.val] S128x128.size (inb2 (by omega) (by omega)) w (View.stores_vmem_bits_univ h_S128x128 rfl) K

end Boxes

/-! ## The pieces -/

section Pieces

variable (h : Fin 8)

variable (F) in
/-- The four masks, stored. -/
def maddInit : Blk F :=
  stMd 0 mask0 <| stMd 1 (maskB 256#32 128#32) <| stMd 2 (maskB 512#32 384#32) <| stMd 3 (maskB 768#32 512#32) .done

/-- Queries 0 to 255 of head `h` against the first device's keys. -/
def head0 (q : FVec F S1024x128 .bf16) (K : Blk F) : Blk F :=
  ldK512 h 0 (by omega) fun k => ldMd 0 fun m => ldV512 h 0 (by omega) fun v =>
  let w := wBlk (extractStridedSlice S256x128 ![0, 0] q slices_S1024x128_o0_0_S256x128) k m
  stP256 h 0 0 (quo (cBlk w v) (lBlk w)) <|
  ldK512 h 512 (by omega) fun k2 => ldV512 h 512 (by omega) fun v2 =>
  let w2 := w32 (extractStridedSlice S32x128 ![0, 0] q slices_S1024x128_o0_0_S32x128) k2
  stP32 h (truncf .bf16 (c32Add (cBlk w v) w2 v2) bitsLt_bf16_f32) <| stD32 h (l32Add (lBlk w) w2) K
/-- Queries `256 b` to `256 b + 255`, against keys `o` to `o + 511` and the global keys. -/
def headB (qb : FVec F S256x128 .bf16) (b : Fin 4) (o : ℕ) (ho : o + 512 ≤ 1024) (r s : Fin 2)
    (K : FVec F S256x128 .f32 → FVec F S256x1 .f32 → Blk F) : Blk F :=
  ldK512 h o ho fun k => ldMd b fun m => ldV512 h o ho fun v => ldK32 h fun kg => ldV32 h fun vg =>
  let w := wBlk qb k m
  let wg := wG qb kg
  let c := cGAdd (cBlk w v) wg vg
  let l := lGAdd (lBlk w) wg
  stP256 h r s (quo c l) (K c l)

/-- The first device's partial results of head `h`. -/
def dev0Head : Blk F :=
  ldX fun x => ldWq h fun wq =>
  let q := qAll x wq
  head0 h q <|
  headB h (extractStridedSlice S256x128 ![256, 0] q slices_S1024x128_o256_0_S256x128) 1 128 (by omega) 0 1 fun _ _ =>
  headB h (extractStridedSlice S256x128 ![512, 0] q slices_S1024x128_o512_0_S256x128) 2 384 (by omega) 1 0 fun _ _ =>
  headB h (extractStridedSlice S256x128 ![768, 0] q slices_S1024x128_o768_0_S256x128) 3 512 (by omega) 1 1 fun c l =>
  stP128 h (truncf .bf16 (extractStridedSlice S128x128 ![128, 0] c slices_S256x128_o128_0_S128x128) bitsLt_bf16_f32) <|
  stD128 h (extractStridedSlice S128x1 ![128, 0] l slices_S256x1_o128_0_S128x1) .done

/-- The global queries against the keys of the device after, its weighted values and weights' sums. -/
def globBody (r : Fin 3) (k v : Vec F S1x1024x1x128 .f32) (K : Blk F) : Blk F :=
  ldX32 fun x => ldWq h fun wq =>
  let w := wGl (qGlob x wq) k
  stGl h r (cGl w v) <| stGl8 h r (lGl w) K
/-- The third and fourth devices' partial results of head `h`. -/
def globHead (r : Fin 3) : Blk F := ldKA h fun k => ldVA h fun v => globBody h r k v .done
/-- The second device's partial results of head `h`. -/
def dev1Head : Blk F :=
  ldKA h fun k => ldVA h fun v => ldKA h fun k' => ldVA h fun v' => globBody h 0 k' v' <|
  ldX128 fun x => ldWq h fun wq =>
  let w := wEd (qEdge x wq) k
  stEd h (cEd w v) <| stEd8 h (lEd w) .done

variable (F) in
/-- The rows whose projection is summed head by head, zeroed. -/
def zeroMid : Blk F :=
  .ld .out ![0, 32, 0] S1x864x1024.size (inb3 (by omega) (by omega) (by omega)) h_S1x864x1024 fun _ =>
  .st .out ![0, 32, 0] S1x864x1024.size (inb3 (by omega) (by omega) (by omega))
    (shapeCast S1x864x1024 (broadcast S864x1024 (z0 F)) shapeCasts_S864x1024_S1x864x1024) (View.stores_vmem_bits_univ h_S1x864x1024 rfl) .done
/-- Head `h`'s share of the projection, added. -/
def woAcc : Blk F :=
  ldOA fun o => ldPA h fun p => ldWoH h fun w => stOA (woA o p w) <|
  ldOB fun o => ldPB h fun p => ldWoH h fun w => stOB (woB o p w) .done
/-- The rows whose weighted values come from several devices, summed. -/
def accStore : Blk F :=
  ldP32 h fun p => ldGl h 0 fun g0 => ldGl h 1 fun g1 => ldGl h 2 fun g2 => stA32 h (accG p g0 g1 g2) <|
  ldP128 h fun p => ldEd h fun e => stA128 h (accE p e) .done
variable (F) in
/-- Their weights' sums, summed. -/
def ltStores : Blk F :=
  .ld .d0 ![0, 0] S32x8.size (inb2 (by omega) (by omega)) h_S32x8 fun d => ldGl8 0 fun g0 => ldGl8 1 fun g1 => ldGl8 2 fun g2 =>
  .ld .lt ![0, 0] S32x8.size (inb2 (by omega) (by omega)) h_S32x8 fun _ =>
  .st .lt ![0, 0] S32x8.size (inb2 (by omega) (by omega)) (ltG d g0 g1 g2) (View.stores_vmem_bits_univ h_S32x8 rfl) <|
  .ld .d0 ![32, 0] S128x8.size (inb2 (by omega) (by omega)) h_S128x8 fun d => ldEd8 fun e =>
  .ld .lt ![32, 0] S128x8.size (inb2 (by omega) (by omega)) h_S128x8 fun _ =>
  .st .lt ![32, 0] S128x8.size (inb2 (by omega) (by omega)) (ltE d e) (View.stores_vmem_bits_univ h_S128x8 rfl) .done
/-- Head `h` of those rows, divided. -/
def divStore : Blk F :=
  ldA32 h fun a => .ld .lt ![0, h.val] S32x1.size (inb2 (by omega) (by omega)) h_S32x1 fun l => stA32 h (divG a l) <|
  ldA128 h fun a => .ld .lt ![32, h.val] S128x1.size (inb2 (by omega) (by omega)) h_S128x1 fun l => stA128 h (divE a l) .done
variable (F) in
/-- Their projection. -/
def finalB : Blk F :=
  .ld .acc ![0, 0] S32x1024.size (inb2 (by omega) (by omega)) h_S32x1024 fun a => ldWo fun w =>
  .ld .out ![0, 0, 0] S1x32x1024.size (inb3 (by omega) (by omega) (by omega)) h_S1x32x1024 fun _ =>
  .st .out ![0, 0, 0] S1x32x1024.size (inb3 (by omega) (by omega) (by omega)) (finG a w) (View.stores_vmem_bits_univ h_S1x32x1024 rfl) <|
  .ld .acc ![32, 0] S128x1024.size (inb2 (by omega) (by omega)) h_S128x1024 fun a => ldWo fun w =>
  .ld .out ![0, 896, 0] S1x128x1024.size (inb3 (by omega) (by omega) (by omega)) h_S1x128x1024 fun _ =>
  .st .out ![0, 896, 0] S1x128x1024.size (inb3 (by omega) (by omega) (by omega)) (finE a w) (View.stores_vmem_bits_univ h_S1x128x1024 rfl) .done

end Pieces

end Cert.Attn

end
-- ==== Proof.Msg.lean ====
/-
The kernel's transfers, and each device's run as a list of actions.

A transfer is named by `Msg`: `p0 j h`, head `h`'s partial results from device 0 to device 1 (`j = 0`) or 3 (`j = 1`);
`d0 j`, device 0's sums to its three peers; `ed j`, device 1's last-row partial results to its three peers; `gl r j`,
the global rows' partial results of device `r + 1` to its three peers; `fw r h`, half `r` of head `h` passed on to
device 2 by device 1 (`r = 0`) or 3 (`r = 1`). A device's run after the barrier is a list of `Act`s: plain computation,
a send, a wait for a receipt, a wait for a send's completion, and (no instruction at all) the return of what a
completed send had lent out.
-/
module

public import proofs.«01_k».proof.Proof.Pieces

@[expose] public section

noncomputable section

namespace Cert.Attn

open Cert.KernelIdeal Cert.KernelIdeal.Gen

open Idealize.ShloMosaic
open Idealize.ShloMosaic.TcCoe
open Idealize.SL.Sem

variable {F : FTy → Type} [FloatOps F] [Named F]

/-- The transfers. -/
inductive Msg
  | p0 (j : Fin 2) (h : Fin 8)
  | d0 (j : Fin 3)
  | ed (j : Fin 3)
  | gl (r j : Fin 3)
  | fw (r : Fin 2) (h : Fin 8)
deriving DecidableEq

namespace Msg

/-- The transfers, as a sum. -/
def equiv : (Fin 2 × Fin 8) ⊕ (Fin 3 ⊕ (Fin 3 ⊕ ((Fin 3 × Fin 3) ⊕ (Fin 2 × Fin 8)))) ≃ Msg where
  toFun
    | .inl p => .p0 p.1 p.2 | .inr (.inl j) => .d0 j | .inr (.inr (.inl j)) => .ed j
    | .inr (.inr (.inr (.inl p))) => .gl p.1 p.2 | .inr (.inr (.inr (.inr p))) => .fw p.1 p.2
  invFun
    | .p0 j h => .inl (j, h) | .d0 j => .inr (.inl j) | .ed j => .inr (.inr (.inl j))
    | .gl r j => .inr (.inr (.inr (.inl (r, j)))) | .fw r h => .inr (.inr (.inr (.inr (r, h))))
  left_inv := by rintro (_ | _ | _ | _ | _) <;> rfl
  right_inv := by rintro (_ | _ | _ | _ | _) <;> rfl

instance : Fintype Msg := Fintype.ofEquiv _ equiv

/-- The sending device. -/
def src : Msg → Dev nD
  | .p0 _ _ => 0 | .d0 _ => 0 | .ed _ => 1 | .gl r _ => ⟨r.val + 1, by have := r.isLt; show r.val + 1 < 4; omega⟩
  | .fw r _ => if r = 0 then 1 else 3
/-- The receiving device. -/
def dst : Msg → Dev nD
  | .p0 j _ => if j = 0 then 1 else 3
  | .d0 j => ⟨j.val + 1, by have := j.isLt; show j.val + 1 < 4; omega⟩
  | .ed j => (![0, 2, 3] : Fin 3 → Dev nD) j
  | .gl r j => (![![0, 2, 3], ![0, 1, 3], ![0, 1, 2]] : Fin 3 → Fin 3 → Dev nD) r j
  | .fw _ _ => 2

@[reducible] def shape : Msg → Shape
  | .p0 _ _ => S2x512x128 | .d0 _ => S160x8 | .ed _ => S9x128x128 | .gl _ _ => S9x32x128 | .fw _ _ => S512x128
@[reducible] def elt : Msg → EltTy
  | .d0 _ => .f32 | _ => .bf16

/-- What is transferred, as a view of the sender's and of the receiver's buffer. -/
@[reducible] def mv : (x : Msg) → Memref sig .tc .vmem x.shape x.elt
  | .p0 _ h => ((Memref.whole cc0_scratch0).slice (Rect.unit (s := S8x2x512x128) ![h.val, 0, 0, 0] S1x2x512x128.size
      (inb4 (by omega) (by omega) (by omega) (by omega))) (fun _ => rfl)).squeeze S2x512x128 squeezes_S1x2x512x128_S2x512x128
  | .d0 _ => Memref.whole cc0_scratch1
  | .ed _ => Memref.whole cc0_scratch2
  | .gl r _ => ((Memref.whole cc0_scratch3).slice (Rect.unit (s := S3x9x32x128) ![r.val, 0, 0, 0] S1x9x32x128.size
      (inb4 (by omega) (by omega) (by omega) (by omega))) (fun _ => rfl)).squeeze S9x32x128 squeezes_S1x9x32x128_S9x32x128
  | .fw r h => ((Memref.whole cc0_scratch0).slice (Rect.unit (s := S8x2x512x128) ![h.val, r.val, 0, 0] S1x1x512x128.size
      (inb4 (by omega) (by omega) (by omega) (by omega))) (fun _ => rfl)).squeeze S512x128 squeezes_S1x1x512x128_S512x128

theorem words_p0 (h : Fin 8) : (Rect.unit (s := S8x2x512x128) ![h.val, 0, 0, 0] S1x2x512x128.size
    (inb4 (by omega) (by omega) (by omega) (by omega))).WholeWords (EltTy.packing .bf16) := by revert h; decide
theorem words_fw (r : Fin 2) (h : Fin 8) : (Rect.unit (s := S8x2x512x128) ![h.val, r.val, 0, 0] S1x1x512x128.size
    (inb4 (by omega) (by omega) (by omega) (by omega))).WholeWords (EltTy.packing .bf16) := by revert r h; decide
theorem words_gl (r : Fin 3) : (Rect.unit (s := S3x9x32x128) ![r.val, 0, 0, 0] S1x9x32x128.size
    (inb4 (by omega) (by omega) (by omega) (by omega))).WholeWords (EltTy.packing .bf16) := by revert r; decide

theorem wx : (x : Msg) → x.mv.view.WordExact
  | .p0 _ h => ((Memref.isWhole_whole cc0_scratch0).wordExact_slice rfl _ (words_p0 h)).reshape _ _
  | .d0 _ => (Memref.isWhole_whole cc0_scratch1).wordExact
  | .ed _ => (Memref.isWhole_whole cc0_scratch2).wordExact
  | .gl r _ => ((Memref.isWhole_whole cc0_scratch3).wordExact_slice rfl _ (words_gl r)).reshape _ _
  | .fw r h => ((Memref.isWhole_whole cc0_scratch0).wordExact_slice rfl _ (words_fw r h)).reshape _ _

/-- A cell of one of the two-row semaphore arrays. -/
abbrev cell2x8 (A : DmaSems sig S2x8) (j : Fin 2) (h : Fin 8) : DmaSem sig :=
  ((A.slice (Rect.unit (s := S2x8) ![j.val, h.val] S1x1.size (inb2 (by omega) (by omega)))).squeeze S_ squeezes_S1x1_S_).sem
/-- A cell of the small send array. -/
abbrev cell9 (j : Fin 9) : DmaSem sig :=
  (((cc0_scratch9 : DmaSems sig S9).slice (Rect.unit (s := S9) ![j.val] S1.size (by intro a; fin_cases a; exact j.isLt))).squeeze S_ squeezes_S1_S_).sem
/-- A cell of the small receive array. -/
abbrev cell5 (j : Fin 5) : DmaSem sig :=
  (((cc0_scratch10 : DmaSems sig S5).slice (Rect.unit (s := S5) ![j.val] S1.size (by intro a; fin_cases a; exact j.isLt))).squeeze S_ squeezes_S1_S_).sem

/-- The semaphore the sender waits on. -/
def ssem : Msg → DmaSem sig
  | .p0 j h => cell2x8 cc0_scratch7 j h
  | .d0 j => cell9 ⟨6 + j.val, by omega⟩
  | .ed j => cell9 ⟨j.val, by omega⟩
  | .gl r j => cell9 (if r = 0 then ⟨3 + j.val, by omega⟩ else ⟨j.val, by omega⟩)
  | .fw _ h => cell2x8 cc0_scratch7 0 h
/-- The semaphore the receiver waits on. -/
def rsem : Msg → DmaSem sig
  | .p0 _ h => cell2x8 cc0_scratch8 0 h
  | .d0 _ => cell5 0
  | .ed _ => cell5 1
  | .gl r _ => cell5 ⟨2 + r.val, by omega⟩
  | .fw r h => cell2x8 cc0_scratch8 r h

theorem hsc : (x : Msg) → x.mv.view.ref.isScScratch = false
  | .p0 _ _ => rfl | .d0 _ => rfl | .ed _ => rfl | .gl _ _ => rfl | .fw _ _ => rfl

/-- The regions the transfer moves. -/
def regs : Msg → Finset Rg
  | .p0 _ h => {.p0 h 0, .p0 h 1} | .d0 _ => {.d0} | .ed _ => {.ed} | .gl r _ => {.gl r} | .fw r h => {.p0 h r}
/-- Which of the pieces lent of its regions the transfer reads through. -/
def sh : Msg → ℕ
  | .p0 j _ => j.val | .d0 j => j.val | .ed j => j.val | .gl _ j => j.val | .fw _ _ => 0
/-- The height of the wait for its receipt: what is forwarded waits for what it is made of. -/
def lvl : Msg → ℕ
  | .p0 _ _ => 2 | _ => 3

end Msg

/-! ## Actions -/

inductive Act (F : FTy → Type) : Type
  | blk (B : Blk F) (rd wr : List Rg)
  | send (x : Msg)
  | recv (x : Msg)
  | wsend (x : Msg)
  | merge (x : Msg)

/-- The program a list of actions stands for. -/
def Act.prog : List (Act F) → Prog (TpuEff nD τ sig (Elt F) Λ₀ .tc) PUnit
  | [] => .ret ⟨⟩
  | .blk B _ _ :: l => B.prog (Act.prog l)
  | .send x :: l => .op (.enqueueDma x.mv (.remote (Dev.tc x.dst) x.mv (.dma x.ssem) x.hsc) (.dma x.rsem) x.wx x.wx ⟨⟨rfl, Or.inl rfl⟩, trivial⟩) fun _ => Act.prog l
  | .recv x :: l => .op (.waitDma2 x.rsem x.mv x.mv x.wx x.wx) fun _ => Act.prog l
  | .wsend x :: l => .op (.waitDma2 x.ssem x.mv x.mv x.wx x.wx) fun _ => Act.prog l
  | .merge _ :: l => Act.prog l

/-- The heads, in order. -/
abbrev heads : List (Fin 8) := [0, 1, 2, 3, 4, 5, 6, 7]
abbrev three : List (Fin 3) := [0, 1, 2]

section Lists

variable (F)

def aHead (h : Fin 8) : Act F := .blk (dev0Head h) [.x, .wq, .k, .v, .md, .p0 h 0, .p0 h 1, .d0] [.p0 h 0, .p0 h 1, .d0]
def aWo (h : Fin 8) : Act F := .blk (woAcc h) [.out, .wo, .p0 h 0, .p0 h 1] [.out]
def aZero : Act F := .blk (zeroMid F) [.out] [.out]
def aGl (r : Fin 3) (h : Fin 8) : Act F := .blk (globHead h r) [.x, .wq, .k, .v, .gl r] [.gl r]

/-- Device 0, up to the common tail. -/
def main0 : List (Act F) :=
  .blk (maddInit F) [.md] [.md] :: (heads.flatMap fun h => [aHead F h, .send (.p0 0 h), .send (.p0 1 h)])
    ++ three.map (fun j => .send (.d0 j)) ++ [aZero F] ++ heads.map (aWo F)
    ++ [.recv (.ed 0), .recv (.gl 0 0), .recv (.gl 1 0), .recv (.gl 2 0)]
/-- Device 1. -/
def main1 : List (Act F) :=
  heads.map (fun h => .blk (dev1Head h) [.x, .wq, .k, .v, .gl 0, .ed] [.gl 0, .ed])
    ++ three.map (fun j => .send (.ed j)) ++ three.map (fun j => .send (.gl 0 j)) ++ [aZero F]
    ++ (heads.flatMap fun h => [.recv (.p0 0 h), .send (.fw 0 h), aWo F h])
    ++ [.recv (.d0 0), .recv (.gl 1 1), .recv (.gl 2 1)]
/-- Device 2. -/
def main2 : List (Act F) :=
  heads.map (aGl F 1) ++ three.map (fun j => .send (.gl 1 j)) ++ [aZero F]
    ++ (heads.flatMap fun h => [.recv (.fw 0 h), .recv (.fw 1 h), aWo F h])
    ++ [.recv (.d0 1), .recv (.ed 1), .recv (.gl 0 1), .recv (.gl 2 2)]
/-- Device 3. -/
def main3 : List (Act F) :=
  heads.map (aGl F 2) ++ three.map (fun j => .send (.gl 2 j)) ++ [aZero F]
    ++ (heads.flatMap fun h => [.recv (.p0 1 h), .send (.fw 1 h), aWo F h])
    ++ [.recv (.d0 2), .recv (.ed 2), .recv (.gl 0 2), .recv (.gl 1 2)]
/-- The tail every device runs. -/
def tailA : List (Act F) :=
  heads.map (fun h => .blk (accStore h) [.p0 h 0, .p0 h 1, .gl 0, .gl 1, .gl 2, .ed, .acc] [.acc])
    ++ [.blk (ltStores F) [.d0, .gl 0, .gl 1, .gl 2, .ed, .lt] [.lt]]
    ++ heads.map (fun h => .blk (divStore h) [.acc, .lt] [.acc]) ++ [.blk (finalB F) [.acc, .wo, .out] [.out]]
/-- The waits for the sends. -/
def ws0 : List (Act F) := (heads.flatMap fun h => [.wsend (.p0 0 h), .wsend (.p0 1 h)]) ++ three.map (fun j => .wsend (.d0 j))
def ws1 : List (Act F) := heads.map (fun h => .wsend (.fw 0 h)) ++ three.flatMap (fun j => [.wsend (.ed j), .wsend (.gl 0 j)])
def ws2 : List (Act F) := three.map (fun j => .wsend (.gl 1 j))
def ws3 : List (Act F) := heads.map (fun h => .wsend (.fw 1 h)) ++ three.map (fun j => .wsend (.gl 2 j))

end Lists

end Cert.Attn

end
-- ==== Proof.Roll.lean ====
/-
Each device's run of the kernel body, as the list of its actions.
-/
module

public import proofs.«01_k».proof.Proof.Msg

@[expose] public section

noncomputable section

namespace Cert.Attn

open Cert.KernelIdeal Cert.KernelIdeal.Gen

open Idealize.ShloMosaic
open Idealize.ShloMosaic.TcCoe
open Idealize.SL.Sem

variable {F : FTy → Type} [FloatOps F] [Named F]

/-- The entry barrier's semaphore. -/
abbrev barS : Sem sig := (SemArray.scalar (sig.barrier 0 rfl) : Sems sig S_).sem

abbrev KProg (F : FTy → Type) : Type _ := Prog (TpuEff nD τ sig (Elt F) Λ₀ .tc) PUnit

/-- Signal each of a list of devices, then go on. -/
def sigProg : List (Dev nD) → KProg F → KProg F
  | [], k => k
  | e :: l, k => (semSignalWord (e : Dev nD) barS 1#32) >>= fun _ => sigProg l k

/-- The devices `c` signals. -/
def sigs (c : Dev nD) : List (Dev nD) := (![[1, 2, 3], [0, 2, 3], [0, 1, 3], [0, 1, 2]] : Fin 4 → List (Dev nD)) c

variable (F) in
/-- Device `c`'s actions after the barrier, in program order. -/
def acts (c : Dev nD) : List (Act F) :=
  (![main0 F ++ tailA F ++ ws0 F, main1 F ++ tailA F ++ ws1 F, main2 F ++ tailA F ++ ws2 F, main3 F ++ tailA F ++ ws3 F] : Fin 4 → List (Act F)) c

/-- What device `c` runs once it knows its place. -/
def devProg (c : Dev nD) : KProg F := sigProg (sigs c) ((semWaitWord barS 3#32) >>= fun _ => Act.prog (acts F c))

/-- The kernel body on its buffers. -/
abbrev bodyP : KProg F := cc0_body (F := F) (Memref.whole cc0_stg0_0) (Memref.isWhole_whole _) (Memref.whole cc0_stg1_0) (Memref.isWhole_whole _)
  (Memref.whole cc0_stg2_0) (Memref.isWhole_whole _) (Memref.whole cc0_stg3_0) (Memref.isWhole_whole _) (Memref.whole cc0_stg4_0) (Memref.isWhole_whole _)
  (Memref.whole cc0_stg5_0) (Memref.isWhole_whole _)
  (Memref.whole cc0_scratch0) (Memref.isWhole_whole _) (Memref.whole cc0_scratch1) (Memref.isWhole_whole _) (Memref.whole cc0_scratch2) (Memref.isWhole_whole _)
  (Memref.whole cc0_scratch3) (Memref.isWhole_whole _) (Memref.whole cc0_scratch4) (Memref.isWhole_whole _) (Memref.whole cc0_scratch5) (Memref.isWhole_whole _)
  (Memref.whole cc0_scratch6) (Memref.isWhole_whole _) cc0_scratch7 cc0_scratch8 cc0_scratch9 cc0_scratch10

/-- What a program that asks for its place does when the answer is `d`. -/
def atDev (d : Dev nD) (p : KProg F) : KProg F :=
  match p with
  | .op .deviceId k => k d
  | p => p

theorem bodyP_eq : bodyP (F := F) = .op .deviceId (fun d => atDev d (bodyP (F := F))) := by sl_kernel_rfl
theorem atDev_0 : atDev 0 (bodyP (F := F)) = devProg 0 := by sl_kernel_rfl
theorem atDev_1 : atDev 1 (bodyP (F := F)) = devProg 1 := by sl_kernel_rfl
theorem atDev_2 : atDev 2 (bodyP (F := F)) = devProg 2 := by sl_kernel_rfl
theorem atDev_3 : atDev 3 (bodyP (F := F)) = devProg 3 := by sl_kernel_rfl

theorem atDev_eq (c : Dev nD) : atDev c (bodyP (F := F)) = devProg c := by
  match c with
  | 0 => exact atDev_0 | 1 => exact atDev_1 | 2 => exact atDev_2 | 3 => exact atDev_3

end Cert.Attn

end
-- ==== Proof.Own.lean ====
/-
Owning regions: the points-tos of a device's memory, region by region, and the soundness of blocks.
-/
module

public import proofs.«01_k».proof.Proof.Roll

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-- The weakest precondition the body is run at, on device `c`. -/
abbrev WP (c : Dev nD) (p : KProg F) (Q : PUnit → sProp 𝕄) : sProp 𝕄 :=
  wp frame (wpE (defs₀ (F := F)) 𝒱₀ (c : Thread nD τ) none) Set.univ p Q

/-! ## Regions owned -/

/-- A buffer's elements `S` at share `q`. -/
abbrev bufPts (c : Dev nD) (b : Ref sig .tc) (S : Finset b.ty.shape.Idx) (q : PosShare TreeShare) (f : b.ty.Contents (Elt F)) : sProp 𝕄 :=
  ((c : Thread nD τ).loc b) ↦[S]{q} f

/-- A region's elements at share `q`, with contents `f` there. -/
def pts (c : Dev nD) : (r : Rg) → PosShare TreeShare → Con F r → sProp 𝕄
  | .x, q, f => bufPts c cc0_stg0_0 (Rg.set .x) q f
  | .wq, q, f => bufPts c cc0_stg1_0 (Rg.set .wq) q f
  | .k, q, f => bufPts c cc0_stg2_0 (Rg.set .k) q f
  | .v, q, f => bufPts c cc0_stg3_0 (Rg.set .v) q f
  | .wo, q, f => bufPts c cc0_stg4_0 (Rg.set .wo) q f
  | .out, q, f => bufPts c cc0_stg5_0 (Rg.set .out) q f
  | .p0 h r, q, f => bufPts c cc0_scratch0 (Rg.set (.p0 h r)) q f
  | .d0, q, f => bufPts c cc0_scratch1 (Rg.set .d0) q f
  | .ed, q, f => bufPts c cc0_scratch2 (Rg.set .ed) q f
  | .gl r, q, f => bufPts c cc0_scratch3 (Rg.set (.gl r)) q f
  | .acc, q, f => bufPts c cc0_scratch4 (Rg.set .acc) q f
  | .lt, q, f => bufPts c cc0_scratch5 (Rg.set .lt) q f
  | .md, q, f => bufPts c cc0_scratch6 (Rg.set .md) q f

omit [FloatOps F] [Named F] in
instance pts_storable (c : Dev nD) (r : Rg) (q) (f : Con F r) : BI.Storable (upEmb : UEmb _ 𝕄) (pts c r q f) := by
  cases r <;> unfold pts bufPts <;> infer_instance

omit [FloatOps F] [Named F] in
theorem pts_congr (c : Dev nD) (r : Rg) (q) (f g : Con F r) (h : ∀ i ∈ r.set, f i = g i) : (pts c r q f : sProp 𝕄) = pts c r q g := by
  cases r <;> exact pointsTo_congr h

omit [FloatOps F] [Named F] in
theorem pts_agree (c : Dev nD) (r : Rg) (q q') (f g : Con F r) :
    iprop(pts c r q f ∗ pts c r q' g) ⊢ (⌜∀ i ∈ r.set, f i = g i⌝ : sProp 𝕄) := by
  cases r <;> exact pointsTo_agree.trans (BI.pure_mono fun h i hi => (h i (Finset.mem_inter.mpr ⟨hi, hi⟩)).1)

omit [FloatOps F] [Named F] in
theorem pts_share (c : Dev nD) (r : Rg) (q : PosShare TreeShare) (f : Con F r) :
    (pts c r q f : sProp 𝕄) ⊣⊢ iprop(pts c r q.left f ∗ pts c r q.right f) := by
  cases r <;> exact pointsTo_share (PosShare.mem_left_op_right q)

section Whole

variable (b : Ref sig .tc)

theorem put_whole {off size : Fin b.ty.shape.rank → ℕ} (inb : ∀ a, off a + size a ≤ b.ty.shape.size a) (f : b.ty.Contents (Elt F))
    (w : (Rect.unit off size inb).shape.Idx → Elt F b.ty.elt) :
    ((Memref.whole b : Memref sig .tc _ _ _).access (Rect.unit off size inb)).write (Elt F) f w Finset.univ = VecWindow.put f off size w := by
  have h := View.read_writes_cons_put (Val := Elt F) (View.whole b) f inb w [] rfl
  exact h

theorem load_subset {off size : Fin b.ty.shape.rank → ℕ} (inb : ∀ a, off a + size a ≤ b.ty.shape.size a) (S : Finset b.ty.shape.Idx)
    (hS : (Rect.unit off size inb).set ⊆ S) : (Memref.whole b : Memref sig .tc _ _ _).view.setOn (Rect.unit off size inb).toLoadRect.set ⊆ S := by
  rw [show (Memref.whole b : Memref sig .tc _ _ _).view.setOn (Rect.unit off size inb).toLoadRect.set = (Rect.unit off size inb).set from
      by ext i; exact View.mem_setOn (v := View.whole b) (x := i)]
  exact hS

theorem store_subset {off size : Fin b.ty.shape.rank → ℕ} (inb : ∀ a, off a + size a ≤ b.ty.shape.size a) (S : Finset b.ty.shape.Idx)
    (hS : (Rect.unit off size inb).set ⊆ S) : ((Memref.whole b : Memref sig .tc _ _ _).access (Rect.unit off size inb)).setOn Finset.univ ⊆ S := by
  rw [show ((Memref.whole b : Memref sig .tc _ _ _).access (Rect.unit off size inb)).setOn Finset.univ = (Rect.unit off size inb).set from
      View.set_slice_whole b _]
  exact hS

end Whole

theorem wp_ldM (c : Dev nD) {s : Shape} {e : EltTy} (m : Memref sig .tc .vmem s e) {off size : Fin s.rank → ℕ} (inb : ∀ a, off a + size a ≤ s.size a)
    {hl : m.view.LoadsAt (Rect.unit off size inb).toLoadRect} {k : _ → KProg F} {Q : PUnit → sProp 𝕄}
    (S : Finset (Idx (m.view.loc (c : Thread nD τ)))) (q : PosShare TreeShare) (f : Buf (Elt F) (m.view.loc (c : Thread nD τ)))
    (hS : m.view.setOn (Rect.unit off size inb).toLoadRect.set ⊆ S) :
    (m.view.loc (c : Thread nD τ) ↦[S]{q} f) ⊢ iprop(((m.view.loc (c : Thread nD τ) ↦[S]{q} f) -∗ WP c (k (VecWindow.window (m.view.read (Elt F) f) off size inb)) Q)
      -∗ WP c (.op (.load m (Rect.unit off size inb).toLoadRect hl) k) Q) :=
  wp_load 𝒱₀ (c : Thread nD τ) none Set.univ (m := m) hS

theorem wp_stM (c : Dev nD) {s : Shape} {e : EltTy} (m : Memref sig .tc .vmem s e) {off size : Fin s.rank → ℕ} (inb : ∀ a, off a + size a ≤ s.size a)
    {w : (Rect.unit off size inb).shape.Idx → Elt F e} {hs : (m.access (Rect.unit off size inb)).Stores Finset.univ}
    {hm : Finset.univ = Finset.univ ∨ ∀ a, (Rect.unit off size inb).stride a = 1} {k : _ → KProg F} {Q : PUnit → sProp 𝕄}
    (S : Finset (Idx (m.view.loc (c : Thread nD τ)))) (f g : Buf (Elt F) (m.view.loc (c : Thread nD τ)))
    (hS : (m.access (Rect.unit off size inb)).setOn Finset.univ ⊆ S) (hg : (m.access (Rect.unit off size inb)).write (Elt F) f w Finset.univ = g) :
    (m.view.loc (c : Thread nD τ) ↦[S]{fullShare} f) ⊢ iprop(((m.view.loc (c : Thread nD τ) ↦[S]{fullShare} g) -∗ WP c (k ⟨⟩) Q)
      -∗ WP c (.op (.store m (Rect.unit off size inb) w Finset.univ hs hm) k) Q) := by
  subst hg
  exact wp_store (c := (c : Thread nD τ)) (m := m) (r := Rect.unit off size inb) (w := w) (Mk := Finset.univ) (hx := hs) (hm := hm) (k := k) (S := S) (f := f) 𝒱₀ none Set.univ hS

theorem wp_ld (c : Dev nD) (r : Rg) {off size : Fin r.shape.rank → ℕ} (inb : ∀ a, off a + size a ≤ r.shape.size a)
    (hp : 0 < (Rect.unit off size inb).shape.numel) {k : _ → KProg F} {Q : PUnit → sProp 𝕄}
    (q : PosShare TreeShare) (f : Con F r) (hS : (Rect.unit off size inb).set ⊆ r.set) :
    pts c r q f ⊢ iprop((pts c r q f -∗ WP c (k (VecWindow.window f off size inb)) Q)
      -∗ WP c (.op (.load r.mref (Rect.unit off size inb).toLoadRect (View.loadsAt_vmem hp)) k) Q) :=
  match r with
  | .x => wp_ldM c (Memref.whole cc0_stg0_0) inb _ q f (load_subset cc0_stg0_0 inb _ hS)
  | .wq => wp_ldM c (Memref.whole cc0_stg1_0) inb _ q f (load_subset cc0_stg1_0 inb _ hS)
  | .k => wp_ldM c (Memref.whole cc0_stg2_0) inb _ q f (load_subset cc0_stg2_0 inb _ hS)
  | .v => wp_ldM c (Memref.whole cc0_stg3_0) inb _ q f (load_subset cc0_stg3_0 inb _ hS)
  | .wo => wp_ldM c (Memref.whole cc0_stg4_0) inb _ q f (load_subset cc0_stg4_0 inb _ hS)
  | .out => wp_ldM c (Memref.whole cc0_stg5_0) inb _ q f (load_subset cc0_stg5_0 inb _ hS)
  | .p0 h r => wp_ldM c (Memref.whole cc0_scratch0) inb _ q f (load_subset cc0_scratch0 inb _ hS)
  | .d0 => wp_ldM c (Memref.whole cc0_scratch1) inb _ q f (load_subset cc0_scratch1 inb _ hS)
  | .ed => wp_ldM c (Memref.whole cc0_scratch2) inb _ q f (load_subset cc0_scratch2 inb _ hS)
  | .gl r => wp_ldM c (Memref.whole cc0_scratch3) inb _ q f (load_subset cc0_scratch3 inb _ hS)
  | .acc => wp_ldM c (Memref.whole cc0_scratch4) inb _ q f (load_subset cc0_scratch4 inb _ hS)
  | .lt => wp_ldM c (Memref.whole cc0_scratch5) inb _ q f (load_subset cc0_scratch5 inb _ hS)
  | .md => wp_ldM c (Memref.whole cc0_scratch6) inb _ q f (load_subset cc0_scratch6 inb _ hS)

theorem wp_st (c : Dev nD) (r : Rg) {off size : Fin r.shape.rank → ℕ} (inb : ∀ a, off a + size a ≤ r.shape.size a)
    (w : (Rect.unit off size inb).shape.Idx → Elt F r.elt) (hs : (r.mref.access (Rect.unit off size inb)).Stores Finset.univ)
    {k : _ → KProg F} {Q : PUnit → sProp 𝕄} (f : Con F r) (hS : (Rect.unit off size inb).set ⊆ r.set) :
    pts c r fullShare f ⊢ iprop((pts c r fullShare (VecWindow.put f off size w) -∗ WP c (k ⟨⟩) Q)
      -∗ WP c (.op (.store r.mref (Rect.unit off size inb) w Finset.univ hs (.inl rfl)) k) Q) :=
  match r with
  | .x => wp_stM c (Memref.whole cc0_stg0_0) inb _ f _ (store_subset cc0_stg0_0 inb _ hS) (put_whole cc0_stg0_0 inb f w)
  | .wq => wp_stM c (Memref.whole cc0_stg1_0) inb _ f _ (store_subset cc0_stg1_0 inb _ hS) (put_whole cc0_stg1_0 inb f w)
  | .k => wp_stM c (Memref.whole cc0_stg2_0) inb _ f _ (store_subset cc0_stg2_0 inb _ hS) (put_whole cc0_stg2_0 inb f w)
  | .v => wp_stM c (Memref.whole cc0_stg3_0) inb _ f _ (store_subset cc0_stg3_0 inb _ hS) (put_whole cc0_stg3_0 inb f w)
  | .wo => wp_stM c (Memref.whole cc0_stg4_0) inb _ f _ (store_subset cc0_stg4_0 inb _ hS) (put_whole cc0_stg4_0 inb f w)
  | .out => wp_stM c (Memref.whole cc0_stg5_0) inb _ f _ (store_subset cc0_stg5_0 inb _ hS) (put_whole cc0_stg5_0 inb f w)
  | .p0 h r => wp_stM c (Memref.whole cc0_scratch0) inb _ f _ (store_subset cc0_scratch0 inb _ hS) (put_whole cc0_scratch0 inb f w)
  | .d0 => wp_stM c (Memref.whole cc0_scratch1) inb _ f _ (store_subset cc0_scratch1 inb _ hS) (put_whole cc0_scratch1 inb f w)
  | .ed => wp_stM c (Memref.whole cc0_scratch2) inb _ f _ (store_subset cc0_scratch2 inb _ hS) (put_whole cc0_scratch2 inb f w)
  | .gl r => wp_stM c (Memref.whole cc0_scratch3) inb _ f _ (store_subset cc0_scratch3 inb _ hS) (put_whole cc0_scratch3 inb f w)
  | .acc => wp_stM c (Memref.whole cc0_scratch4) inb _ f _ (store_subset cc0_scratch4 inb _ hS) (put_whole cc0_scratch4 inb f w)
  | .lt => wp_stM c (Memref.whole cc0_scratch5) inb _ f _ (store_subset cc0_scratch5 inb _ hS) (put_whole cc0_scratch5 inb f w)
  | .md => wp_stM c (Memref.whole cc0_scratch6) inb _ f _ (store_subset cc0_scratch6 inb _ hS) (put_whole cc0_scratch6 inb f w)

/-! ## A device's regions at once -/

/-- The regions, as a sum. -/
def Rg.equiv : Fin 11 ⊕ ((Fin 8 × Fin 2) ⊕ Fin 3) ≃ Rg where
  toFun
    | .inl i => (![.x, .wq, .k, .v, .wo, .out, .d0, .ed, .acc, .lt, .md] : Fin 11 → Rg) i
    | .inr (.inl p) => .p0 p.1 p.2 | .inr (.inr r) => .gl r
  invFun
    | .x => .inl 0 | .wq => .inl 1 | .k => .inl 2 | .v => .inl 3 | .wo => .inl 4 | .out => .inl 5
    | .d0 => .inl 6 | .ed => .inl 7 | .acc => .inl 8 | .lt => .inl 9 | .md => .inl 10
    | .p0 h r => .inr (.inl (h, r)) | .gl r => .inr (.inr r)
  left_inv := by
    rintro (i | _ | _)
    · fin_cases i <;> rfl
    · rfl
    · rfl
  right_inv := by rintro (_ | _) <;> rfl

instance : Fintype Rg := Fintype.ofEquiv _ Rg.equiv

/-- The share kept of a region of which `n` pieces are lent. -/
def rest : ℕ → PosShare TreeShare
  | 0 => fullShare
  | n + 1 => (rest n).right
/-- The `n`-th piece lent. -/
def piece (n : ℕ) : PosShare TreeShare := (rest n).left

omit [FloatOps F] [Named F] in
theorem pts_lend (c : Dev nD) (r : Rg) (n : ℕ) (f : Con F r) :
    (pts c r (rest n) f : sProp 𝕄) ⊣⊢ iprop(pts c r (piece n) f ∗ pts c r (rest (n + 1)) f) := pts_share c r (rest n) f

/-- How much of a region a device holds: nothing, or all but the first `n` pieces. -/
abbrev Hold : Type := Rg → Option ℕ

def holds (c : Dev nD) (n : Option ℕ) (r : Rg) (f : Con F r) : sProp 𝕄 :=
  match n with
  | none => iprop(emp)
  | some n => pts c r (rest n) f

omit [FloatOps F] [Named F] in
theorem holds_some (c : Dev nD) (n : ℕ) (r : Rg) (f : Con F r) : (holds c (some n) r f : sProp 𝕄) = pts c r (rest n) f := rfl
omit [FloatOps F] [Named F] in
theorem holds_zero (c : Dev nD) (r : Rg) (f : Con F r) : (holds c (some 0) r f : sProp 𝕄) = pts c r fullShare f := rfl

/-- A device's regions as held. -/
def own (c : Dev nD) (q : Hold) (σ : St F) : sProp 𝕄 := bigSep Finset.univ fun r : Rg => holds c (q r) r (σ r)

/-- A set of regions, each with contents from `σ`. -/
def some_ (c : Dev nD) (T : Finset Rg) (q : PosShare TreeShare) (σ : St F) : sProp 𝕄 := bigSep T fun r => pts c r q (σ r)

/-- Take the contents of `T` from `σ'`. -/
def mix (T : Finset Rg) (σ' σ : St F) : St F := fun r => if r ∈ T then σ' r else σ r
/-- Set the holding of `T`. -/
def setQ (T : Finset Rg) (n : Option ℕ) (q : Hold) : Hold := fun r => if r ∈ T then n else q r

omit [FloatOps F] [Named F] in
theorem own_split (c : Dev nD) (q : Hold) (σ : St F) (T : Finset Rg) :
    (own c q σ : sProp 𝕄) = iprop(bigSep T (fun r => holds c (q r) r (σ r)) ∗ bigSep (Finset.univ \ T) fun r => holds c (q r) r (σ r)) := by
  unfold own; exact bigSep_sdiff_split (Finset.subset_univ T)

omit [FloatOps F] [Named F] in
theorem own_rest (c : Dev nD) (q : Hold) (σ σ' : St F) (T : Finset Rg) (n : Option ℕ) :
    (bigSep (Finset.univ \ T) fun r => holds c (q r) r (σ r) : sProp 𝕄)
      = bigSep (Finset.univ \ T) fun r => holds c (setQ T n q r) r (mix T σ' σ r) :=
  bigSep_congr fun r hr => by
    have h : r ∉ T := (Finset.mem_sdiff.mp hr).2
    unfold setQ mix; rw [if_neg h, if_neg h]

omit [FloatOps F] [Named F] in
/-- Changing the holding of `T` changes only `T`'s part. -/
theorem own_set (c : Dev nD) (q : Hold) (σ σ' : St F) (T : Finset Rg) (n : Option ℕ) :
    (own c (setQ T n q) (mix T σ' σ) : sProp 𝕄)
      = iprop(bigSep T (fun r => holds c n r (σ' r)) ∗ bigSep (Finset.univ \ T) fun r => holds c (q r) r (σ r)) := by
  rw [own_split c _ _ T, ← own_rest]
  congr 1
  exact bigSep_congr fun r hr => by unfold setQ mix; rw [if_pos hr, if_pos hr]

omit [FloatOps F] [Named F] in
theorem mix_self (T : Finset Rg) (σ : St F) : mix T σ σ = σ := by funext r; unfold mix; split <;> rfl

omit [FloatOps F] [Named F] in
theorem own_get (c : Dev nD) (q : Hold) (σ : St F) (T : Finset Rg) (n : Option ℕ) (h : ∀ r ∈ T, q r = n) :
    (own c q σ : sProp 𝕄) = iprop(bigSep T (fun r => holds c n r (σ r)) ∗ bigSep (Finset.univ \ T) fun r => holds c (q r) r (σ r)) := by
  rw [own_split c q σ T]; congr 1; exact bigSep_congr fun r hr => by rw [h r hr]

omit [FloatOps F] [Named F] in
/-- Lend a piece of each region of `T`. -/
theorem own_lend (c : Dev nD) (q : Hold) (σ : St F) (T : Finset Rg) (n : ℕ) (h : ∀ r ∈ T, q r = some n) :
    (own c q σ : sProp 𝕄) ⊢ iprop(some_ c T (piece n) σ ∗ own c (setQ T (some (n + 1)) q) σ) := by
  have e := own_set c q σ σ T (some (n + 1))
  rw [mix_self] at e
  rw [own_get c q σ T (some n) h, e]
  refine (sep_mono_left (bigSep_mono (Ψ := fun r => iprop(pts c r (piece n) (σ r) ∗ pts c r (rest (n + 1)) (σ r))) fun r _ => (pts_lend c r n (σ r)).1)).trans ?_
  rw [bigSep_sep']
  unfold some_
  iintro ⟨⟨H1, H2⟩, H3⟩
  isplitl [H1]; · iexact H1
  isplitl [H2]; · iexact H2
  iexact H3

omit [FloatOps F] [Named F] in
/-- A piece of each region of `T` given back, whatever contents it is given back with. -/
theorem own_back (c : Dev nD) (q : Hold) (σ σ' : St F) (T : Finset Rg) (n : ℕ) (h : ∀ r ∈ T, q r = some (n + 1)) :
    iprop(some_ c T (piece n) σ' ∗ own c q σ) ⊢ (own c (setQ T (some n) q) σ : sProp 𝕄) := by
  have e := own_set c q σ σ T (some n)
  rw [mix_self] at e
  rw [own_get c q σ T (some (n + 1)) h, e]
  unfold some_
  iintro ⟨H1, H2, H3⟩
  isplitr [H3]
  · have key : ∀ r ∈ T, iprop(pts c r (piece n) (σ' r) ∗ holds c (some (n + 1)) r (σ r)) ⊢ (holds c (some n) r (σ r) : sProp 𝕄) := fun r _ => by
      show iprop(pts c r (piece n) (σ' r) ∗ pts c r (rest (n + 1)) (σ r)) ⊢ (pts c r (rest n) (σ r) : sProp 𝕄)
      refine Laws.pure_elim _ (pts_agree c r _ _ _ _) fun hag => ?_
      rw [pts_congr c r (piece n) (σ' r) (σ r) hag]
      exact (pts_lend c r n (σ r)).2
    iapply ((Entails.of_eq (bigSep_sep' T (fun r => pts c r (piece n) (σ' r)) (fun r => (holds c (some (n + 1)) r (σ r) : sProp 𝕄))).symm).trans
      (bigSep_mono key))
    isplitl [H1] <;> iassumption
  · iexact H3

omit [FloatOps F] [Named F] in
/-- Regions not held come to be held. -/
theorem own_gain (c : Dev nD) (q : Hold) (σ σ' : St F) (T : Finset Rg) (h : ∀ r ∈ T, q r = none) :
    iprop(some_ c T fullShare σ' ∗ own c q σ) ⊢ (own c (setQ T (some 0) q) (mix T σ' σ) : sProp 𝕄) := by
  rw [own_get c q σ T none h, own_set]
  unfold some_
  iintro ⟨H1, -, H3⟩
  isplitl [H1]; · iexact H1
  iexact H3

omit [FloatOps F] [Named F] in
/-- Regions held in full are given away. -/
theorem own_give (c : Dev nD) (q : Hold) (σ : St F) (T : Finset Rg) (h : ∀ r ∈ T, q r = some 0) :
    (own c q σ : sProp 𝕄) ⊢ iprop(some_ c T fullShare σ ∗ own c (setQ T none q) σ) := by
  have e := own_set c q σ σ T none
  rw [mix_self] at e
  rw [own_get c q σ T (some 0) h, e]
  unfold some_
  iintro ⟨H1, H3⟩
  isplitl [H1]; · iexact H1
  isplitr
  · iapply (Entails.of_eq (bigSep_emp_const (s := T)).symm); iempintro
  iexact H3

/-! ## Blocks -/

omit [FloatOps F] [Named F] in
theorem own_at (c : Dev nD) (q : Hold) (σ : St F) (r : Rg) :
    (own c q σ : sProp 𝕄) = iprop(holds c (q r) r (σ r) ∗ bigSep (Finset.univ.erase r) fun r => holds c (q r) r (σ r)) :=
  bigSep_univ_at _ r

omit [FloatOps F] [Named F] in
theorem own_upd (c : Dev nD) (q : Hold) (σ : St F) (r : Rg) (f : Con F r) :
    (own c q (Function.update σ r f) : sProp 𝕄) = iprop(holds c (q r) r f ∗ bigSep (Finset.univ.erase r) fun r => holds c (q r) r (σ r)) := by
  rw [own_at c q _ r, Function.update_self]
  congr 1
  exact bigSep_congr fun r' hr' => by rw [Function.update_of_ne (Finset.ne_of_mem_erase hr')]

/-- A block run on the regions held. -/
theorem wp_blk (c : Dev nD) (q : Hold) (rd wr : List Rg) (hrd : ∀ r ∈ rd, (q r).isSome) (hwr : ∀ r ∈ wr, q r = some 0)
    (K : KProg F) (Q : PUnit → sProp 𝕄) : ∀ (B : Blk F) (σ : St F), B.Ok rd wr →
    own c q σ ⊢ iprop((own c q (B.run σ) -∗ WP c K Q) -∗ WP c (B.prog K) Q)
  | .done, σ, _ => by
    iintro H Hk
    iapply Hk; iexact H
  | .ld r off size inb hp k, σ, ok => by
    obtain ⟨n, hn⟩ := Option.isSome_iff_exists.mp (hrd r ok.1)
    have ih := wp_blk c q rd wr hrd hwr K Q (k (VecWindow.window (σ r) off size inb)) σ (ok.2.2 _)
    rw [own_at c q σ r, hn, holds_some] at ih ⊢
    unfold Blk.prog Blk.run
    iintro ⟨H1, H2⟩ Hk
    iapply (wp_ld c r inb hp (rest n) (σ r) ok.2.1) $$ H1
    iintro H1
    iapply ih $$ [H1 H2] [Hk]
    · isplitl [H1]; · iexact H1
      iexact H2
    · iexact Hk
  | .st r off size inb w hs k, σ, ok => by
    have hn := hwr r ok.1
    have ih := wp_blk c q rd wr hrd hwr K Q k (Function.update σ r (VecWindow.put (σ r) off size w)) ok.2.2
    rw [own_upd, hn, holds_zero] at ih
    rw [own_at c q σ r, hn, holds_zero]
    unfold Blk.prog Blk.run
    iintro ⟨H1, H2⟩ Hk
    iapply (wp_st c r inb w hs (σ r) ok.2.1) $$ H1
    iintro H1
    iapply ih $$ [H1 H2] [Hk]
    · isplitl [H1]; · iexact H1
      iexact H2
    · iexact Hk

end Cert.Attn

end
-- ==== Proof.Sched.lean ====
/-
The protocol: what each semaphore cell's round pays, and with what.

Every device first tells its three peers that it has arrived (the entry barrier) and with that hands each peer the
regions that peer's transfers will land in. A transfer's receive cell pays the receiver the landed regions holding what
`good` says of them; its send cell pays the sender back the piece of its own regions the transfer read through.
-/
module

public import proofs.«01_k».proof.Proof.Own

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## A transfer's view and its regions -/

/-- The contents of the transfer's buffer whose regions hold what `σ` says. -/
def glue (c : Dev nD) : (x : Msg) → St F → Buf (Elt F) (x.mv.view.loc (c : Thread nD τ))
  | .p0 _ h, σ => (fun i : S8x2x512x128.Idx => if (i 1).val = 0 then σ (.p0 h 0) i else σ (.p0 h 1) i : Con F (.p0 h 0))
  | .d0 _, σ => σ .d0
  | .ed _, σ => σ .ed
  | .gl r _, σ => σ (.gl r)
  | .fw r h, σ => σ (.p0 h r)

theorem set_p0 (j : Fin 2) (h : Fin 8) : (Msg.mv (.p0 j h)).view.set = (Rg.set (.p0 h 0) ∪ Rg.set (.p0 h 1) : Finset S8x2x512x128.Idx) := by
  rw [show (Msg.mv (.p0 j h)).view.set = (Rect.unit (s := S8x2x512x128) ![h.val, 0, 0, 0] S1x2x512x128.size
      (inb4 (by omega) (by omega) (by omega) (by omega))).set from (View.set_reshape _ _).trans (View.set_slice_whole cc0_scratch0 _)]
  ext i
  rw [Rect.mem_set_unit, Finset.mem_union, Finset.mem_filter, Finset.mem_filter]
  have h1 : (i 1).val < 2 := (i 1).isLt
  constructor
  · intro hi
    have h0 : h.val ≤ (i 0).val ∧ (i 0).val < h.val + 1 := hi 0
    rcases (by omega : (i 1).val = 0 ∨ (i 1).val = 1) with e | e
    · exact .inl ⟨Finset.mem_univ _, by omega, e⟩
    · exact .inr ⟨Finset.mem_univ _, by omega, e⟩
  · intro hi a
    have h0 : (i 0).val = h.val := by rcases hi with hi | hi <;> exact hi.2.1
    fin_cases a
    · show h.val ≤ (i 0).val ∧ (i 0).val < h.val + 1
      omega
    · exact ⟨Nat.zero_le _, lt_of_lt_of_eq (i 1).isLt rfl⟩
    · exact ⟨Nat.zero_le _, lt_of_lt_of_eq (i 2).isLt rfl⟩
    · exact ⟨Nat.zero_le _, lt_of_lt_of_eq (i 3).isLt rfl⟩

theorem set_fw (r : Fin 2) (h : Fin 8) : (Msg.mv (.fw r h)).view.set = (Rg.set (.p0 h r) : Finset S8x2x512x128.Idx) := by
  rw [show (Msg.mv (.fw r h)).view.set = (Rect.unit (s := S8x2x512x128) ![h.val, r.val, 0, 0] S1x1x512x128.size
      (inb4 (by omega) (by omega) (by omega) (by omega))).set from (View.set_reshape _ _).trans (View.set_slice_whole cc0_scratch0 _)]
  ext i
  rw [Rect.mem_set_unit, Finset.mem_filter]
  constructor
  · intro hi
    have h0 : h.val ≤ (i 0).val ∧ (i 0).val < h.val + 1 := hi 0
    have h1 : r.val ≤ (i 1).val ∧ (i 1).val < r.val + 1 := hi 1
    exact ⟨Finset.mem_univ _, by omega, by omega⟩
  · rintro ⟨-, h0, h1⟩ a
    fin_cases a
    · show h.val ≤ (i 0).val ∧ (i 0).val < h.val + 1
      omega
    · show r.val ≤ (i 1).val ∧ (i 1).val < r.val + 1
      omega
    · exact ⟨Nat.zero_le _, lt_of_lt_of_eq (i 2).isLt rfl⟩
    · exact ⟨Nat.zero_le _, lt_of_lt_of_eq (i 3).isLt rfl⟩

theorem set_gl (r j : Fin 3) : (Msg.mv (.gl r j)).view.set = (Rg.set (.gl r) : Finset S3x9x32x128.Idx) := by
  rw [show (Msg.mv (.gl r j)).view.set = (Rect.unit (s := S3x9x32x128) ![r.val, 0, 0, 0] S1x9x32x128.size
      (inb4 (by omega) (by omega) (by omega) (by omega))).set from (View.set_reshape _ _).trans (View.set_slice_whole cc0_scratch3 _)]
  ext i
  rw [Rect.mem_set_unit, Finset.mem_filter]
  constructor
  · intro hi
    have h0 : r.val ≤ (i 0).val ∧ (i 0).val < r.val + 1 := hi 0
    exact ⟨Finset.mem_univ _, by omega⟩
  · rintro ⟨-, h0⟩ a
    fin_cases a
    · show r.val ≤ (i 0).val ∧ (i 0).val < r.val + 1
      omega
    · exact ⟨Nat.zero_le _, lt_of_lt_of_eq (i 1).isLt rfl⟩
    · exact ⟨Nat.zero_le _, lt_of_lt_of_eq (i 2).isLt rfl⟩
    · exact ⟨Nat.zero_le _, lt_of_lt_of_eq (i 3).isLt rfl⟩

omit [FloatOps F] [Named F] in
/-- A transfer's regions, each as `σ` says, are its view's elements. -/
theorem some_glue (c : Dev nD) (x : Msg) (q : PosShare TreeShare) (σ : St F) :
    (some_ c x.regs q σ : sProp 𝕄) = (x.mv.view.loc (c : Thread nD τ) ↦[x.mv.view.set]{q} glue c x σ) := by
  cases x with
  | p0 j h =>
    have hne : Rg.p0 h 0 ∉ ({Rg.p0 h 1} : Finset Rg) := by rw [Finset.mem_singleton]; intro e; cases e
    have hd : Disjoint (Rg.set (.p0 h 0)) (Rg.set (.p0 h 1) : Finset S8x2x512x128.Idx) :=
      Finset.disjoint_left.mpr fun i h0 h1 => by
        have := (Finset.mem_filter.mp h0).2.2
        have := (Finset.mem_filter.mp h1).2.2
        simp at *; omega
    unfold some_
    let g : Con F (.p0 h 0) := fun i : S8x2x512x128.Idx => if (i 1).val = 0 then σ (.p0 h 0) i else σ (.p0 h 1) i
    have e0 : (pts c (.p0 h 0) q (σ (.p0 h 0)) : sProp 𝕄) = bufPts c cc0_scratch0 (Rg.set (.p0 h 0)) q g :=
      pts_congr c (.p0 h 0) q (σ (.p0 h 0)) g fun i hi => (if_pos (Finset.mem_filter.mp hi).2.2).symm
    have e1 : (pts c (.p0 h 1) q (σ (.p0 h 1)) : sProp 𝕄) = bufPts c cc0_scratch0 (Rg.set (.p0 h 1)) q g :=
      pts_congr c (.p0 h 1) q (σ (.p0 h 1)) g fun i hi => (if_neg (by rw [(Finset.mem_filter.mp hi).2.2]; exact Nat.one_ne_zero)).symm
    rw [show Msg.regs (.p0 j h) = {Rg.p0 h 0, Rg.p0 h 1} from rfl, bigSep_insert hne, bigSep_singleton, set_p0, e0, e1]
    exact BI.Entails.antisymm (pointsTo_union hd).2 (pointsTo_union hd).1
  | d0 j =>
    unfold some_
    rw [show Msg.regs (.d0 j) = {Rg.d0} from rfl, bigSep_singleton, show (Msg.mv (.d0 j)).view.set = Finset.univ from View.set_whole _]
    rfl
  | ed j =>
    unfold some_
    rw [show Msg.regs (.ed j) = {Rg.ed} from rfl, bigSep_singleton, show (Msg.mv (.ed j)).view.set = Finset.univ from View.set_whole _]
    rfl
  | gl r j =>
    unfold some_
    rw [show Msg.regs (.gl r j) = {Rg.gl r} from rfl, bigSep_singleton, set_gl]
    rfl
  | fw r h =>
    unfold some_
    rw [show Msg.regs (.fw r h) = {Rg.p0 h r} from rfl, bigSep_singleton, set_fw]
    rfl

omit [FloatOps F] [Named F] in
/-- What lands is what was sent. -/
theorem landed_eq (c c' : Dev nD) (x : Msg) (σ : St F) (fd : Buf (Elt F) (x.mv.view.loc (c' : Thread nD τ))) :
    (x.mv.view.loc (c' : Thread nD τ) ↦[x.mv.view.set]{fullShare} (x.mv.view.write (Elt F) fd (x.mv.view.read (Elt F) (glue c x σ)) Finset.univ) : sProp 𝕄)
      = some_ c' x.regs fullShare σ := by
  rw [some_glue]
  refine pointsTo_congr fun i hi => ?_
  rw [View.write_read_eq_piecewise, View.setOn_univ, Finset.piecewise_eq_of_mem _ _ _ hi]
  cases x <;> rfl

/-! ## Cells -/

abbrev barCell (c : Dev nD) : GSem nD τ sig := ((c : Thread nD τ), .reg barS)
abbrev sendCell (x : Msg) : GSem nD τ sig := ((x.src : Thread nD τ), .dma x.ssem)
abbrev recvCell (x : Msg) : GSem nD τ sig := ((x.dst : Thread nD τ), .dma x.rsem)

/-- The cells of the protocol: a device's barrier, a transfer's send and receive cells. -/
abbrev Cell : Type := Dev nD ⊕ (Msg ⊕ Msg)

def kcell : Cell → GSem nD τ sig
  | .inl c => barCell c
  | .inr (.inl x) => sendCell x
  | .inr (.inr x) => recvCell x

/-- The number of a transfer's send and receive semaphores. -/
def Msg.snum : Msg → ℕ
  | .p0 j h => 6 + 8 * j.val + h.val | .d0 j => 38 + 6 + j.val | .ed j => 38 + j.val
  | .gl r j => 38 + (if r = 0 then 3 + j.val else j.val) | .fw _ h => 6 + h.val
def Msg.rnum : Msg → ℕ
  | .p0 _ h => 22 + h.val | .d0 _ => 47 | .ed _ => 48 | .gl r _ => 49 + r.val | .fw r h => 22 + 8 * r.val + h.val

theorem ssem_val : ∀ x : Msg, (x.ssem : Fin _).val = x.snum := by decide +kernel
theorem rsem_val : ∀ x : Msg, (x.rsem : Fin _).val = x.rnum := by decide +kernel

theorem send_inj : ∀ x y : Msg, x.src = y.src → x.snum = y.snum → x = y := by decide +kernel
theorem recv_inj : ∀ x y : Msg, x.dst = y.dst → x.rnum = y.rnum → x = y := by decide +kernel
theorem rnum_ge : ∀ x : Msg, 22 ≤ x.rnum := by decide +kernel
theorem send_ne_recv : ∀ x y : Msg, x.snum ≠ y.rnum := by decide +kernel

theorem kcell_injective : Function.Injective kcell := by
  have hd {a b : GSem nD τ sig} (h : a = b) : a.1.1 = b.1.1 := congrArg (fun g : GSem nD τ sig => g.1.1) h
  have hs {t t' : Thread nD τ} {q q' : DmaSem sig} (h : ((t, .dma q) : GSem nD τ sig) = (t', .dma q')) : (q : Fin _).val = (q' : Fin _).val := by
    have := congrArg Prod.snd h
    injection this with e
    exact congrArg Fin.val e
  have hb {t t' : Thread nD τ} {q : Sem sig} {q' : DmaSem sig} (h : ((t, .reg q) : GSem nD τ sig) = (t', .dma q')) : False := by
    have := congrArg Prod.snd h
    cases this
  rintro (c | x | x) (c' | y | y) h
  · exact congrArg Sum.inl (hd h)
  · exact (hb h).elim
  · exact (hb h).elim
  · exact (hb h.symm).elim
  · have e := hs h
    rw [ssem_val, ssem_val] at e
    rw [send_inj x y (hd h) e]
  · have e := hs h
    rw [ssem_val, rsem_val] at e
    exact (send_ne_recv x y e).elim
  · exact (hb h.symm).elim
  · have e := hs h
    rw [rsem_val, ssem_val] at e
    exact (send_ne_recv y x e.symm).elim
  · have e := hs h
    rw [rsem_val, rsem_val] at e
    rw [recv_inj x y (hd h) e]

open Classical in
/-- Which cell of the protocol a semaphore is, if any. -/
def kind (g : GSem nD τ sig) : Option Cell := if h : ∃ k, kcell k = g then some h.choose else none

theorem kind_kcell (k : Cell) : kind (kcell k) = some k := by
  unfold kind
  have h : ∃ k', kcell k' = kcell k := ⟨k, rfl⟩
  rw [dif_pos h]
  exact congrArg some (kcell_injective h.choose_spec)

theorem kind_some {g : GSem nD τ sig} {k : Cell} (h : kind g = some k) : kcell k = g := by
  unfold kind at h
  split at h
  · rename_i h'
    rw [← Option.some.inj h]; exact h'.choose_spec
  · cases h

theorem kind_bar (c : Dev nD) : kind (barCell c) = some (.inl c) := kind_kcell (.inl c)
theorem kind_send (x : Msg) : kind (sendCell x) = some (.inr (.inl x)) := kind_kcell (.inr (.inl x))
theorem kind_recv (x : Msg) : kind (recvCell x) = some (.inr (.inr x)) := kind_kcell (.inr (.inr x))

/-! ## The schedule -/

/-- What a transfer's receipt is worth. -/
def Msg.N (x : Msg) : ℕ := x.mv.view.dmaCredit
theorem Msg.N_pos (x : Msg) : 0 < x.N := by
  cases x <;> exact View.dmaCredit_pos _ (show 0 < Shape.numel _ by dsimp only [Msg.shape]; decide)

variable (good : (r : Rg) → Con F r → Prop)

/-- A transfer's landing regions, free, on its receiver. -/
def land (x : Msg) : sProp 𝕄 := iprop(∃ σ : St F, some_ x.dst x.regs fullShare σ)
/-- What the receive cell pays: the landed regions. -/
def recvPay (x : Msg) : sProp 𝕄 := iprop(∃ σ : St F, ⌜∀ r ∈ x.regs, good r (σ r)⌝ ∗ some_ x.dst x.regs fullShare σ)
/-- What the send cell pays: the piece read through. -/
def sendPay (x : Msg) : sProp 𝕄 := iprop(∃ σ : St F, some_ x.src x.regs (piece x.sh) σ)
/-- What device `d`'s arrival hands device `c`. -/
def barPay (d c : Dev nD) : sProp 𝕄 := bigSep Finset.univ fun x : Msg => if x.src = c ∧ x.dst = d then land x else iprop(emp)

omit [FloatOps F] [Named F] in
instance some_storable (c : Dev nD) (T : Finset Rg) (q) (σ : St F) : BI.Storable (upEmb : UEmb _ 𝕄) (some_ c T q σ) := by unfold some_; infer_instance
omit [FloatOps F] [Named F] in
instance land_storable (x : Msg) : BI.Storable (upEmb : UEmb _ 𝕄) (land (F := F) x) := by unfold land; infer_instance
omit [FloatOps F] [Named F] in
instance recvPay_storable (x : Msg) : BI.Storable (upEmb : UEmb _ 𝕄) (recvPay good x) := by unfold recvPay; infer_instance
omit [FloatOps F] [Named F] in
instance sendPay_storable (x : Msg) : BI.Storable (upEmb : UEmb _ 𝕄) (sendPay (F := F) x) := by unfold sendPay; infer_instance
omit [FloatOps F] [Named F] in
instance barPay_storable (d c : Dev nD) : BI.Storable (upEmb : UEmb _ 𝕄) (barPay (F := F) d c) := by
  unfold barPay
  have (x : Msg) : BI.Storable (upEmb : UEmb _ 𝕄) (if x.src = c ∧ x.dst = d then land (F := F) x else iprop(emp)) := by split <;> infer_instance
  infer_instance

/-- What a duty of a cell pays. -/
def pay (k : Option Cell) (d : Dev nD) : sProp 𝕄 :=
  match k with
  | some (.inl c) => barPay d c
  | some (.inr (.inl x)) => sendPay x
  | some (.inr (.inr x)) => recvPay good x
  | none => iprop(emp)

/-- The duties of a cell's one round. -/
def dut (k : Option Cell) : Finset (Dev nD) :=
  match k with
  | some (.inl c) => Finset.univ.erase c
  | some (.inr _) => {0}
  | none => ∅

/-- What a duty adds. -/
def amt (k : Option Cell) : ℕ :=
  match k with
  | some (.inr (.inl x)) => x.N
  | some (.inr (.inr x)) => x.N
  | _ => 1

/-- One round: a barrier cell has one duty of one unit for each other device, a send or receive cell one duty of the
    transfer's credit. -/
def Rd : Rounds.Schedule (GSem nD τ sig) (Dev nD) 𝕄 where
  duties g r := if r = 0 then dut (kind g) else ∅
  unitless _ := False
  amount g _ _ := amt (kind g)
  payload g _ d := pay good (kind g) d
  amount_pos g _ _ _ := by
    unfold amt
    split
    · exact Msg.N_pos _
    · exact Msg.N_pos _
    · exact Nat.one_pos

omit [FloatOps F] [Named F] in
instance Rd_payload_storable (g : GSem nD τ sig) (r : ℕ) (d : Dev nD) : BI.Storable (upEmb : UEmb _ 𝕄) ((Rd good).payload g r d) := by
  show BI.Storable upEmb (pay good (kind g) d)
  unfold pay
  split <;> infer_instance

section Facts
omit [FloatOps F] [Named F]

theorem duties_later (g : GSem nD τ sig) : ∀ r, 1 ≤ r → (Rd good).duties g r = ∅ := fun r hr => if_neg (by omega)
theorem duties_bar (c : Dev nD) : (Rd good).duties (barCell c) 0 = Finset.univ.erase c := by
  show dut (kind (barCell c)) = _; rw [kind_bar]; rfl
theorem duties_send (x : Msg) : (Rd good).duties (sendCell x) 0 = {0} := by
  show dut (kind (sendCell x)) = _; rw [kind_send]; rfl
theorem duties_recv (x : Msg) : (Rd good).duties (recvCell x) 0 = {0} := by
  show dut (kind (recvCell x)) = _; rw [kind_recv]; rfl
theorem amount_bar (c d : Dev nD) : (Rd good).amount (barCell c) 0 d = 1 := by
  show amt (kind (barCell c)) = _; rw [kind_bar]; rfl
theorem amount_send (x : Msg) (d : Dev nD) : (Rd good).amount (sendCell x) 0 d = x.N := by
  show amt (kind (sendCell x)) = _; rw [kind_send]; rfl
theorem amount_recv (x : Msg) (d : Dev nD) : (Rd good).amount (recvCell x) 0 d = x.N := by
  show amt (kind (recvCell x)) = _; rw [kind_recv]; rfl
theorem payload_bar (c d : Dev nD) : (Rd good).payload (barCell c) 0 d = barPay d c := by
  show pay good (kind (barCell c)) d = _; rw [kind_bar]; rfl
theorem payload_send (x : Msg) (d : Dev nD) : (Rd good).payload (sendCell x) 0 d = sendPay x := by
  show pay good (kind (sendCell x)) d = _; rw [kind_send]; rfl
theorem payload_recv (x : Msg) (d : Dev nD) : (Rd good).payload (recvCell x) 0 d = recvPay good x := by
  show pay good (kind (recvCell x)) d = _; rw [kind_recv]; rfl
theorem expect_bar (c : Dev nD) : (Rd good).expect (barCell c) 0 = 3 := by
  unfold Schedule.expect Schedule.amountOf
  rw [duties_bar, Finset.sum_congr rfl fun d _ => amount_bar good c d, Finset.sum_const, Finset.card_erase_of_mem (Finset.mem_univ c), Finset.card_univ]
  rfl
theorem expect_send (x : Msg) : (Rd good).expect (sendCell x) 0 = x.N := by
  unfold Schedule.expect Schedule.amountOf; rw [duties_send, Finset.sum_singleton, amount_send]
theorem expect_recv (x : Msg) : (Rd good).expect (recvCell x) 0 = x.N := by
  unfold Schedule.expect Schedule.amountOf; rw [duties_recv, Finset.sum_singleton, amount_recv]
theorem rest_bar (c : Dev nD) : bigSep ((Rd good).duties (barCell c) 0 \ ∅) (fun d => (Rd good).payload (barCell c) 0 d)
    = bigSep (Finset.univ.erase c) fun d => barPay d c := by
  rw [Finset.sdiff_empty, duties_bar]; exact bigSep_congr fun d _ => payload_bar good c d
theorem rest_send (x : Msg) : bigSep ((Rd good).duties (sendCell x) 0 \ ∅) (fun d => (Rd good).payload (sendCell x) 0 d) = sendPay x := by
  rw [Finset.sdiff_empty, duties_send, bigSep_singleton, payload_send]
theorem rest_recv (x : Msg) : bigSep ((Rd good).duties (recvCell x) 0 \ ∅) (fun d => (Rd good).payload (recvCell x) 0 d) = recvPay good x := by
  rw [Finset.sdiff_empty, duties_recv, bigSep_singleton, payload_recv]

end Facts

/-! ## What is owed, and the levels -/

/-- The receive credits of a list of transfers yet to be sent. -/
def Osum : List Msg → CellTallies nD τ sig Unit
  | [] => 0
  | x :: l => Osum l + tallyAt (recvCell x) () x.N
/-- The arrivals yet to be signalled. -/
def Obar : List (Dev nD) → CellTallies nD τ sig Unit → CellTallies nD τ sig Unit
  | [], O => O
  | e :: l, O => Obar l O + tallyAt (barCell e) () 1

def L (g : GSem nD τ sig) : Finset Unit := if g.1.2 = .tc then {()} else ∅
def lv (g : GSem nD τ sig) (_ : Unit) : ℕ :=
  match kind g with
  | some (.inl _) => 1
  | some (.inr (.inr x)) => x.lvl
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [kind_bar]
theorem lv_recv (x : Msg) : lv (recvCell x) () = x.lvl := by unfold lv; rw [kind_recv]
theorem lvl_ge (x : Msg) : 2 ≤ x.lvl := by cases x <;> (dsimp only [Msg.lvl]; decide)

theorem add_pos_cases {A B : CellTallies nD τ sig Unit} {g : GSem nD τ sig} {u : Unit} (h : 0 < (A + B) g u) : 0 < A g u ∨ 0 < B g u := by
  rw [Pi.add_apply, Finsupp.add_apply] at h; omega
theorem tally_pos {g g' : GSem nD τ sig} {u : Unit} {n : ℕ} (h : 0 < (tallyAt g () n : CellTallies nD τ sig Unit) g' u) : g' = g := by
  rw [tallyAt_apply] at h
  by_contra hn
  rw [if_neg (fun h' => hn h'.1)] at h
  exact Nat.lt_irrefl 0 h

theorem Osum_pos : ∀ {l : List Msg} {g : GSem nD τ sig} {u : Unit}, 0 < Osum l g u → ∃ x ∈ l, g = recvCell x
  | [], g, u, h => absurd h (Nat.lt_irrefl 0)
  | x :: l, g, u, h => by
    rcases add_pos_cases h with h | h
    · obtain ⟨y, hy, e⟩ := Osum_pos h
      exact ⟨y, List.mem_cons_of_mem _ hy, e⟩
    · exact ⟨x, List.mem_cons_self, tally_pos h⟩
theorem Obar_pos : ∀ {l : List (Dev nD)} {O : CellTallies nD τ sig Unit} {g : GSem nD τ sig} {u : Unit}, 0 < Obar l O g u →
    (∃ e, g = barCell e) ∨ 0 < O g u
  | [], O, g, u, h => .inr h
  | e :: l, O, g, u, h => by
    rcases add_pos_cases h with h | h
    · exact Obar_pos h
    · exact .inl ⟨e, tally_pos h⟩

omit [FloatOps F] [Named F] in
/-- A wait below everything still owed. -/
theorem mayWait_below (c : Dev nD) (sm : SemLoc sig) (n : ℕ) (hn : lv ((c : Thread nD τ), sm) () ≤ n) (l : List Msg) (hl : ∀ y ∈ l, n < y.lvl) :
    (levAts L lv : sProp 𝕄) ⊢ MayWait (c : Thread nD τ) sm () (Osum l) :=
  MayOwe.of_cut (L := L) (lev := lv) n (fun p hp => by rw [Finset.mem_singleton.mp hp, L_tc]; exact Finset.mem_singleton_self _)
    (fun g u hg => by obtain ⟨y, -, rfl⟩ := Osum_pos hg; exact Finset.mem_singleton_self _)
    (fun p hp => by rw [Finset.mem_singleton.mp hp]; exact hn)
    (fun g u hg => by
      obtain ⟨y, hy, rfl⟩ := Osum_pos hg
      cases u; rw [lv_recv]; exact hl y hy)

/-- The transfers device `c` sends, in order. -/
def sends (c : Dev nD) : List Msg :=
  (![(heads.flatMap fun h => [.p0 0 h, .p0 1 h]) ++ three.map .d0,
    three.map .ed ++ three.map (.gl 0) ++ heads.map (.fw 0),
    three.map (.gl 1),
    three.map (.gl 2) ++ heads.map (.fw 1)] : Fin 4 → List Msg) c

/-- What device `c` owes at launch. -/
def O₀ (c : Dev nD) : CellTallies nD τ sig Unit := Obar (sigs c) (Osum (sends c))

omit [FloatOps F] [Named F] in
/-- The staging waits are below everything owed. -/
theorem mayWait_stage (c : Dev nD) (q : DmaSem sig) (hq : (q : Fin _).val < 6) (O : CellTallies nD τ sig Unit) (hO : O = O₀ c ∨ O = 0) :
    (levAts L lv : sProp 𝕄) ⊢ MayWait (c : Thread nD τ) (.dma q) () O := by
  have hk : lv ((c : Thread nD τ), .dma q) () = 0 := by
    unfold lv
    split
    · rename_i e; exact absurd (congrArg Prod.snd (kind_some e)) (by intro h; cases h)
    · rename_i x e
      have h := congrArg Prod.snd (kind_some e)
      injection h with h'
      have : (x.rsem : Fin _).val = (q : Fin _).val := congrArg Fin.val h'
      rw [rsem_val] at this
      have := rnum_ge x
      omega
    · rfl
  rcases hO with rfl | rfl
  · refine MayOwe.of_cut (L := L) (lev := lv) 0 (fun p hp => by rw [Finset.mem_singleton.mp hp, L_tc]; exact Finset.mem_singleton_self _)
      (fun g u hg => by
        rcases Obar_pos hg with ⟨e, rfl⟩ | h
        · exact Finset.mem_singleton_self _
        · obtain ⟨y, -, rfl⟩ := Osum_pos h; exact Finset.mem_singleton_self _)
      (fun p hp => by rw [Finset.mem_singleton.mp hp]; exact hk.le)
      (fun g u hg => by
        cases u
        rcases Obar_pos hg with ⟨e, rfl⟩ | h
        · rw [lv_bar]; exact Nat.one_pos
        · obtain ⟨y, -, rfl⟩ := Osum_pos h; rw [lv_recv]; have := lvl_ge y; omega)
  · rw [MayWait_zero]; iintro -; iempintro

end Cert.Attn

end
-- ==== Proof.Mach.lean ====
/-
The action machine: a device's list of actions, run on what the device holds.

`Ctl` is what a device holds apart from contents: the regions and how many pieces of each are lent, how far each of its
transfers is, which of the transfers to it have landed, and the transfers it still owes. `CAct.ok` says that an action
may be taken, `CAct.step` what it changes. `wlp` follows the contents. `mach` is the one theorem: a list of actions that
is `ok` all the way is a run.
-/
module

public import proofs.«01_k».proof.Proof.Sched

@[expose] public section

noncomputable section

namespace Cert.Attn

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

/-! ## Control -/

/-- An action without its computation. -/
inductive CAct
  | blk (rd wr : List Rg)
  | send (x : Msg)
  | recv (x : Msg)
  | wsend (x : Msg)
  | merge (x : Msg)

def Act.ctl : Act F → CAct
  | .blk _ rd wr => .blk rd wr
  | .send x => .send x
  | .recv x => .recv x
  | .wsend x => .wsend x
  | .merge x => .merge x

/-- What a device holds, apart from contents. -/
structure Ctl where
  q : Hold
  snd : Msg → ℕ
  rcv : Msg → Bool
  todo : List Msg

/-- The action may be taken. -/
def CAct.ok (c : Dev nD) (s : Ctl) : CAct → Prop
  | .blk rd wr => (∀ r ∈ rd, (s.q r).isSome) ∧ ∀ r ∈ wr, s.q r = some 0
  | .send x => x.src = c ∧ s.snd x = 0 ∧ s.todo = x :: s.todo.tail ∧ ∀ r ∈ x.regs, s.q r = some x.sh
  | .recv x => x.dst = c ∧ s.rcv x = false ∧ (∀ r ∈ x.regs, s.q r = none) ∧ ∀ y ∈ s.todo, x.lvl < y.lvl
  | .wsend x => x.src = c ∧ s.snd x = 1 ∧ s.todo = []
  | .merge x => x.src = c ∧ s.snd x = 2 ∧ ∀ r ∈ x.regs, s.q r = some (x.sh + 1)

instance (c : Dev nD) (s : Ctl) (a : CAct) : Decidable (a.ok c s) := by
  cases a <;> unfold CAct.ok <;> infer_instance

/-- What the action changes. -/
def CAct.step (s : Ctl) : CAct → Ctl
  | .blk _ _ => s
  | .send x => ⟨setQ x.regs (some (x.sh + 1)) s.q, Function.update s.snd x 1, s.rcv, s.todo.tail⟩
  | .recv x => ⟨setQ x.regs (some 0) s.q, s.snd, Function.update s.rcv x true, s.todo⟩
  | .wsend x => ⟨s.q, Function.update s.snd x 2, s.rcv, s.todo⟩
  | .merge x => ⟨setQ x.regs (some x.sh) s.q, Function.update s.snd x 3, s.rcv, s.todo⟩

def okAll (c : Dev nD) : Ctl → List CAct → Prop
  | _, [] => True
  | s, a :: l => a.ok c s ∧ okAll c (a.step s) l

instance okAll_dec (c : Dev nD) : ∀ (l : List CAct) (s : Ctl), Decidable (okAll c s l)
  | [], _ => .isTrue trivial
  | a :: l, s => @instDecidableAnd _ _ _ (okAll_dec c l (a.step s))

def endOf : Ctl → List CAct → Ctl
  | s, [] => s
  | s, a :: l => endOf (a.step s) l

/-! ## Contents -/

variable (good : (r : Rg) → Con F r → Prop)

/-- What must hold of the contents for `Q` to hold after the list, whatever lands, as long as it is `good`. -/
def wlp (Q : St F → Prop) : List (Act F) → St F → Prop
  | [], σ => Q σ
  | .blk B _ _ :: l, σ => wlp Q l (B.run σ)
  | .send x :: l, σ => (∀ r ∈ x.regs, good r (σ r)) ∧ wlp Q l σ
  | .recv x :: l, σ => ∀ σ', (∀ r ∈ x.regs, good r (σ' r)) → wlp Q l (mix x.regs σ' σ)
  | .wsend _ :: l, σ => wlp Q l σ
  | .merge _ :: l, σ => wlp Q l σ

/-- Every computation of the list loads and stores within the regions it names. -/
def oks (l : List (Act F)) : Prop := ∀ B rd wr, Act.blk B rd wr ∈ l → Blk.Ok rd wr B

/-! ## What a device holds -/

/-- Device `c`'s side of its transfer `x`, so far sent (1), waited for (2), returned (3). -/
def sndR (c : Dev nD) (x : Msg) (n : ℕ) : sProp 𝕄 :=
  if x.src = c then
    match n with
    | 0 => iprop(dutyTok ER (sendCell x) 0 0 ∗ dutyTok ER (recvCell x) 0 0 ∗ atPos ER (sendCell x) 0 ∅ 0 ∗ land x)
    | 1 => iprop(cred (tallyAt (sendCell x) () x.N) ∗ atPos ER (sendCell x) 0 ∅ 0)
    | 2 => iprop(atPos ER (sendCell x) 1 ∅ 0 ∗ sendPay x)
    | _ => atPos ER (sendCell x) 1 ∅ 0
  else iprop(emp)
/-- Device `c`'s side of the transfer `x` to it. -/
def rcvR (c : Dev nD) (x : Msg) (b : Bool) : sProp 𝕄 :=
  if x.dst = c then
    match b with
    | false => iprop(cred (tallyAt (recvCell x) () x.N) ∗ atPos ER (recvCell x) 0 ∅ 0)
    | true => atPos ER (recvCell x) 1 ∅ 0
  else iprop(emp)

section Sides
omit [FloatOps F] [Named F]

theorem sndR_0 (x : Msg) : (sndR x.src x 0 : sProp 𝕄)
    = iprop(dutyTok ER (sendCell x) 0 0 ∗ dutyTok ER (recvCell x) 0 0 ∗ atPos ER (sendCell x) 0 ∅ 0 ∗ land x) := if_pos rfl
theorem sndR_1 (x : Msg) : (sndR x.src x 1 : sProp 𝕄) = iprop(cred (tallyAt (sendCell x) () x.N) ∗ atPos ER (sendCell x) 0 ∅ 0) := if_pos rfl
theorem sndR_2 (x : Msg) : (sndR x.src x 2 : sProp 𝕄) = iprop(atPos ER (sendCell x) 1 ∅ 0 ∗ sendPay x) := if_pos rfl
theorem sndR_3 (x : Msg) : (sndR x.src x 3 : sProp 𝕄) = atPos ER (sendCell x) 1 ∅ 0 := if_pos rfl
theorem rcvR_f (x : Msg) : (rcvR x.dst x false : sProp 𝕄) = iprop(cred (tallyAt (recvCell x) () x.N) ∗ atPos ER (recvCell x) 0 ∅ 0) := if_pos rfl
theorem rcvR_t (x : Msg) : (rcvR x.dst x true : sProp 𝕄) = atPos ER (recvCell x) 1 ∅ 0 := if_pos rfl

end Sides

/-- What device `c` holds. -/
def Res (c : Dev nD) (s : Ctl) (σ : St F) : sProp 𝕄 :=
  iprop(own c s.q σ ∗ (∃ W, owes (c : Thread nD τ) (Osum s.todo) W)
    ∗ (bigSep Finset.univ fun x : Msg => sndR c x (s.snd x)) ∗ bigSep Finset.univ fun x : Msg => rcvR c x (s.rcv x))

/-- The cells' invariants and that each is at its one round. -/
def records (K : Cell → ℕ) : sProp 𝕄 :=
  iprop((bigSep Finset.univ fun k : Cell => cellInv ER (Rd good) (K k) (kcell k)) ∗ bigSep Finset.univ fun k : Cell => reached ER (kcell k) 0)

instance records_persistent (K : Cell → ℕ) : BI.Persistent (records good K) := by unfold records; infer_instance

omit [FloatOps F] [Named F] in
theorem inv_at (K : Cell → ℕ) (k : Cell) : (records good K : sProp 𝕄) ⊢ cellInv ER (Rd good) (K k) (kcell k) := by
  unfold records
  have e : (bigSep Finset.univ fun k : Cell => (cellInv ER (Rd good) (K k) (kcell k) : sProp 𝕄)) ⊢ cellInv ER (Rd good) (K k) (kcell k) :=
    bigSep_elim (Finset.mem_univ k)
  iintro ⟨H, -⟩
  iapply e; iexact H
omit [FloatOps F] [Named F] in
theorem reached_at (K : Cell → ℕ) (k : Cell) : (records good K : sProp 𝕄) ⊢ reached ER (kcell k) 0 := by
  unfold records
  have e : (bigSep Finset.univ fun k : Cell => (reached ER (kcell k) 0 : sProp 𝕄)) ⊢ reached ER (kcell k) 0 := bigSep_elim (Finset.mem_univ k)
  iintro ⟨-, H⟩
  iapply e; iexact H

omit [FloatOps F] [Named F] in
theorem big_at {α : Type} (P : Msg → α → sProp 𝕄) (f : Msg → α) (x : Msg) (a : α) (h : f x = a) :
    (bigSep Finset.univ fun y : Msg => P y (f y)) = iprop(P x a ∗ bigSep (Finset.univ.erase x) fun y => P y (f y)) := by
  rw [bigSep_univ_at _ x, h]
omit [FloatOps F] [Named F] in
theorem big_upd {α : Type} (P : Msg → α → sProp 𝕄) (f : Msg → α) (x : Msg) (a : α) :
    (bigSep Finset.univ fun y : Msg => P y (Function.update f x a y)) = iprop(P x a ∗ bigSep (Finset.univ.erase x) fun y => P y (f y)) := by
  rw [bigSep_univ_at _ x, Function.update_self]
  congr 1
  exact bigSep_congr fun y hy => by rw [Function.update_of_ne (Finset.ne_of_mem_erase hy)]

section Opened
omit [FloatOps F] [Named F]

theorem Res_snd (x : Msg) (s : Ctl) (σ : St F) (n : ℕ) (h : s.snd x = n) : (Res x.src s σ : sProp 𝕄)
    = iprop(own x.src s.q σ ∗ (∃ W, owes (x.src : Thread nD τ) (Osum s.todo) W)
      ∗ (sndR x.src x n ∗ bigSep (Finset.univ.erase x) fun y => sndR x.src y (s.snd y)) ∗ bigSep Finset.univ fun y : Msg => rcvR x.src y (s.rcv y)) := by
  unfold Res; rw [big_at (sndR x.src) s.snd x n h]
theorem Res_snd' (x : Msg) (s : Ctl) (σ : St F) (n : ℕ) (q : Hold) (l : List Msg) : (Res x.src ⟨q, Function.update s.snd x n, s.rcv, l⟩ σ : sProp 𝕄)
    = iprop(own x.src q σ ∗ (∃ W, owes (x.src : Thread nD τ) (Osum l) W)
      ∗ (sndR x.src x n ∗ bigSep (Finset.univ.erase x) fun y => sndR x.src y (s.snd y)) ∗ bigSep Finset.univ fun y : Msg => rcvR x.src y (s.rcv y)) := by
  unfold Res; rw [big_upd (sndR x.src) s.snd x n]
theorem Res_rcv (x : Msg) (s : Ctl) (σ : St F) (b : Bool) (h : s.rcv x = b) : (Res x.dst s σ : sProp 𝕄)
    = iprop(own x.dst s.q σ ∗ (∃ W, owes (x.dst : Thread nD τ) (Osum s.todo) W)
      ∗ (bigSep Finset.univ fun y : Msg => sndR x.dst y (s.snd y)) ∗ rcvR x.dst x b ∗ bigSep (Finset.univ.erase x) fun y => rcvR x.dst y (s.rcv y)) := by
  unfold Res; rw [big_at (rcvR x.dst) s.rcv x b h]
theorem Res_rcv' (x : Msg) (s : Ctl) (σ : St F) (b : Bool) (q : Hold) (l : List Msg) : (Res x.dst ⟨q, s.snd, Function.update s.rcv x b, l⟩ σ : sProp 𝕄)
    = iprop(own x.dst q σ ∗ (∃ W, owes (x.dst : Thread nD τ) (Osum l) W)
      ∗ (bigSep Finset.univ fun y : Msg => sndR x.dst y (s.snd y)) ∗ rcvR x.dst x b ∗ bigSep (Finset.univ.erase x) fun y => rcvR x.dst y (s.rcv y)) := by
  unfold Res; rw [big_upd (rcvR x.dst) s.rcv x b]

end Opened

/-! ## Steps -/

/-- A send, on the regions' terms. -/
theorem wp_send_msg (K : Cell → ℕ) (x : Msg) (l : List Msg) (k : KProg F) (Q : PUnit → sProp 𝕄) (q : PosShare TreeShare) (hq : q = piece x.sh) (σ : St F)
    (hg : ∀ r ∈ x.regs, good r (σ r)) (W : Waits sig Unit) :
    iprop(records good K ∗ some_ x.src x.regs q σ ∗ land x ∗ owes (x.src : Thread nD τ) (Osum (x :: l)) W
        ∗ dutyTok ER (sendCell x) 0 0 ∗ dutyTok ER (recvCell x) 0 0)
      ⊢ iprop(((cred (tallyAt (sendCell x) () x.N) ∗ owes (x.src : Thread nD τ) (Osum l) W) -∗ WP x.src k Q)
          -∗ WP x.src (.op (.enqueueDma x.mv (.remote (Dev.tc x.dst) x.mv (.dma x.ssem) x.hsc) (.dma x.rsem) x.wx x.wx ⟨⟨rfl, Or.inl rfl⟩, trivial⟩) fun _ => k) Q) := by
  unfold land
  iintro ⟨#HR, Hs, ⟨%σ', Hd⟩, HO, Ht1, Ht2⟩
  iapply (Rounds.wp_send_pointsTo 𝒱₀ ER (Rd good) (x.src : Thread nD τ) none (c' := (x.dst : Thread nD τ)) (src := x.mv) (dst := x.mv) (q := q)
    (κ₁ := K (.inr (.inl x))) (κ₂ := K (.inr (.inr x)))
    (r₁ := 0) (r₂ := 0) (d₁ := (0 : Dev nD)) (d₂ := (0 : Dev nD)) (fs := glue x.src x σ) (fd := glue x.dst x σ') (k := fun _ => k) (Es := Set.univ) (Q := Q)
    (by rw [duties_send]; exact Finset.mem_singleton_self _) (by rw [duties_recv]; exact Finset.mem_singleton_self _)
    () () x.N rfl (amount_send good x 0) (amount_recv good x 0) (Osum l) rfl (W := W)
    (by rw [payload_send, ← some_glue]; unfold sendPay; rw [hq]; iintro H; iexists σ; iexact H)
    (by
      rw [payload_recv, landed_eq]; unfold recvPay
      iintro H; iexists σ
      isplitr; · ipureintro; exact hg
      iexact H))
  isplitr; · iapply (inv_at good K (.inr (.inl x))); iexact HR
  isplitr; · iapply (inv_at good K (.inr (.inr x))); iexact HR
  isplitl [Hs]; · rw [← some_glue]; iexact Hs
  isplitl [Hd]; · rw [← some_glue]; iexact Hd
  isplitl [HO]; · iexact HO
  isplitl [Ht1]; · iexact Ht1
  isplitr; · iapply (reached_at good K (.inr (.inl x))); iexact HR
  isplitl [Ht2]; · iexact Ht2
  iapply (reached_at good K (.inr (.inr x))); iexact HR

/-- A wait for a receipt. -/
theorem wp_recv_msg (K : Cell → ℕ) (x : Msg) (O : CellTallies nD τ sig Unit) (k : KProg F) (Q : PUnit → sProp 𝕄) (W : Waits sig Unit) :
    iprop(records good K ∗ cred (tallyAt (recvCell x) () x.N) ∗ owes (x.dst : Thread nD τ) O W ∗ MayWait (x.dst : Thread nD τ) (.dma x.rsem) () O
        ∗ atPos ER (recvCell x) 0 ∅ 0)
      ⊢ iprop(((owes (x.dst : Thread nD τ) O (insert (SemLoc.dma x.rsem, ()) W) ∗ atPos ER (recvCell x) 1 ∅ 0 ∗ recvPay good x) -∗ WP x.dst k Q)
          -∗ WP x.dst (.op (.waitDma2 x.rsem x.mv x.mv x.wx x.wx) fun _ => k) Q) := by
  iintro ⟨#HR, Hc, HO, Hm, Ha⟩ Hk
  iapply (Rounds.wp_wait_rest_token 𝒱₀ ER (Rd good) (x.dst : Thread nD τ) none (κ := K (.inr (.inr x)))
      (wpE_waitDma2_eq 𝒱₀ (x.dst : Thread nD τ) none Set.univ) (Set.mem_univ _) () (O := O) (W := W) (R := 0) (m := 0) (T := ∅)
      (by rw [Nat.zero_add, expect_recv]; rfl)) $$ [Hc HO Hm Ha]
  · isplitr; · iapply (inv_at good K (.inr (.inr x))); iexact HR
    isplitl [Hc]; · iexact Hc
    isplitl [HO]; · iexact HO
    isplitl [Hm]; · iexact Hm
    iexact Ha
  iintro ⟨HO, Ha, -, Hp⟩
  ihave Hp := (Entails.of_eq (rest_recv good x)) $$ Hp
  iapply Hk
  isplitl [HO]; · iexact HO
  isplitl [Ha]; · iexact Ha
  iexact Hp

/-- A wait for a send's completion. -/
theorem wp_wsend_msg (K : Cell → ℕ) (x : Msg) (O : CellTallies nD τ sig Unit) (k : KProg F) (Q : PUnit → sProp 𝕄) (W : Waits sig Unit) :
    iprop(records good K ∗ cred (tallyAt (sendCell x) () x.N) ∗ owes (x.src : Thread nD τ) O W ∗ MayWait (x.src : Thread nD τ) (.dma x.ssem) () O
        ∗ atPos ER (sendCell x) 0 ∅ 0)
      ⊢ iprop(((owes (x.src : Thread nD τ) O (insert (SemLoc.dma x.ssem, ()) W) ∗ atPos ER (sendCell x) 1 ∅ 0 ∗ sendPay x) -∗ WP x.src k Q)
          -∗ WP x.src (.op (.waitDma2 x.ssem x.mv x.mv x.wx x.wx) fun _ => k) Q) := by
  iintro ⟨#HR, Hc, HO, Hm, Ha⟩ Hk
  iapply (Rounds.wp_wait_rest_token 𝒱₀ ER (Rd good) (x.src : Thread nD τ) none (κ := K (.inr (.inl x)))
      (wpE_waitDma2_eq 𝒱₀ (x.src : Thread nD τ) none Set.univ) (Set.mem_univ _) () (O := O) (W := W) (R := 0) (m := 0) (T := ∅)
      (by rw [Nat.zero_add, expect_send]; rfl)) $$ [Hc HO Hm Ha]
  · isplitr; · iapply (inv_at good K (.inr (.inl x))); iexact HR
    isplitl [Hc]; · iexact Hc
    isplitl [HO]; · iexact HO
    isplitl [Hm]; · iexact Hm
    iexact Ha
  iintro ⟨HO, Ha, -, Hp⟩
  ihave Hp := (Entails.of_eq (rest_send good x)) $$ Hp
  iapply Hk
  isplitl [HO]; · iexact HO
  isplitl [Ha]; · iexact Ha
  iexact Hp

/-! ## The run -/

/-- A list of actions that may be taken one after the other, each computation within its regions, runs, and ends holding
    what `endOf` says with contents of which `Q` holds. -/
theorem mach (c : Dev nD) (K : Cell → ℕ) (Q : St F → Prop) (Kt : PUnit → sProp 𝕄) : ∀ (l : List (Act F)) (s : Ctl) (σ : St F),
    okAll c s (l.map Act.ctl) → oks l → wlp good Q l σ →
    iprop(records good K ∗ levAts L lv ∗ Res c s σ)
      ⊢ iprop((∀ σ', ⌜Q σ'⌝ -∗ Res c (endOf s (l.map Act.ctl)) σ' -∗ |={Set.univ}=> Kt ⟨⟩) -∗ WP c (Act.prog l) Kt)
  | [], s, σ, _, _, hQ => by
    unfold Act.prog WP
    iintro ⟨-, -, H⟩ Hk
    rw [wp_ret]
    iapply Hk $$ %σ
    · ipureintro; exact hQ
    · iexact H
  | .blk B rd wr :: l, s, σ, ok, hok, hQ => by
    have ih := mach c K Q Kt l s (B.run σ) ok.2 (fun B rd wr h => hok B rd wr (List.mem_cons_of_mem _ h)) hQ
    have hb := wp_blk c s.q rd wr ok.1.1 ok.1.2 (Act.prog l) Kt B σ (hok B rd wr List.mem_cons_self)
    rw [show endOf s (List.map Act.ctl (.blk B rd wr :: l)) = endOf s (l.map Act.ctl) from rfl, show (Res c s σ : sProp 𝕄) = _ from Res.eq_1 _ _ _]
    rw [show (Res c s (B.run σ) : sProp 𝕄) = _ from Res.eq_1 _ _ _] at ih
    iintro ⟨#HR, #HL, Ho, Hrest⟩ Hk
    iapply hb $$ Ho
    iintro Ho
    iapply ih $$ [Ho Hrest] Hk
    isplitr; · iexact HR
    isplitr; · iexact HL
    isplitl [Ho]; · iexact Ho
    iexact Hrest
  | .send x :: l, s, σ, ok, hok, hQ => by
    have ih := mach c K Q Kt l (CAct.step s (.send x)) σ ok.2 (fun B rd wr h => hok B rd wr (List.mem_cons_of_mem _ h)) hQ.2
    obtain ⟨⟨rfl, h0, ht, hq⟩, -⟩ := ok
    rw [show endOf s (List.map Act.ctl (.send x :: l)) = endOf (CAct.step s (.send x)) (l.map Act.ctl) from rfl, Res_snd x s σ 0 h0, sndR_0, ht]
    iintro ⟨#HR, #HL, Ho, ⟨%W, HO⟩, ⟨⟨Ht1, Ht2, Ha, Hl⟩, Hs⟩, Hr⟩ Hk
    ihave Ho := (own_lend x.src s.q σ x.regs x.sh hq) $$ Ho
    icases Ho with ⟨Hp, Ho⟩
    iapply (wp_send_msg good K x s.todo.tail (Act.prog l) Kt (piece x.sh) rfl σ hQ.1 W) $$ [Hp Hl HO Ht1 Ht2]
    · isplitr; · iexact HR
      isplitl [Hp]; · iexact Hp
      isplitl [Hl]; · iexact Hl
      isplitl [HO]; · iexact HO
      isplitl [Ht1]; · iexact Ht1
      iexact Ht2
    iintro ⟨Hc, HO⟩
    iapply ih $$ [Ho HO Hc Ha Hs Hr] Hk
    isplitr; · iexact HR
    isplitr; · iexact HL
    rw [show CAct.step s (.send x) = ⟨setQ x.regs (some (x.sh + 1)) s.q, Function.update s.snd x 1, s.rcv, s.todo.tail⟩ from rfl, Res_snd', sndR_1]
    isplitl [Ho]; · iexact Ho
    isplitl [HO]; · iexists W; iexact HO
    isplitl [Hc Ha Hs]
    · isplitl [Hc Ha]
      · isplitl [Hc]; · iexact Hc
        iexact Ha
      iexact Hs
    iexact Hr
  | .recv x :: l, s, σ, ok, hok, hQ => by
    have ih := fun σ' hσ' => mach c K Q Kt l (CAct.step s (.recv x)) (mix x.regs σ' σ) ok.2 (fun B rd wr h => hok B rd wr (List.mem_cons_of_mem _ h)) (hQ σ' hσ')
    obtain ⟨⟨rfl, h0, hq, hl⟩, -⟩ := ok
    rw [show endOf s (List.map Act.ctl (.recv x :: l)) = endOf (CAct.step s (.recv x)) (l.map Act.ctl) from rfl, Res_rcv x s σ false h0, rcvR_f]
    iintro ⟨#HR, #HL, Ho, ⟨%W, HO⟩, Hs, ⟨⟨Hc, Ha⟩, Hr⟩⟩ Hk
    iapply (wp_recv_msg good K x (Osum s.todo) (Act.prog l) Kt W) $$ [Hc HO Ha]
    · isplitr; · iexact HR
      isplitl [Hc]; · iexact Hc
      isplitl [HO]; · iexact HO
      isplitr
      · iapply (mayWait_below x.dst (.dma x.rsem) x.lvl (lv_recv x).le s.todo hl); iexact HL
      iexact Ha
    unfold recvPay
    iintro ⟨HO, Ha, %σ', %hσ', Hp⟩
    ihave Ho := (own_gain x.dst s.q σ σ' x.regs hq) $$ [Hp Ho]
    · isplitl [Hp]; · iexact Hp
      iexact Ho
    iapply (ih σ' hσ') $$ [Ho HO Ha Hs Hr] Hk
    isplitr; · iexact HR
    isplitr; · iexact HL
    rw [show CAct.step s (.recv x) = ⟨setQ x.regs (some 0) s.q, s.snd, Function.update s.rcv x true, s.todo⟩ from rfl, Res_rcv', rcvR_t]
    isplitl [Ho]; · iexact Ho
    isplitl [HO]; · iexists _; iexact HO
    isplitl [Hs]; · iexact Hs
    isplitl [Ha]; · iexact Ha
    iexact Hr
  | .wsend x :: l, s, σ, ok, hok, hQ => by
    have ih := mach c K Q Kt l (CAct.step s (.wsend x)) σ ok.2 (fun B rd wr h => hok B rd wr (List.mem_cons_of_mem _ h)) hQ
    obtain ⟨⟨rfl, h0, ht⟩, -⟩ := ok
    rw [show endOf s (List.map Act.ctl (.wsend x :: l)) = endOf (CAct.step s (.wsend x)) (l.map Act.ctl) from rfl, Res_snd x s σ 1 h0, sndR_1, show Osum s.todo = 0 by rw [ht]; rfl]
    iintro ⟨#HR, #HL, Ho, ⟨%W, HO⟩, ⟨⟨Hc, Ha⟩, Hs⟩, Hr⟩ Hk
    iapply (wp_wsend_msg good K x 0 (Act.prog l) Kt W) $$ [Hc HO Ha]
    · isplitr; · iexact HR
      isplitl [Hc]; · iexact Hc
      isplitl [HO]; · iexact HO
      isplitr; · rw [MayWait_zero]; iempintro
      iexact Ha
    iintro ⟨HO, Ha, Hp⟩
    iapply ih $$ [Ho HO Hp Ha Hs Hr] Hk
    isplitr; · iexact HR
    isplitr; · iexact HL
    rw [show CAct.step s (.wsend x) = ⟨s.q, Function.update s.snd x 2, s.rcv, s.todo⟩ from rfl, Res_snd', sndR_2,
      show Osum s.todo = 0 by rw [ht]; rfl]
    isplitl [Ho]; · iexact Ho
    isplitl [HO]; · iexists _; iexact HO
    isplitl [Hp Ha Hs]
    · isplitl [Hp Ha]
      · isplitl [Ha]; · iexact Ha
        iexact Hp
      iexact Hs
    iexact Hr
  | .merge x :: l, s, σ, ok, hok, hQ => by
    have ih := mach c K Q Kt l (CAct.step s (.merge x)) σ ok.2 (fun B rd wr h => hok B rd wr (List.mem_cons_of_mem _ h)) hQ
    obtain ⟨⟨rfl, h0, hq⟩, -⟩ := ok
    rw [show endOf s (List.map Act.ctl (.merge x :: l)) = endOf (CAct.step s (.merge x)) (l.map Act.ctl) from rfl, Res_snd x s σ 2 h0, sndR_2]
    unfold sendPay
    iintro ⟨#HR, #HL, Ho, HO, ⟨⟨Ha, %σ', Hp⟩, Hs⟩, Hr⟩ Hk
    ihave Ho := (own_back x.src s.q σ σ' x.regs x.sh hq) $$ [Hp Ho]
    · isplitl [Hp]; · iexact Hp
      iexact Ho
    rw [show (Act.prog (.merge x :: l) : KProg F) = Act.prog l from rfl]
    iapply ih $$ [Ho HO Ha Hs Hr] Hk
    isplitr; · iexact HR
    isplitr; · iexact HL
    rw [show CAct.step s (.merge x) = ⟨setQ x.regs (some x.sh) s.q, Function.update s.snd x 3, s.rcv, s.todo⟩ from rfl, Res_snd', sndR_3]
    isplitl [Ho]; · iexact Ho
    isplitl [HO]; · iexact HO
    isplitl [Ha Hs]
    · isplitl [Ha]; · iexact Ha
      iexact Hs
    iexact Hr

end Cert.Attn

end
-- ==== Proof.Check.lean ====
/-
Each device's list of actions is within the machine's rules: its computations load and store inside the regions they
name, and every action may be taken when its turn comes.
-/
module

public import proofs.«01_k».proof.Proof.Roll
public import proofs.«01_k».proof.Proof.Mach

@[expose] public section

noncomputable section

namespace Cert.Attn

open Cert.KernelIdeal Cert.KernelIdeal.Gen

open Idealize.ShloMosaic
open Idealize.ShloMosaic.TcCoe
open Idealize.SL.Sem

variable {F : FTy → Type} [FloatOps F] [Named F]

/-! ## Boxes inside regions -/

theorem sub_p0 (h : Fin 8) (r : Fin 2) {o2 o3 s2 s3 : ℕ} (inb) :
    (Rect.unit (s := S8x2x512x128) ![h.val, r.val, o2, o3] ![1, 1, s2, s3] inb).set ⊆ Rg.set (.p0 h r) := fun i hi => by
  have hi := Rect.mem_set_unit.mp hi
  have h0 : h.val ≤ (i 0).val ∧ (i 0).val < h.val + 1 := hi 0
  have h1 : r.val ≤ (i 1).val ∧ (i 1).val < r.val + 1 := hi 1
  exact Finset.mem_filter.mpr ⟨Finset.mem_univ _, by omega, by omega⟩
theorem sub_gl (r : Fin 3) {o1 o2 o3 s1 s2 s3 : ℕ} (inb) :
    (Rect.unit (s := S3x9x32x128) ![r.val, o1, o2, o3] ![1, s1, s2, s3] inb).set ⊆ Rg.set (.gl r) := fun i hi => by
  have hi := Rect.mem_set_unit.mp hi
  have h0 : r.val ≤ (i 0).val ∧ (i 0).val < r.val + 1 := hi 0
  exact Finset.mem_filter.mpr ⟨Finset.mem_univ _, by omega⟩

/-! ## The pieces keep to their regions -/

section Helpers

variable {rd wr : List Rg} (h : Fin 8)

theorem Ok_ldX  {k} (m : .x ∈ rd) (H : ∀ v, Blk.Ok (F := F) rd wr (k v)) : Blk.Ok rd wr (ldX k) := ⟨m, Finset.subset_univ _, H⟩
theorem Ok_ldX32  {k} (m : .x ∈ rd) (H : ∀ v, Blk.Ok (F := F) rd wr (k v)) : Blk.Ok rd wr (ldX32 k) := ⟨m, Finset.subset_univ _, H⟩
theorem Ok_ldX128  {k} (m : .x ∈ rd) (H : ∀ v, Blk.Ok (F := F) rd wr (k v)) : Blk.Ok rd wr (ldX128 k) := ⟨m, Finset.subset_univ _, H⟩
theorem Ok_ldWq  {k} (m : .wq ∈ rd) (H : ∀ v, Blk.Ok (F := F) rd wr (k v)) : Blk.Ok rd wr (ldWq h k) := ⟨m, Finset.subset_univ _, H⟩
theorem Ok_ldWoH  {k} (m : .wo ∈ rd) (H : ∀ v, Blk.Ok (F := F) rd wr (k v)) : Blk.Ok rd wr (ldWoH h k) := ⟨m, Finset.subset_univ _, H⟩
theorem Ok_ldWo  {k} (m : .wo ∈ rd) (H : ∀ v, Blk.Ok (F := F) rd wr (k v)) : Blk.Ok rd wr (ldWo k) := ⟨m, Finset.subset_univ _, H⟩
theorem Ok_ldK512 {o : ℕ} {ho : o + 512 ≤ 1024} {k} (m : .k ∈ rd) (H : ∀ v, Blk.Ok (F := F) rd wr (k v)) : Blk.Ok rd wr (ldK512 h o ho k) := ⟨m, Finset.subset_univ _, H⟩
theorem Ok_ldV512 {o : ℕ} {ho : o + 512 ≤ 1024} {k} (m : .v ∈ rd) (H : ∀ v, Blk.Ok (F := F) rd wr (k v)) : Blk.Ok rd wr (ldV512 h o ho k) := ⟨m, Finset.subset_univ _, H⟩
theorem Ok_ldK32  {k} (m : .k ∈ rd) (H : ∀ v, Blk.Ok (F := F) rd wr (k v)) : Blk.Ok rd wr (ldK32 h k) := ⟨m, Finset.subset_univ _, H⟩
theorem Ok_ldV32  {k} (m : .v ∈ rd) (H : ∀ v, Blk.Ok (F := F) rd wr (k v)) : Blk.Ok rd wr (ldV32 h k) := ⟨m, Finset.subset_univ _, H⟩
theorem Ok_ldKA  {k} (m : .k ∈ rd) (H : ∀ v, Blk.Ok (F := F) rd wr (k v)) : Blk.Ok rd wr (ldKA h k) := ⟨m, Finset.subset_univ _, H⟩
theorem Ok_ldVA  {k} (m : .v ∈ rd) (H : ∀ v, Blk.Ok (F := F) rd wr (k v)) : Blk.Ok rd wr (ldVA h k) := ⟨m, Finset.subset_univ _, H⟩
theorem Ok_ldMd (b : Fin 4) {k} (m : .md ∈ rd) (H : ∀ v, Blk.Ok (F := F) rd wr (k v)) : Blk.Ok rd wr (ldMd b k) := ⟨m, Finset.subset_univ _, H⟩
theorem Ok_ldP32  {k} (m : .p0 h 0 ∈ rd) (H : ∀ v, Blk.Ok (F := F) rd wr (k v)) : Blk.Ok rd wr (ldP32 h k) := ⟨m, sub_p0 h 0 _, H⟩
theorem Ok_ldP128  {k} (m : .p0 h 1 ∈ rd) (H : ∀ v, Blk.Ok (F := F) rd wr (k v)) : Blk.Ok rd wr (ldP128 h k) := ⟨m, sub_p0 h 1 _, H⟩
theorem Ok_ldGl (r : Fin 3) {k} (m : .gl r ∈ rd) (H : ∀ v, Blk.Ok (F := F) rd wr (k v)) : Blk.Ok rd wr (ldGl h r k) := ⟨m, sub_gl r _, H⟩
theorem Ok_ldGl8 (r : Fin 3) {k} (m : .gl r ∈ rd) (H : ∀ v, Blk.Ok (F := F) rd wr (k v)) : Blk.Ok rd wr (ldGl8 r k) := ⟨m, sub_gl r _, H⟩
theorem Ok_ldEd  {k} (m : .ed ∈ rd) (H : ∀ v, Blk.Ok (F := F) rd wr (k v)) : Blk.Ok rd wr (ldEd h k) := ⟨m, Finset.subset_univ _, H⟩
theorem Ok_ldEd8  {k} (m : .ed ∈ rd) (H : ∀ v, Blk.Ok (F := F) rd wr (k v)) : Blk.Ok rd wr (ldEd8 k) := ⟨m, Finset.subset_univ _, H⟩
theorem Ok_ldPA  {k} (m : .p0 h 0 ∈ rd) (H : ∀ v, Blk.Ok (F := F) rd wr (k v)) : Blk.Ok rd wr (ldPA h k) := ⟨m, sub_p0 h 0 _, H⟩
theorem Ok_ldPB  {k} (m : .p0 h 1 ∈ rd) (H : ∀ v, Blk.Ok (F := F) rd wr (k v)) : Blk.Ok rd wr (ldPB h k) := ⟨m, sub_p0 h 1 _, H⟩
theorem Ok_ldOA  {k} (m : .out ∈ rd) (H : ∀ v, Blk.Ok (F := F) rd wr (k v)) : Blk.Ok rd wr (ldOA k) := ⟨m, Finset.subset_univ _, H⟩
theorem Ok_ldOB  {k} (m : .out ∈ rd) (H : ∀ v, Blk.Ok (F := F) rd wr (k v)) : Blk.Ok rd wr (ldOB k) := ⟨m, Finset.subset_univ _, H⟩
theorem Ok_ldA32  {k} (m : .acc ∈ rd) (H : ∀ v, Blk.Ok (F := F) rd wr (k v)) : Blk.Ok rd wr (ldA32 h k) := ⟨m, Finset.subset_univ _, H⟩
theorem Ok_ldA128  {k} (m : .acc ∈ rd) (H : ∀ v, Blk.Ok (F := F) rd wr (k v)) : Blk.Ok rd wr (ldA128 h k) := ⟨m, Finset.subset_univ _, H⟩
theorem Ok_stMd (b : Fin 4) {w} {K} (m : .md ∈ rd) (m' : .md ∈ wr) (H : Blk.Ok (F := F) rd wr K) : Blk.Ok rd wr (stMd b w K) := ⟨m, Finset.subset_univ _, fun _ => ⟨m', Finset.subset_univ _, H⟩⟩
theorem Ok_stP256 (r o : Fin 2) {w} {K} (m : .p0 h r ∈ rd) (m' : .p0 h r ∈ wr) (H : Blk.Ok (F := F) rd wr K) : Blk.Ok rd wr (stP256 h r o w K) := ⟨m, sub_p0 h r _, fun _ => ⟨m', sub_p0 h r _, H⟩⟩
theorem Ok_stP32  {w} {K} (m : .p0 h 0 ∈ rd) (m' : .p0 h 0 ∈ wr) (H : Blk.Ok (F := F) rd wr K) : Blk.Ok rd wr (stP32 h w K) := ⟨m, sub_p0 h 0 _, fun _ => ⟨m', sub_p0 h 0 _, H⟩⟩
theorem Ok_stP128  {w} {K} (m : .p0 h 1 ∈ rd) (m' : .p0 h 1 ∈ wr) (H : Blk.Ok (F := F) rd wr K) : Blk.Ok rd wr (stP128 h w K) := ⟨m, sub_p0 h 1 _, fun _ => ⟨m', sub_p0 h 1 _, H⟩⟩
theorem Ok_stD32  {w} {K} (m : .d0 ∈ rd) (m' : .d0 ∈ wr) (H : Blk.Ok (F := F) rd wr K) : Blk.Ok rd wr (stD32 h w K) := ⟨m, Finset.subset_univ _, fun _ => ⟨m', Finset.subset_univ _, H⟩⟩
theorem Ok_stD128  {w} {K} (m : .d0 ∈ rd) (m' : .d0 ∈ wr) (H : Blk.Ok (F := F) rd wr K) : Blk.Ok rd wr (stD128 h w K) := ⟨m, Finset.subset_univ _, fun _ => ⟨m', Finset.subset_univ _, H⟩⟩
theorem Ok_stGl (r : Fin 3) {w} {K} (m : .gl r ∈ rd) (m' : .gl r ∈ wr) (H : Blk.Ok (F := F) rd wr K) : Blk.Ok rd wr (stGl h r w K) := ⟨m, sub_gl r _, fun _ => ⟨m', sub_gl r _, H⟩⟩
theorem Ok_stGl8 (r : Fin 3) {w} {K} (m : .gl r ∈ rd) (m' : .gl r ∈ wr) (H : Blk.Ok (F := F) rd wr K) : Blk.Ok rd wr (stGl8 h r w K) := ⟨m, sub_gl r _, fun _ => ⟨m', sub_gl r _, H⟩⟩
theorem Ok_stEd  {w} {K} (m : .ed ∈ rd) (m' : .ed ∈ wr) (H : Blk.Ok (F := F) rd wr K) : Blk.Ok rd wr (stEd h w K) := ⟨m, Finset.subset_univ _, fun _ => ⟨m', Finset.subset_univ _, H⟩⟩
theorem Ok_stEd8  {w} {K} (m : .ed ∈ rd) (m' : .ed ∈ wr) (H : Blk.Ok (F := F) rd wr K) : Blk.Ok rd wr (stEd8 h w K) := ⟨m, Finset.subset_univ _, fun _ => ⟨m', Finset.subset_univ _, H⟩⟩
theorem Ok_stOA  {w} {K} (m : .out ∈ rd) (m' : .out ∈ wr) (H : Blk.Ok (F := F) rd wr K) : Blk.Ok rd wr (stOA w K) := ⟨m, Finset.subset_univ _, fun _ => ⟨m', Finset.subset_univ _, H⟩⟩
theorem Ok_stOB  {w} {K} (m : .out ∈ rd) (m' : .out ∈ wr) (H : Blk.Ok (F := F) rd wr K) : Blk.Ok rd wr (stOB w K) := ⟨m, Finset.subset_univ _, fun _ => ⟨m', Finset.subset_univ _, H⟩⟩
theorem Ok_stA32  {w} {K} (m : .acc ∈ rd) (m' : .acc ∈ wr) (H : Blk.Ok (F := F) rd wr K) : Blk.Ok rd wr (stA32 h w K) := ⟨m, Finset.subset_univ _, fun _ => ⟨m', Finset.subset_univ _, H⟩⟩
theorem Ok_stA128  {w} {K} (m : .acc ∈ rd) (m' : .acc ∈ wr) (H : Blk.Ok (F := F) rd wr K) : Blk.Ok rd wr (stA128 h w K) := ⟨m, Finset.subset_univ _, fun _ => ⟨m', Finset.subset_univ _, H⟩⟩

theorem Ok_headB {qb : FVec F S256x128 .bf16} {b : Fin 4} {o : ℕ} {ho : o + 512 ≤ 1024} {r s : Fin 2} {K : FVec F S256x128 .f32 → FVec F S256x1 .f32 → Blk F}
    (mk : .k ∈ rd) (mv : .v ∈ rd) (mm : .md ∈ rd) (mp : .p0 h r ∈ rd) (mp' : .p0 h r ∈ wr) (H : ∀ c l, Blk.Ok rd wr (K c l)) : Blk.Ok rd wr (headB h qb b o ho r s K) :=
  Ok_ldK512 h mk fun _ => Ok_ldMd b mm fun _ => Ok_ldV512 h mv fun _ => Ok_ldK32 h mk fun _ => Ok_ldV32 h mv fun _ => Ok_stP256 h r s mp mp' (H _ _)
theorem Ok_globBody (r : Fin 3) {k v : Vec F S1x1024x1x128 .f32} {K : Blk F} (mx : .x ∈ rd) (mw : .wq ∈ rd) (mg : .gl r ∈ rd) (mg' : .gl r ∈ wr) (H : Blk.Ok rd wr K) :
    Blk.Ok rd wr (globBody h r k v K) :=
  Ok_ldX32 mx fun _ => Ok_ldWq h mw fun _ => Ok_stGl h r mg mg' (Ok_stGl8 h r mg mg' H)

end Helpers

def okA : Act F → Prop
  | .blk B rd wr => Blk.Ok rd wr B
  | _ => True

theorem ok_madd : okA (.blk (maddInit F) [.md] [.md]) := by
  have m : Rg.md ∈ [Rg.md] := by simp
  exact Ok_stMd 0 m m (Ok_stMd 1 m m (Ok_stMd 2 m m (Ok_stMd 3 m m trivial)))
theorem ok_head (h : Fin 8) : okA (aHead F h) :=
  Ok_ldX (by simp) fun _ => Ok_ldWq h (by simp) fun _ =>
  Ok_ldK512 h (by simp) fun _ => Ok_ldMd 0 (by simp) fun _ => Ok_ldV512 h (by simp) fun _ => Ok_stP256 h 0 0 (by simp) (by simp) <|
  Ok_ldK512 h (by simp) fun _ => Ok_ldV512 h (by simp) fun _ => Ok_stP32 h (by simp) (by simp) <| Ok_stD32 h (by simp) (by simp) <|
  Ok_headB h (by simp) (by simp) (by simp) (by simp) (by simp) fun _ _ =>
  Ok_headB h (by simp) (by simp) (by simp) (by simp) (by simp) fun _ _ =>
  Ok_headB h (by simp) (by simp) (by simp) (by simp) (by simp) fun _ _ =>
  Ok_stP128 h (by simp) (by simp) <| Ok_stD128 h (by simp) (by simp) trivial
theorem ok_wo (h : Fin 8) : okA (aWo F h) :=
  Ok_ldOA (by simp) fun _ => Ok_ldPA h (by simp) fun _ => Ok_ldWoH h (by simp) fun _ => Ok_stOA (by simp) (by simp) <|
  Ok_ldOB (by simp) fun _ => Ok_ldPB h (by simp) fun _ => Ok_ldWoH h (by simp) fun _ => Ok_stOB (by simp) (by simp) trivial
theorem ok_zero : okA (aZero F) :=
  ⟨by simp, Finset.subset_univ _, fun _ => ⟨by simp, Finset.subset_univ _, trivial⟩⟩
theorem ok_gl (r : Fin 3) (h : Fin 8) : okA (aGl F r h) :=
  Ok_ldKA h (by simp) fun _ => Ok_ldVA h (by simp) fun _ => Ok_globBody h r (by simp) (by simp) (by simp) (by simp) trivial
theorem ok_dev1 (h : Fin 8) : okA (F := F) (.blk (dev1Head h) [.x, .wq, .k, .v, .gl 0, .ed] [.gl 0, .ed]) :=
  Ok_ldKA h (by simp) fun _ => Ok_ldVA h (by simp) fun _ => Ok_ldKA h (by simp) fun _ => Ok_ldVA h (by simp) fun _ =>
  Ok_globBody h 0 (by simp) (by simp) (by simp) (by simp) <|
  Ok_ldX128 (by simp) fun _ => Ok_ldWq h (by simp) fun _ => Ok_stEd h (by simp) (by simp) <| Ok_stEd8 h (by simp) (by simp) trivial
theorem ok_acc (h : Fin 8) : okA (F := F) (.blk (accStore h) [.p0 h 0, .p0 h 1, .gl 0, .gl 1, .gl 2, .ed, .acc] [.acc]) :=
  Ok_ldP32 h (by simp) fun _ => Ok_ldGl h 0 (by simp) fun _ => Ok_ldGl h 1 (by simp) fun _ => Ok_ldGl h 2 (by simp) fun _ => Ok_stA32 h (by simp) (by simp) <|
  Ok_ldP128 h (by simp) fun _ => Ok_ldEd h (by simp) fun _ => Ok_stA128 h (by simp) (by simp) trivial
theorem ok_lt : okA (.blk (ltStores F) [.d0, .gl 0, .gl 1, .gl 2, .ed, .lt] [.lt]) :=
  ⟨by simp, Finset.subset_univ _, fun _ => Ok_ldGl8 0 (by simp) fun _ => Ok_ldGl8 1 (by simp) fun _ => Ok_ldGl8 2 (by simp) fun _ =>
    ⟨by simp, Finset.subset_univ _, fun _ => ⟨by simp, Finset.subset_univ _, by simp, Finset.subset_univ _, fun _ => Ok_ldEd8 (by simp) fun _ =>
      ⟨by simp, Finset.subset_univ _, fun _ => ⟨by simp, Finset.subset_univ _, trivial⟩⟩⟩⟩⟩
theorem ok_div (h : Fin 8) : okA (F := F) (.blk (divStore h) [.acc, .lt] [.acc]) :=
  Ok_ldA32 h (by simp) fun _ => ⟨by simp, Finset.subset_univ _, fun _ => Ok_stA32 h (by simp) (by simp) <|
  Ok_ldA128 h (by simp) fun _ => ⟨by simp, Finset.subset_univ _, fun _ => Ok_stA128 h (by simp) (by simp) trivial⟩⟩
theorem ok_fin : okA (.blk (finalB F) [.acc, .wo, .out] [.out]) :=
  ⟨by simp, Finset.subset_univ _, fun _ => Ok_ldWo (by simp) fun _ => ⟨by simp, Finset.subset_univ _, fun _ => ⟨by simp, Finset.subset_univ _,
    by simp, Finset.subset_univ _, fun _ => Ok_ldWo (by simp) fun _ => ⟨by simp, Finset.subset_univ _, fun _ => ⟨by simp, Finset.subset_univ _, trivial⟩⟩⟩⟩⟩

/-! ## The lists -/

variable (F) in
/-- Device `c`'s actions, with the returns of what its sends had lent. -/
def full (c : Dev nD) : List (Act F) := acts F c ++ (sends c).reverse.map .merge

theorem prog_merges : ∀ l : List Msg, Act.prog (F := F) (l.map .merge) = .ret ⟨⟩
  | [] => rfl
  | _ :: l => prog_merges l
theorem blk_prog_congr (K K' : KProg F) (e : K = K') (B : Blk F) : B.prog K = B.prog K' := by rw [e]
theorem prog_append (m : List Msg) : ∀ l : List (Act F), Act.prog (l ++ m.map .merge) = Act.prog l
  | [] => prog_merges m
  | .blk B _ _ :: l => blk_prog_congr _ _ (prog_append m l) B
  | .send x :: l => congrArg (fun p => Prog.op _ fun _ => p) (prog_append m l)
  | .recv x :: l => congrArg (fun p => Prog.op _ fun _ => p) (prog_append m l)
  | .wsend x :: l => congrArg (fun p => Prog.op _ fun _ => p) (prog_append m l)
  | .merge _ :: l => prog_append m l

theorem prog_full (c : Dev nD) : Act.prog (full F c) = Act.prog (acts F c) := prog_append _ _

/-- All actions of a list keep to their regions. -/
def okL (l : List (Act F)) : Prop := ∀ a ∈ l, okA a
theorem okL_nil : okL (F := F) [] := fun _ h => absurd h List.not_mem_nil
theorem okL_cons {a : Act F} {l} (h : okA a) (h' : okL l) : okL (a :: l) := List.forall_mem_cons.mpr ⟨h, h'⟩
theorem okL_append {l l' : List (Act F)} (h : okL l) (h' : okL l') : okL (l ++ l') := List.forall_mem_append.mpr ⟨h, h'⟩
theorem okL_map {α : Type} {f : α → Act F} (h : ∀ a, okA (f a)) (l : List α) : okL (l.map f) := List.forall_mem_map.mpr fun a _ => h a
theorem okL_flatMap {α : Type} {f : α → List (Act F)} (h : ∀ a, okL (f a)) (l : List α) : okL (l.flatMap f) := List.forall_mem_flatMap.mpr fun a _ => h a

theorem ok_tail : okL (tailA F) :=
  okL_append (okL_append (okL_append (okL_map ok_acc _) (okL_cons ok_lt okL_nil)) (okL_map ok_div _)) (okL_cons ok_fin okL_nil)

theorem ok_acts : ∀ c : Dev nD, okL (acts F c)
  | 0 => okL_append (okL_append (okL_append (okL_append (okL_append (okL_append (okL_cons ok_madd
      (okL_flatMap (fun h => okL_cons (ok_head h) (okL_cons (by exact trivial) (okL_cons (by exact trivial) okL_nil))) _)) (okL_map (fun _ => (by exact trivial)) _)) (okL_cons ok_zero okL_nil)) (okL_map ok_wo _))
      (okL_cons (by exact trivial) (okL_cons (by exact trivial) (okL_cons (by exact trivial) (okL_cons (by exact trivial) okL_nil))))) ok_tail)
      (okL_append (okL_flatMap (fun h => okL_cons (by exact trivial) (okL_cons (by exact trivial) okL_nil)) _) (okL_map (fun _ => (by exact trivial)) _))
  | 1 => okL_append (okL_append (okL_append (okL_append (okL_append (okL_append (okL_append (okL_map ok_dev1 _) (okL_map (fun _ => (by exact trivial)) _)) (okL_map (fun _ => (by exact trivial)) _))
      (okL_cons ok_zero okL_nil)) (okL_flatMap (fun h => okL_cons (by exact trivial) (okL_cons (by exact trivial) (okL_cons (ok_wo h) okL_nil))) _))
      (okL_cons (by exact trivial) (okL_cons (by exact trivial) (okL_cons (by exact trivial) okL_nil)))) ok_tail)
      (okL_append (okL_map (fun _ => (by exact trivial)) _) (okL_flatMap (fun j => okL_cons (by exact trivial) (okL_cons (by exact trivial) okL_nil)) _))
  | 2 => okL_append (okL_append (okL_append (okL_append (okL_append (okL_append (okL_map (ok_gl 1) _) (okL_map (fun _ => (by exact trivial)) _))
      (okL_cons ok_zero okL_nil)) (okL_flatMap (fun h => okL_cons (by exact trivial) (okL_cons (by exact trivial) (okL_cons (ok_wo h) okL_nil))) _))
      (okL_cons (by exact trivial) (okL_cons (by exact trivial) (okL_cons (by exact trivial) (okL_cons (by exact trivial) okL_nil))))) ok_tail) (okL_map (fun _ => (by exact trivial)) _)
  | 3 => okL_append (okL_append (okL_append (okL_append (okL_append (okL_append (okL_map (ok_gl 2) _) (okL_map (fun _ => (by exact trivial)) _))
      (okL_cons ok_zero okL_nil)) (okL_flatMap (fun h => okL_cons (by exact trivial) (okL_cons (by exact trivial) (okL_cons (ok_wo h) okL_nil))) _))
      (okL_cons (by exact trivial) (okL_cons (by exact trivial) (okL_cons (by exact trivial) (okL_cons (by exact trivial) okL_nil))))) ok_tail)
      (okL_append (okL_map (fun _ => (by exact trivial)) _) (okL_map (fun _ => (by exact trivial)) _))

theorem oks_full (c : Dev nD) : oks (full F c) := fun B rd wr hm =>
  okL_append (ok_acts c) (okL_map (fun _ => (by exact trivial)) _) (.blk B rd wr) hm

/-! ## Control, checked -/

/-- The regions that a transfer to device `c` lands in. -/
def lands (c : Dev nD) : Rg → Bool
  | .p0 _ _ => c != 0
  | .d0 => c != 0
  | .ed => c != 1
  | .gl r => c.val != r.val + 1
  | _ => false

/-- What device `c` holds after the barrier. -/
def s0 (c : Dev nD) : Ctl := ⟨fun r => if lands c r then none else some 0, fun _ => 0, fun _ => false, sends c⟩

/-- The actions' control, whatever the floats. -/
def cacts (c : Dev nD) : List CAct := (full Ideal c).map Act.ctl
theorem ctl_full_0 : (full F 0).map Act.ctl = cacts 0 := by sl_kernel_rfl
theorem ctl_full_1 : (full F 1).map Act.ctl = cacts 1 := by sl_kernel_rfl
theorem ctl_full_2 : (full F 2).map Act.ctl = cacts 2 := by sl_kernel_rfl
theorem ctl_full_3 : (full F 3).map Act.ctl = cacts 3 := by sl_kernel_rfl
theorem ctl_full : ∀ c : Dev nD, (full F c).map Act.ctl = cacts c
  | 0 => ctl_full_0 | 1 => ctl_full_1 | 2 => ctl_full_2 | 3 => ctl_full_3

theorem okAll_0 : okAll 0 (s0 0) (cacts 0) := by decide +kernel
theorem okAll_1 : okAll 1 (s0 1) (cacts 1) := by decide +kernel
theorem okAll_2 : okAll 2 (s0 2) (cacts 2) := by decide +kernel
theorem okAll_3 : okAll 3 (s0 3) (cacts 3) := by decide +kernel
theorem okAll_full : ∀ c : Dev nD, okAll c (s0 c) ((full F c).map Act.ctl) := fun c => by
  rw [ctl_full]
  exact match c with
  | 0 => okAll_0 | 1 => okAll_1 | 2 => okAll_2 | 3 => okAll_3

/-- At the end everything is held in full, every transfer is done and nothing is owed. -/
theorem end_q : ∀ (c : Dev nD) (r : Rg), (endOf (s0 c) (cacts c)).q r = some 0 := by decide +kernel
theorem end_snd : ∀ (c : Dev nD) (x : Msg), x.src = c → (endOf (s0 c) (cacts c)).snd x = 3 := by decide +kernel
theorem end_rcv : ∀ (c : Dev nD) (x : Msg), x.dst = c → (endOf (s0 c) (cacts c)).rcv x = true := by decide +kernel
theorem end_todo : ∀ c : Dev nD, (endOf (s0 c) (cacts c)).todo = [] := by decide +kernel

end Cert.Attn

end
-- ==== Proof.Ring.lean ====
module

public import proofs.«01_k».proof.Proof.Check
public import proofs.«01_k».proof.Proof.Gen.KernelIdeal.Launch
public import Idealize.ShloMosaic.Lib.Rounds.Family
public import Idealize.ShloMosaic.Lib.SparseCore.Launch

/-! The launch's ghost state: the protocol's cells funded and dealt to the devices, and the credit each starts from. -/

@[expose] public section

noncomputable section

namespace Cert.Attn

open Cert.KernelIdeal Cert.KernelIdeal.Gen
open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Families dealt by owner -/

omit [FloatOps F] [Named F] in
theorem sep_emp_eq (P : sProp 𝕄) : iprop(P ∗ emp) = P := equiv_iff.mp sep_emp
omit [FloatOps F] [Named F] in
theorem emp_sep_eq (P : sProp 𝕄) : iprop(emp ∗ P) = P := equiv_iff.mp emp_sep

omit [FloatOps F] [Named F] in
theorem sep_assoc_eq (P Q R : sProp 𝕄) : iprop((P ∗ Q) ∗ R) = iprop(P ∗ Q ∗ R) :=
  BI.Entails.antisymm
    (by show (_ : sProp 𝕄) ⊢ _; iintro ⟨⟨H1, H2⟩, H3⟩; isplitl [H1]; (· iexact H1); isplitl [H2] <;> iassumption)
    (by show (_ : sProp 𝕄) ⊢ _; iintro ⟨H1, H2, H3⟩; isplitr [H3]; (· isplitl [H1] <;> iassumption); iexact H3)
omit [FloatOps F] [Named F] in
/-- A family that is `P` at one index and nothing elsewhere. -/
theorem big_only {I : Type} [DecidableEq I] (S : Finset I) (a : I) (h : a ∈ S) (P : sProp 𝕄) :
    (bigSep S fun i => if a = i then P else iprop(emp)) = P := by
  rw [bigSep_erase h, if_pos rfl, bigSep_congr (Ψ := fun _ => iprop(emp)) (fun i hi => if_neg (Finset.ne_of_mem_erase hi).symm), show (bigSep (S.erase a) fun _ => iprop(emp) : sProp 𝕄) = iprop(emp) from bigSep_emp_const _]
  exact sep_emp_eq P

omit [FloatOps F] [Named F] in
/-- A family over the transfers, dealt to the devices by `f`. -/
theorem dealt (f : Msg → Dev nD) (P : Msg → sProp 𝕄) :
    (bigSep Finset.univ fun c : Dev nD => bigSep Finset.univ fun x : Msg => if f x = c then P x else iprop(emp)) = bigSep Finset.univ P := by
  rw [bigSep_univ_comm]
  exact bigSep_congr fun x _ => big_only Finset.univ (f x) (Finset.mem_univ _) (P x)

omit [FloatOps F] [Named F] in
theorem big_cells (P : Cell → sProp 𝕄) : bigSep Finset.univ P
    = iprop((bigSep Finset.univ fun c : Dev nD => P (.inl c)) ∗ (bigSep Finset.univ fun x : Msg => P (.inr (.inl x))) ∗ bigSep Finset.univ fun x : Msg => P (.inr (.inr x))) := by
  rw [bigSep_univ_sum, bigSep_univ_sum]
  rfl

/-! ## The kernel's own semaphores -/

/-- The kernel's own DMA semaphores. -/
def osem (k : Fin 46) : SemLoc sig := .dma (⟨6 + k.val, by omega⟩ : Fin 52)
theorem ownSemFacts : Pipeline.OwnSemFacts cfg0.spec osem := by decide +kernel

/-- Where a transfer's semaphores lie among them. -/
def idxS (x : Msg) : Fin 46 := Fin.ofNat 46 (x.snum - 6)
def idxR (x : Msg) : Fin 46 := Fin.ofNat 46 (x.rnum - 6)
theorem osem_S : ∀ x : Msg, osem (idxS x) = .dma x.ssem := by decide +kernel
theorem osem_R : ∀ x : Msg, osem (idxR x) = .dma x.rsem := by decide +kernel

/-- Those of device `c` that are a transfer's, and those that are none's. -/
def semS (c : Dev nD) : Finset (Fin 46) := (Finset.univ.filter fun x : Msg => x.src = c).image idxS
def semR (c : Dev nD) : Finset (Fin 46) := (Finset.univ.filter fun x : Msg => x.dst = c).image idxR
def semU (c : Dev nD) : Finset (Fin 46) := Finset.univ \ (semS c ∪ semR c)
theorem sem_disj : ∀ c : Dev nD, Disjoint (semS c) (semR c) := by decide +kernel
theorem idxS_inj : ∀ x y : Msg, x.src = y.src → idxS x = idxS y → x = y := by decide +kernel
theorem idxR_inj : ∀ x y : Msg, x.dst = y.dst → idxR x = idxR y → x = y := by decide +kernel

/-- The unused ones. -/
def spare (c : Dev nD) : sProp 𝕄 := bigSep (semU c) fun k => semVal ((c : Thread nD τ), osem k) 0

omit [FloatOps F] [Named F] in
theorem ownSems0_eq (c : Dev nD) : (Pipeline.ownSems0 (Ix := Unit) (Name := ℕ) (U := UU) (Lvl := ℕ) (Val := Elt F) (τ := τ) osem c : sProp 𝕄)
    = iprop(((bigSep Finset.univ fun x : Msg => if x.src = c then semVal (sendCell x) 0 else iprop(emp))
      ∗ bigSep Finset.univ fun x : Msg => if x.dst = c then semVal (recvCell x) 0 else iprop(emp)) ∗ spare c) := by
  unfold Pipeline.ownSems0 spare
  rw [bigSep_sdiff_split (Finset.subset_univ (semS c ∪ semR c)), bigSep_union (sem_disj c)]
  unfold semS semR semU
  rw [SparseCore.bigSep_image_of_injOn (fun x hx y hy e => idxS_inj x y (by rw [(Finset.mem_filter.mp hx).2, (Finset.mem_filter.mp hy).2]) e),
    SparseCore.bigSep_image_of_injOn (fun x hx y hy e => idxR_inj x y (by rw [(Finset.mem_filter.mp hx).2, (Finset.mem_filter.mp hy).2]) e),
    bigSep_filter, bigSep_filter]
  congr 2
  · exact bigSep_congr fun x _ => by
      split
      · rename_i h; rw [osem_S, ← h]
      · rfl
  · exact bigSep_congr fun x _ => by
      split
      · rename_i h; rw [osem_R, ← h]
      · rfl

omit [FloatOps F] [Named F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] [Named F] in
/-- All devices' semaphores are the protocol's cells and the unused ones. -/
theorem sems_cells : (bigSep Finset.univ fun c : Dev nD => iprop(Pipeline.ownSems0 (Ix := Unit) (Name := ℕ) (U := UU) (Lvl := ℕ) (Val := Elt F) (τ := τ) osem c ∗ unscopedSems0 c) : sProp 𝕄)
    = iprop((bigSep Finset.univ fun k : Cell => semVal (kcell k) 0) ∗ bigSep Finset.univ fun c : Dev nD => spare c) := by
  simp only [ownSems0_eq, unscopedSems0_eq]
  rw [bigSep_sep', bigSep_sep', bigSep_sep', dealt Msg.src (fun x => semVal (sendCell x) 0), dealt Msg.dst (fun x => semVal (recvCell x) 0), big_cells]
  unfold kcell
  refine BI.Entails.antisymm ?_ ?_
  · show (_ : sProp 𝕄) ⊢ _
    iintro ⟨⟨⟨H1, H2⟩, H3⟩, H4⟩
    isplitr [H3]
    · isplitl [H4]; · iexact H4
      isplitl [H1] <;> iassumption
    iexact H3
  · show (_ : sProp 𝕄) ⊢ _
    iintro ⟨⟨H4, H1, H2⟩, H3⟩
    isplitr [H4]
    · isplitr [H3]
      · isplitl [H1] <;> iassumption
      iexact H3
    iexact H4

/-! ## The protocol's tokens -/

/-- Who pays which duty: an arrival at a device's barrier, a transfer's send or receive. -/
abbrev Duty : Type := (Dev nD × Dev nD) ⊕ (Msg ⊕ Msg)
def tokOf : Duty → GSem nD τ sig × ℕ × Dev nD
  | .inl (e, d) => (barCell e, 0, d)
  | .inr (.inl x) => (sendCell x, 0, 0)
  | .inr (.inr x) => (recvCell x, 0, 0)
theorem tokOf_injective : Function.Injective tokOf := by
  have hk {a b : Cell} {p q : ℕ × Dev nD} (h : (kcell a, p) = (kcell b, q)) : a = b := kcell_injective (congrArg Prod.fst h)
  rintro (⟨e, d⟩ | x | x) (⟨e', d'⟩ | y | y) h
  · have h1 := hk (a := .inl e) (b := .inl e') h
    have h2 : d = d' := congrArg (fun t : GSem nD τ sig × ℕ × Dev nD => t.2.2) h
    rw [Sum.inl.inj h1, h2]
  · cases hk (a := .inl e) (b := .inr (.inl y)) h
  · cases hk (a := .inl e) (b := .inr (.inr y)) h
  · cases hk (a := .inr (.inl x)) (b := .inl e') h
  · cases hk (a := .inr (.inl x)) (b := .inr (.inl y)) h; rfl
  · cases hk (a := .inr (.inl x)) (b := .inr (.inr y)) h
  · cases hk (a := .inr (.inr x)) (b := .inl e') h
  · cases hk (a := .inr (.inr x)) (b := .inr (.inl y)) h
  · cases hk (a := .inr (.inr x)) (b := .inr (.inr y)) h; rfl

omit [FloatOps F] [Named F] in
theorem big_duties (P : Duty → sProp 𝕄) : bigSep Finset.univ P
    = iprop((bigSep Finset.univ fun d : Dev nD => bigSep Finset.univ fun e : Dev nD => P (.inl (e, d)))
      ∗ (bigSep Finset.univ fun x : Msg => P (.inr (.inl x))) ∗ bigSep Finset.univ fun x : Msg => P (.inr (.inr x))) := by
  rw [bigSep_univ_sum, bigSep_univ_sum, bigSep_univ_prod, bigSep_univ_comm]
  rfl

def ringCells : Finset (GSem nD τ sig) := Finset.univ.map ⟨kcell, kcell_injective⟩
def ringToks : Finset (GSem nD τ sig × ℕ × Dev nD) := Finset.univ.map ⟨tokOf, tokOf_injective⟩
def u₀ : UU := (initOf (Pipeline.cells cfgs cellOf_inj) (Pipeline.launchToks cfgs cellOf_inj), launchOf ringCells ∅ ringToks)

variable (good : (r : Rg) → Con F r → Prop)

/-- What device `c` alone starts from: its cells' positions and the tokens of the duties it pays. -/
def linear (c : Dev nD) : sProp 𝕄 :=
  iprop(atPos ER (barCell c) 0 ∅ 0 ∗ (bigSep (Finset.univ.erase c) fun e : Dev nD => dutyTok ER (barCell e) 0 c)
    ∗ (bigSep Finset.univ fun x : Msg => if x.src = c then iprop(dutyTok ER (sendCell x) 0 0 ∗ dutyTok ER (recvCell x) 0 0 ∗ atPos ER (sendCell x) 0 ∅ 0) else iprop(emp))
    ∗ bigSep Finset.univ fun x : Msg => if x.dst = c then atPos ER (recvCell x) 0 ∅ 0 else iprop(emp))

/-- What the launch gives device `c`. -/
def G' (c : Dev nD) : sProp 𝕄 := iprop((∃ K, records good K) ∗ linear c ∗ spare c)

/-- The launch's element, all at device 0. -/
def G (c : Dev nD) : sProp 𝕄 := if 0 = c then BI.own (ER (launchOf ringCells ∅ ringToks)) else iprop(emp)

omit [FloatOps F] [Named F] in
theorem G_all : bigSep Finset.univ (G (F := F)) = BI.own (ER (launchOf ringCells ∅ ringToks)) :=
  big_only Finset.univ (0 : Dev nD) (Finset.mem_univ _) _

omit [FloatOps F] [Named F] in
theorem linear_all : iprop((bigSep Finset.univ fun k : Cell => (atPos ER (kcell k) 0 ∅ 0 : sProp 𝕄)) ∗ bigSep ringToks fun t => dutyTok ER t.1 t.2.1 t.2.2)
    ⊢ bigSep Finset.univ fun c : Dev nD => linear c := by
  unfold ringToks linear
  rw [bigSep_map, big_cells, big_duties, bigSep_sep', bigSep_sep', bigSep_sep',
    dealt Msg.src (fun x => iprop(dutyTok ER (sendCell x) 0 0 ∗ dutyTok ER (recvCell x) 0 0 ∗ atPos ER (sendCell x) 0 ∅ 0)),
    dealt Msg.dst (fun x => atPos ER (recvCell x) 0 ∅ 0), bigSep_sep', bigSep_sep']
  have e : (bigSep Finset.univ fun c : Dev nD => bigSep Finset.univ fun e : Dev nD => (dutyTok ER (barCell e) 0 c : sProp 𝕄))
      ⊢ bigSep Finset.univ fun c : Dev nD => bigSep (Finset.univ.erase c) fun e : Dev nD => dutyTok ER (barCell e) 0 c :=
    bigSep_mono fun c _ => bigSep_subset (Finset.erase_subset _ _)
  iintro ⟨⟨Hb, Hs, Hr⟩, Ht, Hts, Htr⟩
  isplitl [Hb]; · iexact Hb
  isplitl [Ht]; · iapply e; iexact Ht
  isplitr [Hr]
  · isplitl [Hts]; · iexact Hts
    isplitl [Htr]; · iexact Htr
    iexact Hs
  iexact Hr

omit [FloatOps F] [Named F] in
theorem with_records {I : Type} [DecidableEq I] (S : Finset I) (R : sProp 𝕄) [BI.Persistent R] (Φ : I → sProp 𝕄) :
    iprop(R ∗ bigSep S Φ) ⊢ bigSep S fun i => iprop(R ∗ Φ i) :=
  (sep_mono_left (BI.bigSep_of_persistent S R)).trans (by rw [← bigSep_sep'])

omit [FloatOps F] [Named F] in
/-- All devices' semaphores at zero and the launch's element give every device its share. -/
theorem glob : (bigSep Finset.univ fun c => iprop(Pipeline.ownSems0 (Ix := Unit) (Name := ℕ) (U := UU) (Lvl := ℕ) (Val := Elt F) (τ := τ) osem c ∗ unscopedSems0 c ∗ G c) : sProp 𝕄)
    ⊢ |={Set.univ}=> bigSep Finset.univ (G' good) := by
  have e1 : (bigSep Finset.univ fun c => iprop(Pipeline.ownSems0 (Ix := Unit) (Name := ℕ) (U := UU) (Lvl := ℕ) (Val := Elt F) (τ := τ) osem c ∗ unscopedSems0 c ∗ G c) : sProp 𝕄)
      = iprop(((bigSep ringCells fun g => semVal g 0) ∗ bigSep Finset.univ fun c : Dev nD => spare c) ∗ BI.own (ER (launchOf ringCells ∅ ringToks))) := by
    rw [bigSep_congr (Ψ := fun c => iprop((Pipeline.ownSems0 (Ix := Unit) (Name := ℕ) (U := UU) (Lvl := ℕ) (Val := Elt F) (τ := τ) osem c ∗ unscopedSems0 c) ∗ G c))
      (fun c _ => (sep_assoc_eq _ _ _).symm), bigSep_sep', sems_cells, G_all]
    unfold ringCells
    rw [bigSep_map]
    rfl
  rw [e1]
  iintro ⟨⟨Hv, Hsp⟩, HX⟩
  imod (Rounds.fund_launch ER (Rd good) (S := ringCells) (Sd := ∅) (Finset.disjoint_empty_right _) (fun g hg => absurd hg (Finset.notMem_empty g)) ringToks (Es := Set.univ))
    $$ [Hv HX] with ⟨%κ, -, HI, Hr, Hat, -, Htok⟩
  · isplitl [Hv] <;> iassumption
  imodintro
  have e2 : iprop((bigSep (ringCells ∪ ∅) fun g => (cellInv ER (Rd good) (κ g) g : sProp 𝕄)) ∗ bigSep ringCells fun g => reached ER g 0)
      ⊢ records good (fun k => κ (kcell k)) := by
    unfold records ringCells
    rw [Finset.union_empty, bigSep_map, bigSep_map]
    exact BI.Entails.refl _
  have e3 : (bigSep ringCells fun g => (atPos ER g 0 ∅ 0 : sProp 𝕄)) ⊢ bigSep Finset.univ fun k : Cell => atPos ER (kcell k) 0 ∅ 0 := by
    unfold ringCells; rw [bigSep_map]; exact BI.Entails.refl _
  ihave HR := e2 $$ [HI Hr]
  · isplitl [HI] <;> iassumption
  ihave Hat' := e3 $$ Hat
  ihave Hl := (linear_all (F := F)) $$ [Hat' Htok]
  · isplitl [Hat'] <;> iassumption
  have e4 : iprop(records good (fun k => κ (kcell k)) ∗ bigSep Finset.univ fun c : Dev nD => iprop(linear c ∗ spare c)) ⊢ bigSep Finset.univ (G' good) :=
    (with_records _ _ _).trans (bigSep_mono fun c _ => by
      show (_ : sProp 𝕄) ⊢ _
      unfold G'
      iintro ⟨H, Hl⟩
      isplitl [H]
      · iexists (fun k => κ (kcell k)); iexact H
      iexact Hl)
  iapply e4
  isplitl [HR]; · iexact HR
  rw [bigSep_sep']
  isplitl [Hl] <;> iassumption

/-! ## The launch credit -/

omit [FloatOps F] [Named F] in
theorem Osum_recv (x : Msg) : ∀ l : List Msg, Osum l (recvCell x) () = l.count x * x.N
  | [] => by simp [Osum]
  | y :: l => by
    show (Osum l + tallyAt (recvCell y) () y.N) (recvCell x) () = _
    rw [Pi.add_apply, Finsupp.add_apply, Osum_recv x l, tallyAt_apply, List.count_cons]
    by_cases h : y = x
    · subst h; rw [if_pos ⟨rfl, rfl⟩, if_pos (beq_self_eq_true y)]; ring
    · rw [if_neg (fun e => h (Sum.inr.inj (Sum.inr.inj (kcell_injective (a₁ := .inr (.inr y)) (a₂ := .inr (.inr x)) e.1.symm)))), if_neg (by simpa using h)]; ring
omit [FloatOps F] [Named F] in
theorem Osum_bar (c : Dev nD) : ∀ l : List Msg, Osum l (barCell c) () = 0
  | [] => rfl
  | y :: l => by
    show (Osum l + tallyAt (recvCell y) () y.N) (barCell c) () = _
    rw [Pi.add_apply, Finsupp.add_apply, Osum_bar c l, tallyAt_apply,
      if_neg (fun e => by cases kcell_injective (a₁ := .inl c) (a₂ := .inr (.inr y)) e.1)]
omit [FloatOps F] [Named F] in
theorem Obar_recv (x : Msg) (O) : ∀ l : List (Dev nD), Obar l O (recvCell x) () = O (recvCell x) ()
  | [] => rfl
  | e :: l => by
    show (Obar l O + tallyAt (barCell e) () 1) (recvCell x) () = _
    rw [Pi.add_apply, Finsupp.add_apply, Obar_recv x O l, tallyAt_apply,
      if_neg (fun h => by cases kcell_injective (a₁ := .inr (.inr x)) (a₂ := .inl e) h.1), Nat.add_zero]
omit [FloatOps F] [Named F] in
theorem Obar_bar (c : Dev nD) (O) : ∀ l : List (Dev nD), Obar l O (barCell c) () = l.count c + O (barCell c) ()
  | [] => (Nat.zero_add _).symm
  | e :: l => by
    show (Obar l O + tallyAt (barCell e) () 1) (barCell c) () = _
    rw [Pi.add_apply, Finsupp.add_apply, Obar_bar c O l, tallyAt_apply, List.count_cons]
    by_cases h : e = c
    · subst h; rw [if_pos ⟨rfl, rfl⟩, if_pos (beq_self_eq_true e)]; ring
    · rw [if_neg (fun h' => h (Sum.inl.inj (kcell_injective (a₁ := .inl e) (a₂ := .inl c) h'.1.symm))), if_neg (by simpa using h)]; ring

theorem sends_once : ∀ x : Msg, ∑ d : Dev nD, (sends d).count x = 1 := by decide +kernel
theorem sigs_three : ∀ c : Dev nD, ∑ d : Dev nD, (sigs d).count c = 3 := by decide +kernel

omit [FloatOps F] [Named F] in
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same,
    Finset.sum_congr rfl fun d _ => (show O₀ d (barCell c) () = (sigs d).count c by unfold O₀; rw [Obar_bar, Osum_bar, Nat.add_zero]), sigs_three]
omit [FloatOps F] [Named F] in
theorem launch_recv (x : Msg) :
    tallyOn (recvCell x) (launchCredit (Pipeline.owing O₀) 0 (recvCell x)) = (tallyAt (recvCell x) () x.N : CellTallies nD τ sig Unit) := by
  unfold tallyAt; refine congrArg _ (Finsupp.ext fun u => ?_); cases u
  rw [Pipeline.launchCredit_owing, Finsupp.single_eq_same,
    Finset.sum_congr rfl fun d _ => (show O₀ d (recvCell x) () = (sends d).count x * x.N by unfold O₀; rw [Obar_recv, Osum_recv]), ← Finset.sum_mul, sends_once, one_mul]

/-- The credit device `c` starts from. -/
def creds (c : Dev nD) : sProp 𝕄 :=
  iprop(cred (tallyAt (barCell c) () 3) ∗ bigSep Finset.univ fun x : Msg => if x.dst = c then cred (tallyAt (recvCell x) () x.N) else iprop(emp))

omit [FloatOps F] [Named F] in
theorem creds_intro (c : Dev nD) : (Pipeline.launchCred O₀ c : sProp 𝕄) ⊢ creds c := by
  unfold Pipeline.launchCred creds
  rw [bigSep_univ_at _ (SemLoc.reg barS), launch_bar]
  refine sep_mono_right ?_
  have hs : ((Finset.univ.filter fun x : Msg => x.dst = c).image fun x => (SemLoc.dma x.rsem : SemLoc sig)) ⊆ Finset.univ.erase (SemLoc.reg barS) := by
    intro s hs
    obtain ⟨x, -, rfl⟩ := Finset.mem_image.mp hs
    exact Finset.mem_erase.mpr ⟨(by intro h; cases h), Finset.mem_univ _⟩
  refine (bigSep_subset hs).trans ?_
  rw [SparseCore.bigSep_image_of_injOn (fun x hx y hy e => recv_inj x y (by rw [(Finset.mem_filter.mp hx).2, (Finset.mem_filter.mp hy).2])
    (by rw [← rsem_val, ← rsem_val]; exact congrArg Fin.val (SemLoc.dma.inj e))), bigSep_filter]
  refine bigSep_mono fun x _ => ?_
  split
  · rename_i h
    subst h
    rw [← launch_recv]
    exact BI.Entails.refl _
  · exact BI.Entails.refl _

end Cert.Attn

end
-- ==== Proof.Body.lean ====
module

public import proofs.«01_k».proof.Proof.Ring

/-! A device's body: its buffers as regions, the arrivals signalled, the barrier waited for, the actions, the cells closed. -/

@[expose] public section

noncomputable section

namespace Cert.Attn

open Cert.KernelIdeal Cert.KernelIdeal.Gen
open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

/-! ## Buffers as regions -/

/-- The state with the given buffers. -/
def mkSt (fx : Con F .x) (fw : Con F .wq) (fk : Con F .k) (fv : Con F .v) (fwo : Con F .wo) (fo : Con F .out)
    (fp : S8x2x512x128.Idx → Elt F .bf16) (fd : Con F .d0) (fe : Con F .ed) (fg : S3x9x32x128.Idx → Elt F .bf16) (fa : Con F .acc) (fl : Con F .lt) (fm : Con F .md) : St F
  | .x => fx | .wq => fw | .k => fk | .v => fv | .wo => fwo | .out => fo | .p0 _ _ => fp | .d0 => fd | .ed => fe | .gl _ => fg | .acc => fa | .lt => fl | .md => fm

/-- The regions of the staged buffers. -/
def stagedR (c : Dev nD) (σ : St F) : sProp 𝕄 :=
  iprop(pts c .x fullShare (σ .x) ∗ pts c .wq fullShare (σ .wq) ∗ pts c .k fullShare (σ .k) ∗ pts c .v fullShare (σ .v) ∗ pts c .wo fullShare (σ .wo)
    ∗ pts c .out fullShare (σ .out))
/-- The regions of the scratch buffers. -/
def scratchR (c : Dev nD) (σ : St F) : sProp 𝕄 :=
  iprop((bigSep Finset.univ fun p : Fin 8 × Fin 2 => pts c (.p0 p.1 p.2) fullShare (σ (.p0 p.1 p.2))) ∗ pts c .d0 fullShare (σ .d0) ∗ pts c .ed fullShare (σ .ed)
    ∗ (bigSep Finset.univ fun r : Fin 3 => pts c (.gl r) fullShare (σ (.gl r))) ∗ pts c .acc fullShare (σ .acc) ∗ pts c .lt fullShare (σ .lt) ∗ pts c .md fullShare (σ .md))

omit [FloatOps F] [Named F] in
theorem own_all (c : Dev nD) (σ : St F) : (own c (fun _ => some 0) σ : sProp 𝕄) ⊣⊢ iprop(stagedR c σ ∗ scratchR c σ) := by
  unfold own stagedR scratchR
  have e (Φ : Rg → sProp 𝕄) : bigSep Finset.univ Φ
      = iprop((Φ .x ∗ Φ .wq ∗ Φ .k ∗ Φ .v ∗ Φ .wo ∗ Φ .out ∗ Φ .d0 ∗ Φ .ed ∗ Φ .acc ∗ Φ .lt ∗ Φ .md)
        ∗ (bigSep Finset.univ fun p : Fin 8 × Fin 2 => Φ (.p0 p.1 p.2)) ∗ bigSep Finset.univ fun r : Fin 3 => Φ (.gl r)) := by
    rw [bigSep_univ_equiv Rg.equiv Φ, bigSep_univ_sum, bigSep_univ_sum,
      bigSep_univ_eq_bigSepL [(0 : Fin 11), 1, 2, 3, 4, 5, 6, 7, 8, 9, 10] (by decide) (by decide)]
    rfl
  rw [e]
  simp only [holds_zero]
  constructor
  · iintro ⟨⟨Hx, Hw, Hk, Hv, Hwo, Ho, Hd, He, Ha, Hl, Hm⟩, Hp, Hg⟩
    isplitl [Hx Hw Hk Hv Hwo Ho]
    · isplitl [Hx]; · iexact Hx
      isplitl [Hw]; · iexact Hw
      isplitl [Hk]; · iexact Hk
      isplitl [Hv]; · iexact Hv
      isplitl [Hwo] <;> iassumption
    isplitl [Hp]; · iexact Hp
    isplitl [Hd]; · iexact Hd
    isplitl [He]; · iexact He
    isplitl [Hg]; · iexact Hg
    isplitl [Ha]; · iexact Ha
    isplitl [Hl] <;> iassumption
  · iintro ⟨⟨Hx, Hw, Hk, Hv, Hwo, Ho⟩, Hp, Hd, He, Hg, Ha, Hl, Hm⟩
    isplitr [Hp Hg]
    · isplitl [Hx]; · iexact Hx
      isplitl [Hw]; · iexact Hw
      isplitl [Hk]; · iexact Hk
      isplitl [Hv]; · iexact Hv
      isplitl [Hwo]; · iexact Hwo
      isplitl [Ho]; · iexact Ho
      isplitl [Hd]; · iexact Hd
      isplitl [He]; · iexact He
      isplitl [Ha]; · iexact Ha
      isplitl [Hl] <;> iassumption
    isplitl [Hp] <;> iassumption

/-- The elements of the sixteen blocks of the shared keys and values, and of the three rows of the global part. -/
def setP (p : Fin 8 × Fin 2) : Finset S8x2x512x128.Idx := Rg.set (.p0 p.1 p.2)
def setG (r : Fin 3) : Finset S3x9x32x128.Idx := Rg.set (.gl r)
theorem setP_all : Finset.univ.biUnion setP = Finset.univ := Finset.ext fun i =>
  ⟨fun _ => Finset.mem_univ _, fun _ => Finset.mem_biUnion.mpr ⟨((i 0 : Fin 8), (i 1 : Fin 2)), Finset.mem_univ _, Finset.mem_filter.mpr ⟨Finset.mem_univ _, rfl, rfl⟩⟩⟩
theorem setG_all : Finset.univ.biUnion setG = Finset.univ := Finset.ext fun i =>
  ⟨fun _ => Finset.mem_univ _, fun _ => Finset.mem_biUnion.mpr ⟨(i 0 : Fin 3), Finset.mem_univ _, Finset.mem_filter.mpr ⟨Finset.mem_univ _, rfl⟩⟩⟩
theorem setP_disj : ∀ t ∈ (Finset.univ : Finset (Fin 8 × Fin 2)), ∀ t' ∈ (Finset.univ : Finset (Fin 8 × Fin 2)), t ≠ t' → Disjoint (setP t) (setP t') :=
  fun t _ t' _ h => Finset.disjoint_left.mpr fun i hi hi' => h (Prod.ext
    (Fin.ext ((Finset.mem_filter.mp hi).2.1.symm.trans (Finset.mem_filter.mp hi').2.1)) (Fin.ext ((Finset.mem_filter.mp hi).2.2.symm.trans (Finset.mem_filter.mp hi').2.2)))
theorem setG_disj : ∀ t ∈ (Finset.univ : Finset (Fin 3)), ∀ t' ∈ (Finset.univ : Finset (Fin 3)), t ≠ t' → Disjoint (setG t) (setG t') :=
  fun t _ t' _ h => Finset.disjoint_left.mpr fun i hi hi' => h (Fin.ext ((Finset.mem_filter.mp hi).2.symm.trans (Finset.mem_filter.mp hi').2))

/-- A whole buffer. -/
abbrev whole (c : Dev nD) (b : Ref sig .tc) (f : b.ty.Contents (Elt F)) : sProp 𝕄 :=
  iprop(((c : Thread nD τ).loc b) ↦{fullShare} f)

omit [FloatOps F] [Named F] in
theorem split_whole {T : Type} [Fintype T] (ℓ : Loc nD τ sig) (K : T → Finset (Idx ℓ)) (hK : Finset.univ.biUnion K = Finset.univ)
    (hd : ∀ t ∈ (Finset.univ : Finset T), ∀ t' ∈ (Finset.univ : Finset T), t ≠ t' → Disjoint (K t) (K t')) (f : Buf (Elt F) ℓ) :
    (ℓ ↦{fullShare} f : sProp 𝕄) = bigSep Finset.univ fun t => ℓ ↦[K t]{fullShare} f := by
  rw [← pointsTo_biUnion _ _ hd, hK]
omit [FloatOps F] [Named F] in
theorem join_whole {T : Type} [Fintype T] (ℓ : Loc nD τ sig) (K : T → Finset (Idx ℓ)) (hK : Finset.univ.biUnion K = Finset.univ)
    (hd : ∀ t ∈ (Finset.univ : Finset T), ∀ t' ∈ (Finset.univ : Finset T), t ≠ t' → Disjoint (K t) (K t')) (fs : T → Buf (Elt F) ℓ) (f₀ : Buf (Elt F) ℓ) :
    (bigSep Finset.univ fun t => (ℓ ↦[K t]{fullShare} fs t : sProp 𝕄)) ⊢ iprop(∃ g, ℓ ↦{fullShare} g) := by
  refine (pointsTo_biUnion_join Finset.univ K fs f₀ hd).trans ?_
  rw [hK]
  show (_ : sProp 𝕄) ⊢ _
  iintro ⟨%g, -, H⟩
  iexists g; iexact H
omit [FloatOps F] [Named F] in
theorem whole_p0 (c : Dev nD) (f : S8x2x512x128.Idx → Elt F .bf16) :
    (whole c cc0_scratch0 f : sProp 𝕄) = bigSep Finset.univ fun p : Fin 8 × Fin 2 => pts c (.p0 p.1 p.2) fullShare f :=
  split_whole ((c : Thread nD τ).loc cc0_scratch0) setP setP_all setP_disj f
omit [FloatOps F] [Named F] in
theorem whole_gl (c : Dev nD) (f : S3x9x32x128.Idx → Elt F .bf16) :
    (whole c cc0_scratch3 f : sProp 𝕄) = bigSep Finset.univ fun r : Fin 3 => pts c (.gl r) fullShare f :=
  split_whole ((c : Thread nD τ).loc cc0_scratch3) setG setG_all setG_disj f
omit [FloatOps F] [Named F] in
theorem join_p0 (c : Dev nD) (σ : St F) :
    (bigSep Finset.univ fun p : Fin 8 × Fin 2 => (pts c (.p0 p.1 p.2) fullShare (σ (.p0 p.1 p.2)) : sProp 𝕄)) ⊢ iprop(∃ f, whole c cc0_scratch0 f) :=
  join_whole ((c : Thread nD τ).loc cc0_scratch0) setP setP_all setP_disj (fun p => σ (.p0 p.1 p.2)) (σ (.p0 0 0))
omit [FloatOps F] [Named F] in
theorem join_gl (c : Dev nD) (σ : St F) :
    (bigSep Finset.univ fun r : Fin 3 => (pts c (.gl r) fullShare (σ (.gl r)) : sProp 𝕄)) ⊢ iprop(∃ f, whole c cc0_scratch3 f) :=
  join_whole ((c : Thread nD τ).loc cc0_scratch3) setG setG_all setG_disj (fun r => σ (.gl r)) (σ (.gl 0))

/-- The scratch buffers, each at some contents. -/
def scratch (c : Dev nD) : sProp 𝕄 :=
  iprop((∃ f, whole c cc0_scratch0 f) ∗ (∃ f, whole c cc0_scratch1 f) ∗ (∃ f, whole c cc0_scratch2 f) ∗ (∃ f, whole c cc0_scratch3 f) ∗ (∃ f, whole c cc0_scratch4 f)
    ∗ (∃ f, whole c cc0_scratch5 f) ∗ ∃ f, whole c cc0_scratch6 f)

/-- The staged buffers at given contents. -/
def staged (c : Dev nD) (fx : Con F .x) (fw : Con F .wq) (fk : Con F .k) (fv : Con F .v) (fwo : Con F .wo) (fo : Con F .out) : sProp 𝕄 :=
  iprop(whole c cc0_stg0_0 fx ∗ whole c cc0_stg1_0 fw ∗ whole c cc0_stg2_0 fk ∗ whole c cc0_stg3_0 fv ∗ whole c cc0_stg4_0 fwo ∗ whole c cc0_stg5_0 fo)

omit [FloatOps F] [Named F] in
theorem own_intro (c : Dev nD) (fx : Con F .x) (fw : Con F .wq) (fk : Con F .k) (fv : Con F .v) (fwo : Con F .wo) (fo : Con F .out) :
    iprop(staged c fx fw fk fv fwo fo ∗ scratch c)
      ⊢ iprop(∃ σ : St F, ⌜σ .x = fx ∧ σ .wq = fw ∧ σ .k = fk ∧ σ .v = fv ∧ σ .wo = fwo⌝ ∗ own c (fun _ => some 0) σ) := by
  unfold scratch
  iintro ⟨Hst, ⟨%fp, Hp⟩, ⟨%fd, Hd⟩, ⟨%fe, He⟩, ⟨%fg, Hg⟩, ⟨%fa, Ha⟩, ⟨%fl, Hl⟩, ⟨%fm, Hm⟩⟩
  iexists (mkSt fx fw fk fv fwo fo fp fd fe fg fa fl fm)
  isplitr; · ipureintro; exact ⟨rfl, rfl, rfl, rfl, rfl⟩
  iapply (own_all c (mkSt fx fw fk fv fwo fo fp fd fe fg fa fl fm)).2
  isplitl [Hst]; · unfold staged stagedR pts mkSt; iexact Hst
  ihave Hp' := (Entails.of_eq (whole_p0 c fp)) $$ Hp
  ihave Hg' := (Entails.of_eq (whole_gl c fg)) $$ Hg
  unfold scratchR
  isplitl [Hp']; · iexact Hp'
  unfold pts mkSt
  isplitl [Hd]; · iexact Hd
  isplitl [He]; · iexact He
  isplitl [Hg']; · iexact Hg'
  isplitl [Ha]; · iexact Ha
  isplitl [Hl]; · iexact Hl
  iexact Hm

omit [FloatOps F] [Named F] in
theorem own_elim (c : Dev nD) (σ : St F) :
    (own c (fun _ => some 0) σ : sProp 𝕄) ⊢ iprop(staged c (σ .x) (σ .wq) (σ .k) (σ .v) (σ .wo) (σ .out) ∗ scratch c) := by
  refine (own_all c σ).1.trans ?_
  unfold scratchR scratch
  iintro ⟨Hst, Hp, Hd, He, Hg, Ha, Hl, Hm⟩
  isplitl [Hst]; · unfold staged stagedR pts; iexact Hst
  isplitl [Hp]; · iapply (join_p0 c σ); iexact Hp
  ihave Hg' := (join_gl c σ) $$ Hg
  unfold pts
  isplitl [Hd]; · iexists (σ .d0); iexact Hd
  isplitl [He]; · iexists (σ .ed); iexact He
  isplitl [Hg']; · iexact Hg'
  isplitl [Ha]; · iexists (σ .acc); iexact Ha
  isplitl [Hl]; · iexists (σ .lt); iexact Hl
  iexists (σ .md); iexact Hm

/-! ## What an arrival hands over -/

/-- The regions device `c` hands over on its arrival. -/
def handed (c : Dev nD) : Finset Rg := Finset.univ.filter fun r => lands c r = true
theorem handed_eq : ∀ c : Dev nD, handed c = (Finset.univ.filter fun x : Msg => x.dst = c).biUnion Msg.regs := by decide +kernel
theorem regs_disj : ∀ x y : Msg, x.dst = y.dst → x ≠ y → Disjoint x.regs y.regs := by decide +kernel

omit [FloatOps F] [Named F] in
theorem s0_q (c : Dev nD) : setQ (handed c) none (fun _ => some 0) = (s0 c).q := funext fun r => by
  unfold setQ handed s0
  simp only [Finset.mem_filter, Finset.mem_univ, true_and]

omit [FloatOps F] [Named F] in
theorem hand_over (c : Dev nD) (σ : St F) : (some_ c (handed c) fullShare σ : sProp 𝕄) ⊢ bigSep (Finset.univ.erase c) fun e : Dev nD => barPay c e := by
  have e1 : (some_ c (handed c) fullShare σ : sProp 𝕄) ⊢ bigSep Finset.univ fun x : Msg => if x.dst = c then land x else iprop(emp) := by
    unfold some_
    rw [handed_eq, bigSep_biUnion_eq _ _ _ (fun x hx y hy h => regs_disj x y (by rw [(Finset.mem_filter.mp hx).2, (Finset.mem_filter.mp hy).2]) h), bigSep_filter]
    refine bigSep_mono fun x _ => ?_
    split
    · rename_i h
      subst h
      show (_ : sProp 𝕄) ⊢ _
      unfold land some_
      iintro H; iexists σ; iexact H
    · exact BI.Entails.refl _
  have e2 : (bigSep Finset.univ fun x : Msg => (if x.dst = c then land x else iprop(emp) : sProp 𝕄)) = bigSep Finset.univ fun e : Dev nD => barPay c e := by
    rw [← dealt Msg.src]
    refine bigSep_congr fun e _ => ?_
    unfold barPay
    refine bigSep_congr fun x _ => ?_
    by_cases h : x.src = e <;> by_cases h' : x.dst = c <;> simp [h, h']
  exact e1.trans ((Entails.of_eq e2).trans (bigSep_subset (Finset.erase_subset _ _)))

/-! ## The barrier -/

variable (good : (r : Rg) → Con F r → Prop)

/-- The arrivals signalled, one by one. -/
theorem wp_sigs (c : Dev nD) (K : Cell → ℕ) (O : CellTallies nD τ sig Unit) (W : Waits sig Unit) (k : KProg F) (Kt : PUnit → sProp 𝕄) : ∀ l : List (Dev nD), l.Nodup → c ∉ l →
    iprop(records good K ∗ owes (c : Thread nD τ) (Obar l O) W ∗ bigSep l.toFinset fun e : Dev nD => iprop(dutyTok ER (barCell e) 0 c ∗ barPay c e))
      ⊢ iprop((owes (c : Thread nD τ) O W -∗ WP c k Kt) -∗ WP c (sigProg l k) Kt)
  | [], _, _ => by
    iintro ⟨-, HO, -⟩ Hk
    iapply Hk; iexact HO
  | e :: l, hnd, hc => by
    have hnd' := List.nodup_cons.mp hnd
    have ih := wp_sigs c K O W k Kt l hnd'.2 (fun h => hc (List.mem_cons_of_mem _ h))
    have hce : c ≠ e := fun h => hc (h ▸ List.mem_cons_self)
    rw [List.toFinset_cons, bigSep_insert (fun h => hnd'.1 (List.mem_toFinset.mp h))]
    show iprop(records good K ∗ owes (c : Thread nD τ) (Obar (e :: l) O) W ∗ (dutyTok ER (barCell e) 0 c ∗ barPay c e)
      ∗ bigSep l.toFinset fun e : Dev nD => iprop(dutyTok ER (barCell e) 0 c ∗ barPay c e)) ⊢ _
    rw [show sigProg (e :: l) k = (semSignalWord (e : Dev nD) barS 1#32 >>= fun _ => sigProg l k) from rfl]
    simp only [semSignalWord, Prog.lift, Prog.bind_op, Prog.bind_ret, Prog.pure_eq_ret]
    iintro ⟨#HR, HO, ⟨Ht, Hp⟩, Hl⟩ Hk
    iapply (Rounds.wp_signal 𝒱₀ ER (Rd good) (c : Thread nD τ) none (dst := (e : Thread nD τ)) (κ := K (.inl e)) (d := c)
      (by rw [duties_bar]; exact Finset.mem_erase.mpr ⟨hce, Finset.mem_univ _⟩) ((amount_bar good e c).trans (by decide)) () (Obar l O) rfl) $$ [HO Ht Hp]
    · isplitr; · iapply (inv_at good K (.inl e)); iexact HR
      isplitl [HO]; · iexact HO
      isplitl [Ht]; · iexact Ht
      isplitl [Hp]; · rw [payload_bar]; iexact Hp
      iapply (reached_at good K (.inl e)); iexact HR
    iintro HO
    iapply ih $$ [HO Hl] Hk
    isplitr; · iexact HR
    isplitl [HO] <;> iassumption

theorem sigs_all : ∀ c : Dev nD, (sigs c).toFinset = Finset.univ.erase c := by decide
theorem sigs_nodup : ∀ c : Dev nD, (sigs c).Nodup := by decide
theorem sigs_self : ∀ c : Dev nD, c ∉ sigs c := by decide
theorem no_self : ∀ x : Msg, x.src ≠ x.dst := by decide +kernel

omit [FloatOps F] [Named F] in
/-- What the others' arrivals hand device `c`. -/
theorem handed_in (c : Dev nD) : (bigSep (Finset.univ.erase c) fun d : Dev nD => (barPay d c : sProp 𝕄))
    ⊢ bigSep Finset.univ fun x : Msg => if x.src = c then land x else iprop(emp) := by
  have e2 : (bigSep Finset.univ fun x : Msg => (if x.src = c then land x else iprop(emp) : sProp 𝕄)) = bigSep Finset.univ fun d : Dev nD => barPay d c := by
    rw [← dealt Msg.dst]
    refine bigSep_congr fun d _ => ?_
    unfold barPay
    refine bigSep_congr fun x _ => ?_
    by_cases h : x.dst = d <;> by_cases h' : x.src = c <;> simp [h, h']
  rw [e2, bigSep_univ_split c]
  have e3 : (barPay c c : sProp 𝕄) = iprop(emp) := by
    unfold barPay
    rw [bigSep_congr (Ψ := fun _ => iprop(emp)) (fun x _ => if_neg (fun h => no_self x (h.1.trans h.2.symm)))]
    exact bigSep_emp_const _
  rw [e3]
  exact Entails.of_eq (emp_sep_eq _).symm

/-! ## The cells closed -/

omit [FloatOps F] [Named F] in
theorem big_if (p : Msg → Prop) [DecidablePred p] (P : Msg → sProp 𝕄) :
    (bigSep Finset.univ fun x : Msg => if p x then P x else iprop(emp)) = bigSep (Finset.univ.filter p) P := (bigSep_filter _ _ _).symm

omit [FloatOps F] [Named F] in
theorem close_send (c : Dev nD) (K : Cell → ℕ) : iprop(records good K ∗ bigSep Finset.univ fun x : Msg => if x.src = c then atPos ER (sendCell x) 1 ∅ 0 else iprop(emp))
    ⊢ |={Set.univ}=> (bigSep Finset.univ fun x : Msg => if x.src = c then semVal (sendCell x) 0 else iprop(emp) : sProp 𝕄) := by
  rw [big_if, big_if]
  refine (with_records _ _ _).trans (BI.Entails.trans (bigSep_mono (Ψ := fun x => iprop(cellInv ER (Rd good) (K (.inr (.inl x))) (sendCell x) ∗ atPos ER (sendCell x) 1 ∅ 0)) fun x _ =>
    sep_mono_left (inv_at good K (.inr (.inl x)))) ?_)
  exact Rounds.cells_close ER (Rd good) _ sendCell (fun x => K (.inr (.inl x))) (fun _ _ => Set.mem_univ _) (fun _ _ h => h) (fun _ => 1) (fun x _ => duties_later good (sendCell x))
omit [FloatOps F] [Named F] in
theorem close_recv (c : Dev nD) (K : Cell → ℕ) : iprop(records good K ∗ bigSep Finset.univ fun x : Msg => if x.dst = c then atPos ER (recvCell x) 1 ∅ 0 else iprop(emp))
    ⊢ |={Set.univ}=> (bigSep Finset.univ fun x : Msg => if x.dst = c then semVal (recvCell x) 0 else iprop(emp) : sProp 𝕄) := by
  rw [big_if, big_if]
  refine (with_records _ _ _).trans (BI.Entails.trans (bigSep_mono (Ψ := fun x => iprop(cellInv ER (Rd good) (K (.inr (.inr x))) (recvCell x) ∗ atPos ER (recvCell x) 1 ∅ 0)) fun x _ =>
    sep_mono_left (inv_at good K (.inr (.inr x)))) ?_)
  exact Rounds.cells_close ER (Rd good) _ recvCell (fun x => K (.inr (.inr x))) (fun _ _ => Set.mem_univ _) (fun _ _ h => h) (fun _ => 1) (fun x _ => duties_later good (recvCell x))

/-! ## The body -/

/-- What the body starts from. -/
def start (c : Dev nD) : sProp 𝕄 := iprop(G' good c ∗ creds c ∗ levAts L lv)
/-- Every semaphore of device `c` at zero. -/
def quiet (c : Dev nD) : sProp 𝕄 :=
  iprop(semVal (barCell c) 0 ∗ Pipeline.ownSems0 (Ix := Unit) (Name := ℕ) (U := UU) (Lvl := ℕ) (Val := Elt F) (τ := τ) osem c)

omit [FloatOps F] [Named F] in
theorem res_start (c : Dev nD) (σ : St F) (W : Waits sig Unit) :
    iprop((own c (s0 c).q σ ∗ owes (c : Thread nD τ) (Osum (sends c)) W)
      ∗ ((bigSep Finset.univ fun x : Msg => if x.src = c then iprop(dutyTok ER (sendCell x) 0 0 ∗ dutyTok ER (recvCell x) 0 0 ∗ atPos ER (sendCell x) 0 ∅ 0) else iprop(emp))
        ∗ bigSep Finset.univ fun x : Msg => if x.src = c then land x else iprop(emp))
      ∗ (bigSep Finset.univ fun x : Msg => if x.dst = c then cred (tallyAt (recvCell x) () x.N) else iprop(emp))
      ∗ bigSep Finset.univ fun x : Msg => if x.dst = c then atPos ER (recvCell x) 0 ∅ 0 else iprop(emp))
      ⊢ (Res c (s0 c) σ : sProp 𝕄) := by
  unfold Res
  have e1 : iprop((bigSep Finset.univ fun x : Msg => if x.src = c then iprop(dutyTok ER (sendCell x) 0 0 ∗ dutyTok ER (recvCell x) 0 0 ∗ atPos ER (sendCell x) 0 ∅ 0) else iprop(emp))
        ∗ bigSep Finset.univ fun x : Msg => if x.src = c then land x else iprop(emp))
      ⊢ (bigSep Finset.univ fun x : Msg => sndR c x ((s0 c).snd x) : sProp 𝕄) := by
    rw [← bigSep_sep']
    refine bigSep_mono fun x _ => ?_
    show (_ : sProp 𝕄) ⊢ sndR c x 0
    unfold sndR
    by_cases h : x.src = c
    · simp only [if_pos h]
      iintro ⟨⟨H1, H2, H3⟩, H4⟩
      isplitl [H1]; · iexact H1
      isplitl [H2]; · iexact H2
      isplitl [H3] <;> iassumption
    · simp only [if_neg h]
      iintro -; iempintro
  have e2 : iprop((bigSep Finset.univ fun x : Msg => if x.dst = c then cred (tallyAt (recvCell x) () x.N) else iprop(emp))
        ∗ bigSep Finset.univ fun x : Msg => if x.dst = c then atPos ER (recvCell x) 0 ∅ 0 else iprop(emp))
      ⊢ (bigSep Finset.univ fun x : Msg => rcvR c x ((s0 c).rcv x) : sProp 𝕄) := by
    rw [← bigSep_sep']
    refine bigSep_mono fun x _ => ?_
    show (_ : sProp 𝕄) ⊢ rcvR c x false
    unfold rcvR
    by_cases h : x.dst = c
    · simp only [if_pos h]
      iintro ⟨H1, H2⟩
      isplitl [H1] <;> iassumption
    · simp only [if_neg h]
      iintro -; iempintro
  iintro ⟨⟨Ho, HO⟩, Hs, Hr⟩
  isplitl [Ho]; · iexact Ho
  isplitl [HO]; · iexists W; iexact HO
  isplitl [Hs]; · iapply e1; iexact Hs
  iapply e2; iexact Hr

omit [FloatOps F] [Named F] in
theorem res_end (c : Dev nD) (σ : St F) :
    (Res c (endOf (s0 c) (cacts c)) σ : sProp 𝕄)
      ⊢ iprop(own c (fun _ => some 0) σ ∗ (∃ W, owes (c : Thread nD τ) 0 W)
        ∗ (bigSep Finset.univ fun x : Msg => if x.src = c then atPos ER (sendCell x) 1 ∅ 0 else iprop(emp))
        ∗ bigSep Finset.univ fun x : Msg => if x.dst = c then atPos ER (recvCell x) 1 ∅ 0 else iprop(emp)) := by
  unfold Res
  rw [show (endOf (s0 c) (cacts c)).q = fun _ => some 0 from funext (end_q c), end_todo]
  rw [bigSep_congr (Ψ := fun x : Msg => if x.src = c then atPos ER (sendCell x) 1 ∅ 0 else iprop(emp)) (fun x _ => by
      unfold sndR; by_cases h : x.src = c
      · rw [if_pos h, if_pos h, end_snd c x h]
        rfl
      · rw [if_neg h, if_neg h]),
    bigSep_congr (Φ := fun x : Msg => rcvR c x ((endOf (s0 c) (cacts c)).rcv x)) (Ψ := fun x : Msg => if x.dst = c then atPos ER (recvCell x) 1 ∅ 0 else iprop(emp)) (fun x _ => by
      unfold rcvR; by_cases h : x.dst = c
      · rw [if_pos h, if_pos h, end_rcv c x h]
      · rw [if_neg h, if_neg h])]
  exact BI.Entails.refl _

/-- The body, from what it starts with to what it ends with. -/
theorem sound_body (c : Dev nD) (P : Con F .out → Prop) (fx : Con F .x) (fw : Con F .wq) (fk : Con F .k) (fv : Con F .v) (fwo : Con F .wo) (fo : Con F .out)
    (hw : ∀ σ : St F, σ .x = fx → σ .wq = fw → σ .k = fk → σ .v = fv → σ .wo = fwo → wlp good (fun σ' => P (σ' .out)) (full F c) σ)
    (W : Waits sig Unit) (Kt : PUnit → sProp 𝕄) :
    iprop((start good c ∗ scratch c) ∗ owes (c : Thread nD τ) (O₀ c) W ∗ staged c fx fw fk fv fwo fo)
      ⊢ iprop((∀ gx gw gk gv gwo go, ⌜P go⌝ -∗ quiet c ∗ scratch c -∗ (∃ W, owes (c : Thread nD τ) 0 W) -∗ staged c gx gw gk gv gwo go -∗ Kt ⟨⟩)
        -∗ WP c (bodyP (F := F)) Kt) := by
  rw [bodyP_eq]
  simp only [wp_deviceId]
  rw [atDev_eq]
  unfold start G' linear creds devProg
  simp only [semWaitWord, Prog.lift, Prog.bind_op, Prog.bind_ret, Prog.pure_eq_ret]
  iintro ⟨⟨⟨⟨⟨%K, #HR⟩, ⟨HaB, HtB, HtS, HaR⟩, Hspare⟩, ⟨HcB, HcR⟩, #Hlev⟩, Hscr⟩, HO, Hst⟩ Hk
  ihave Hown := (own_intro c fx fw fk fv fwo fo) $$ [Hst Hscr]
  · isplitl [Hst] <;> iassumption
  icases Hown with ⟨%σ, %hσ, Hown⟩
  ihave Hg := (own_give c (fun _ => some 0) σ (handed c) (fun _ _ => rfl)) $$ Hown
  rw [s0_q]
  icases Hg with ⟨Hh, Hown⟩
  ihave Hpay := (hand_over c σ) $$ Hh
  unfold O₀
  have esig : iprop((bigSep (Finset.univ.erase c) fun e : Dev nD => dutyTok ER (barCell e) 0 c) ∗ bigSep (Finset.univ.erase c) fun e : Dev nD => barPay c e)
      ⊢ (bigSep (sigs c).toFinset fun e : Dev nD => iprop(dutyTok ER (barCell e) 0 c ∗ barPay c e) : sProp 𝕄) := by
    rw [sigs_all, ← bigSep_sep']
  ihave Hsig := esig $$ [HtB Hpay]
  · isplitl [HtB] <;> iassumption
  iapply (wp_sigs good c K (Osum (sends c)) W _ Kt (sigs c) (sigs_nodup c) (sigs_self c)) $$ [HO Hsig]
  · isplitr; · iexact HR
    isplitl [HO] <;> iassumption
  iintro HO
  iapply (Rounds.wp_wait_rest_token 𝒱₀ ER (Rd good) (c : Thread nD τ) none (κ := K (.inl c))
      (wpE_semWait_eq 𝒱₀ (c : Thread nD τ) none Set.univ) (Set.mem_univ _) () (O := Osum (sends c)) (W := W) (R := 0) (m := 0) (T := ∅)
      (by rw [expect_bar]; decide)) $$ [HcB HO HaB]
  · isplitr; · iapply (inv_at good K (.inl c)); iexact HR
    isplitl [HcB]; · iexact HcB
    isplitl [HO]; · iexact HO
    isplitr; · iapply (mayWait_below c (.reg barS) 1 (lv_bar c).le (sends c) fun y _ => lvl_ge y); iexact Hlev
    iexact HaB
  iintro ⟨HO, HaB, -, Hpay⟩
  ihave Hp := (Entails.of_eq (rest_bar good c)) $$ Hpay
  ihave Hland := (handed_in c) $$ Hp
  ihave HRes := (res_start c σ _) $$ [Hown HO HtS Hland HcR HaR]
  · isplitl [Hown HO]
    · isplitl [Hown] <;> iassumption
    isplitl [HtS Hland]
    · isplitl [HtS] <;> iassumption
    isplitl [HcR] <;> iassumption
  rw [← prog_full]
  iapply (mach good c K (fun σ' => P (σ' .out)) Kt (full F c) (s0 c) σ (okAll_full c) (oks_full c) (hw σ hσ.1 hσ.2.1 hσ.2.2.1 hσ.2.2.2.1 hσ.2.2.2.2)) $$ [HRes]
  · isplitr; · iexact HR
    isplitr; · iexact Hlev
    iexact HRes
  iintro %σ' %hP HRes
  rw [ctl_full]
  ihave He := (res_end c σ') $$ HRes
  icases He with ⟨Hown, HO, HaS, HaR⟩
  imod (close_send good c K) $$ [HaS] with HzS
  · isplitr; · iexact HR
    iexact HaS
  imod (close_recv good c K) $$ [HaR] with HzR
  · isplitr; · iexact HR
    iexact HaR
  imod (Rounds.cell_close ER (Rd good) (Set.mem_univ (K (.inl c))) (fun h => h) (R := 0 + 1) (duties_later good (barCell c))) $$ [HaB] with HzB
  · isplitr; · iapply (inv_at good K (.inl c)); iexact HR
    iexact HaB
  imodintro
  ihave Hb := (own_elim c σ') $$ Hown
  icases Hb with ⟨Hst, Hscr⟩
  iapply Hk $$ %(σ' .x) %(σ' .wq) %(σ' .k) %(σ' .v) %(σ' .wo) %(σ' .out) [] [HzB HzS HzR Hspare Hscr] HO Hst
  · ipureintro; exact hP
  isplitr [Hscr]
  · unfold quiet
    isplitl [HzB]; · iexact HzB
    rw [ownSems0_eq]
    isplitr [Hspare]
    · isplitl [HzS] <;> iassumption
    iexact Hspare
  iexact Hscr

end Cert.Attn

end
-- ==== Proof.Run.lean ====
module

public import proofs.«01_k».proof.Proof.Body
public import Idealize.ShloMosaic.Lib.Pipeline.ArrRel
public import Idealize.ShloMosaic.Lib.Pipeline.ValueKit.Geometry
public import Idealize.ShloMosaic.Lib.Pipeline.Launch
public import Idealize.ShloMosaic.Lib.Pipeline.CollectiveSegs
public import Idealize.ShloMosaic.Adequacy

/-! The launch of the kernel on the mesh of four devices, once, for any floats and any account of what the devices compute. -/

@[expose] public section

noncomputable section

namespace Cert.Attn

open Cert.KernelIdeal Cert.KernelIdeal.Gen
open Idealize.ShloMosaic
open Idealize.ShloMosaic.TcCoe
open Idealize.ShloMosaic.Rounds
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ UU ℕ

variable (m : (ℓ : Loc nD τ sig) → Buf (Elt F) ℓ) (ρ : Dev nD → PrngReg)
variable (good : (r : Rg) → Con F r → Prop) (outOk : Dev nD → Con F .out → Prop)

/-- Device `c`'s inputs are in its staging buffers. -/
def inputs (c : Dev nD) (σ : St F) : Prop :=
  σ .x = m ((c : Thread nD τ).loc main_arg0) ∧ σ .wq = m ((c : Thread nD τ).loc main_arg1) ∧ σ .k = m ((c : Thread nD τ).loc main_arg2)
    ∧ σ .v = m ((c : Thread nD τ).loc main_arg3) ∧ σ .wo = m ((c : Thread nD τ).loc main_arg4)

/-- The proof data of the kernel's one point on device `c`. -/
def rdats (_ : Fin 1) (c : Dev nD) : Pipeline.RDat τ (Elt F) Unit ℕ UU ℕ cfg0 c where
  A w := m ((cfg0.win w).arr.view.loc (c : Thread nD τ))
  after w _ := match w with
    | ⟨5, _⟩ => fun _ X => outOk c X
    | _ => fun _ _ => True
  Φ t := match t with
    | ⟨0, _⟩ => iprop(start good c ∗ scratch c)
    | ⟨_ + 1, _⟩ => iprop(quiet c ∗ scratch c)
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] [Named F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = whole c b X := by
  unfold owns
  simp only [Memref.view_whole, View.read_whole, View.set_whole]
  refine BI.Entails.antisymm ?_ ?_
  · show (_ : sProp 𝕄) ⊢ _
    iintro ⟨%f, %hf, H⟩
    subst hf; iexact H
  · show (_ : sProp 𝕄) ⊢ _
    iintro H
    iexists X
    isplitr; · ipureintro; rfl
    iexact H

theorem finds_in (c : Dev nD) (w : Fin cfg0.W) (hf : (cfg0.win w).fetch t₀ = true) (X : (cfg0.win w).block.Idx → Elt F (cfg0.win w).elt)
    (h : (rdats m good outOk 0 c).Finds w t₀ X) : ∃ d, X = (rdats m good outOk 0 c).fetched w t₀ d := ((rdats m good outOk 0 c).finds_of_fetch hf X).mp h

theorem finds_x (c : Dev nD) (X) (h : (rdats m good outOk 0 c).Finds (0 : Fin 6) t₀ X) : X = m ((c : Thread nD τ).loc main_arg0) := by
  obtain ⟨d, hd⟩ := finds_in m good outOk c (0 : Fin 6) rfl X h
  have hz : (fun a => win0_0.index (0 : Fin 1) a * main_arg0.ty.shape.size a) = fun _ => 0 := funext fun a => by fin_cases a <;> decide
  have hr : (rdats m good outOk 0 c).fetched (0 : Fin 6) t₀ d = (win0_0.blk (0 : Fin 1)).view.read (Elt F) (m ((c : Thread nD τ).loc main_arg0)) := rfl
  exact hd.trans (hr.trans (Memref.read_access_unit_zero (Elt F) main_arg0 hz (by intro a; fin_cases a <;> decide) _))
theorem finds_wq (c : Dev nD) (X) (h : (rdats m good outOk 0 c).Finds (1 : Fin 6) t₀ X) : X = m ((c : Thread nD τ).loc main_arg1) := by
  obtain ⟨d, hd⟩ := finds_in m good outOk c (1 : Fin 6) rfl X h
  have hz : (fun a => win0_1.index (0 : Fin 1) a * main_arg1.ty.shape.size a) = fun _ => 0 := funext fun a => by fin_cases a <;> decide
  have hr : (rdats m good outOk 0 c).fetched (1 : Fin 6) t₀ d = (win0_1.blk (0 : Fin 1)).view.read (Elt F) (m ((c : Thread nD τ).loc main_arg1)) := rfl
  exact hd.trans (hr.trans (Memref.read_access_unit_zero (Elt F) main_arg1 hz (by intro a; fin_cases a <;> decide) _))
theorem finds_k (c : Dev nD) (X) (h : (rdats m good outOk 0 c).Finds (2 : Fin 6) t₀ X) : X = m ((c : Thread nD τ).loc main_arg2) := by
  obtain ⟨d, hd⟩ := finds_in m good outOk c (2 : Fin 6) rfl X h
  have hz : (fun a => win0_2.index (0 : Fin 1) a * main_arg2.ty.shape.size a) = fun _ => 0 := funext fun a => by fin_cases a <;> decide
  have hr : (rdats m good outOk 0 c).fetched (2 : Fin 6) t₀ d = (win0_2.blk (0 : Fin 1)).view.read (Elt F) (m ((c : Thread nD τ).loc main_arg2)) := rfl
  exact hd.trans (hr.trans (Memref.read_access_unit_zero (Elt F) main_arg2 hz (by intro a; fin_cases a <;> decide) _))
theorem finds_v (c : Dev nD) (X) (h : (rdats m good outOk 0 c).Finds (3 : Fin 6) t₀ X) : X = m ((c : Thread nD τ).loc main_arg3) := by
  obtain ⟨d, hd⟩ := finds_in m good outOk c (3 : Fin 6) rfl X h
  have hz : (fun a => win0_3.index (0 : Fin 1) a * main_arg3.ty.shape.size a) = fun _ => 0 := funext fun a => by fin_cases a <;> decide
  have hr : (rdats m good outOk 0 c).fetched (3 : Fin 6) t₀ d = (win0_3.blk (0 : Fin 1)).view.read (Elt F) (m ((c : Thread nD τ).loc main_arg3)) := rfl
  exact hd.trans (hr.trans (Memref.read_access_unit_zero (Elt F) main_arg3 hz (by intro a; fin_cases a <;> decide) _))
theorem finds_wo (c : Dev nD) (X) (h : (rdats m good outOk 0 c).Finds (4 : Fin 6) t₀ X) : X = m ((c : Thread nD τ).loc main_arg4) := by
  obtain ⟨d, hd⟩ := finds_in m good outOk c (4 : Fin 6) rfl X h
  have hz : (fun a => win0_4.index (0 : Fin 1) a * main_arg4.ty.shape.size a) = fun _ => 0 := funext fun a => by fin_cases a <;> decide
  have hr : (rdats m good outOk 0 c).fetched (4 : Fin 6) t₀ d = (win0_4.blk (0 : Fin 1)).view.read (Elt F) (m ((c : Thread nD τ).loc main_arg4)) := rfl
  exact hd.trans (hr.trans (Memref.read_access_unit_zero (Elt F) main_arg4 hz (by intro a; fin_cases a <;> decide) _))

/-- What every device computes is as `outOk` says. -/
def Computes : Prop := ∀ (c : Dev nD) (σ : St F), inputs m c σ → wlp good (fun σ' => outOk c (σ' .out)) (full F c) σ

variable (hw : Computes m good outOk)
include hw

set_option maxRecDepth 4000 in
theorem body_obligation (c : Dev nD) : (rdats m good outOk 0 c).BodyObligation (defs₀ (F := F)) 𝒱₀ () Set.univ := fun t Y hY => by
  obtain rfl := fin_N t
  rw [bigSep_W0, bigSep_W0]
  simp only [owns_whole_eq]
  have hx := finds_x m good outOk c _ (hY (0 : Fin 6))
  have hq := finds_wq m good outOk c _ (hY (1 : Fin 6))
  have hk := finds_k m good outOk c _ (hY (2 : Fin 6))
  have hv := finds_v m good outOk c _ (hY (3 : Fin 6))
  have ho := finds_wo m good outOk c _ (hY (4 : Fin 6))
  show iprop((start good c ∗ scratch c) ∗ (rdats m good outOk 0 c).owesAt () t₀.castSucc
      ∗ staged c (Y (0 : Fin 6)) (Y (1 : Fin 6)) (Y (2 : Fin 6)) (Y (3 : Fin 6)) (Y (4 : Fin 6)) (Y (5 : Fin 6)))
    ⊢ WP c (bodyP (F := F)) (fun _ => iprop((quiet c ∗ scratch c) ∗ (rdats m good outOk 0 c).owesAt () t₀.succ
      ∗ (∃ X, ⌜True⌝ ∗ whole c cc0_stg0_0 X) ∗ (∃ X, ⌜True⌝ ∗ whole c cc0_stg1_0 X) ∗ (∃ X, ⌜True⌝ ∗ whole c cc0_stg2_0 X) ∗ (∃ X, ⌜True⌝ ∗ whole c cc0_stg3_0 X)
      ∗ (∃ X, ⌜True⌝ ∗ whole c cc0_stg4_0 X) ∗ ∃ X, ⌜outOk c X⌝ ∗ whole c cc0_stg5_0 X))
  unfold Pipeline.RDat.owesAt Pipeline.owesWithin
  rw [show (rdats m good outOk 0 c).owed t₀.castSucc = O₀ c from rfl, show (rdats m good outOk 0 c).owed t₀.succ = 0 from rfl]
  iintro ⟨Hs, ⟨%W, %hW, HO⟩, Hst⟩
  iapply (sound_body good c (outOk c) (Y (0 : Fin 6)) (Y (1 : Fin 6)) (Y (2 : Fin 6)) (Y (3 : Fin 6)) (Y (4 : Fin 6)) (Y (5 : Fin 6))
    (fun σ h0 h1 h2 h3 h4 => hw c σ ⟨h0.trans hx, h1.trans hq, h2.trans hk, h3.trans hv, h4.trans ho⟩) W) $$ [Hs HO Hst]
  · isplitl [Hs]; · iexact Hs
    isplitl [HO] <;> iassumption
  iintro %gx %gw %gk %gv %gwo %go %hP Hq ⟨%W', HO⟩ Hst
  isplitl [Hq]; · iexact Hq
  isplitl [HO]
  · iexists W'
    isplitr; · ipureintro; exact fun _ _ => Or.inl trivial
    iexact HO
  unfold staged
  icases Hst with ⟨H0, H1, H2, H3, H4, H5⟩
  isplitl [H0]; · (iexists gx; isplitr; (· ipureintro; trivial); iexact H0)
  isplitl [H1]; · (iexists gw; isplitr; (· ipureintro; trivial); iexact H1)
  isplitl [H2]; · (iexists gk; isplitr; (· ipureintro; trivial); iexact H2)
  isplitl [H3]; · (iexists gv; isplitr; (· ipureintro; trivial); iexact H3)
  isplitl [H4]; · (iexists gwo; isplitr; (· ipureintro; trivial); iexact H4)
  iexists go
  isplitr; · ipureintro; exact hP
  iexact H5
omit hw

theorem share_eq (c : Dev nD) (w : Fin cfg0.W) : (rdats m good outOk 0 c).share w = fullShare := by unfold Pipeline.RDat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' good c)
      ⊢ |={Set.univ}=> iprop(start good c ∗ emp) := by
  iintro ⟨-, Hlev, Hcr, -, HG⟩
  ihave Hc := (creds_intro (F := F) c) $$ Hcr
  imodintro
  unfold start
  isplitl
  · isplitl [HG]; · iexact HG
    isplitl [Hc]; · iexact Hc
    iexact Hlev
  · iempintro

theorem phi0_intro (c : Dev nD) :
    iprop(start good c ∗ Pipeline.prefHeld Pipeline.Prefetch.none c (fun _ => fullShare.right) (fun k => k.elim0) ∗ Pipeline.scopedRest cfg0.spec c)
      ⊢ (rdats m good outOk 0 c).Φ 0 := by
  rw [show (rdats m good outOk 0 c).Φ 0 = iprop(start good c ∗ scratch c) from rfl, scopedRest0_eq]
  unfold scratch
  iintro ⟨Hs, -, Hr⟩
  isplitl [Hs]; · iexact Hs
  iexact Hr

theorem phi1_exit (c : Dev nD) :
    (rdats m good outOk 0 c).Φ (Fin.last cfg0.N) ⊢ iprop(unscopedSems0 c ∗ Pipeline.ownSems0 osem c ∗ Pipeline.scopedRest cfg0.spec c) := by
  rw [show (rdats m good outOk 0 c).Φ (Fin.last cfg0.N) = iprop(quiet c ∗ scratch c) from rfl, scopedRest0_eq, unscopedSems0_eq]
  unfold quiet scratch
  iintro ⟨⟨HB, HS⟩, Hr⟩
  isplitl [HB]; · iexact HB
  isplitl [HS]; · iexact HS
  iexact Hr

theorem waits (c : Dev nD) : (levAts L lv : sProp 𝕄) ⊢ Pipeline.RDat.cellsWaits cfgs (rdats m good outOk) () 0 c :=
  Pipeline.RDat.cellsWaits_intro cfgs (rdats m good outOk) () 0 c fun w s t =>
    mayWait_stage c _ (by fin_cases w <;> fin_cases s <;> decide) _ (by
      rcases t with ⟨_ | _, ht⟩
      · exact Or.inl rfl
      · exact Or.inr rfl)

theorem whole_out : (cfg0.win (5 : Fin 6)).WholeAt t₀ := by decide +kernel

theorem out_of (c : Dev nD) (G : (cc0_stg5_0 : Ref sig .tc).ty.Contents (Elt F)) (h : (rdats m good outOk 0 c).ArrAt (5 : Fin 6) cfg0.N G) : outOk c G := by
  obtain ⟨X, ⟨Y, -, hX⟩, hj⟩ := Pipeline.RDat.ArrAt.emb_eq_of_wholeAt h whole_out
  have : G = X := funext fun j => (congrArg G (by exact funext fun a => Fin.ext rfl)).trans (hj j)
  rw [this]; exact hX

include hw
set_option maxRecDepth 8000 in
/-- On the mesh of four devices, from any memory with zero counters: every weakly fair execution of @main ends, and then every device's
    result is as `outOk` says, its arguments are unchanged and every semaphore counter is zero. -/
theorem run_main : θ_run defs (onTc (τ := τ) (main (F := F))) ⟨m, fun _ => 0, ρ⟩ (fun r =>
    (∀ c : Dev nD, outOk c (r.2.mem ((c : Thread nD τ).loc main_v1))
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3)
      ∧ r.2.mem ((c : Thread nD τ).loc main_arg4) = m ((c : Thread nD τ).loc main_arg4))
    ∧ r.2.sem = fun _ => 0) :=
  Pipeline.RDat.θ_run_region_owing_glob_pf (fun p => (cfgs p).toPCfg) (fun p => (cfgs p).toPCfg_adm) (rdats m good outOk) () cellOf_inj (0 : Fin 1)
    winFacts0.to₀ ownSemFacts (Pipeline.PreFacts.none _) EP defs₀ 𝒱₀ m ρ main
    (hmain := fun _ => rfl)
    (hbody := body_obligation m good outOk hw) (hne := block_pos0) (harr := arr_whole0) (hstage := stage_whole0) (hshare := share_eq m good outOk)
    (hdistinct := winFacts0.arr_inj)
    (O₀ := O₀) (howed₀ := fun _ => rfl) (howedN := fun _ => rfl)
    (L := L) (lv := lv) (hL := L_of_ne) (hwaits := waits m good outOk)
    (G := G) (G' := G' good) (u₀ := u₀)
    (hu₀ := by
      unfold u₀
      iintro Hu
      ihave H := (ownU_pair _ _) $$ Hu
      icases H with ⟨HP, HX⟩
      imodintro
      isplitl [HP]; · iexact HP
      rw [G_all]; iexact HX)
    (hglob := glob good)
    (hA := fun _ _ => rfl) (hpf := fun _ k => k.elim0)
    (X := start good) (Y := fun c => unscopedSems0 c) (Z := fun _ => iprop(emp))
    (hX := start_intro m ρ good) (hin := phi0_intro m good outOk) (hout := phi1_exit m good outOk)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun s h hs => ⟨fun c => by
      have hin (w : Fin cfg0.W) (hw : (cfg0.win w).isOut = false) : s.mem ((cfg0.win w).arr.view.loc (c.tc : Thread nD τ)) = m ((cfg0.win w).arr.view.loc (c.tc : Thread nD τ)) := by
        have := (h c).1 w
        rw [(rdats m good outOk 0 c).ArrAt_in w hw cfg0.N] at this
        exact this
      exact ⟨out_of m good outOk c _ ((h c).1 (5 : Fin 6)), hin (0 : Fin 6) rfl, hin (1 : Fin 6) rfl, hin (2 : Fin 6) rfl, hin (3 : Fin 6) rfl, hin (4 : Fin 6) rfl⟩,
      sem_eq_zero hs fun c => (h c).2.2⟩)

end Cert.Attn

end
-- ==== Proof.Frames.lean ====
module

public import proofs.«01_k».proof.Defs
public import proofs.«01_k».proof.Proof.Run
public import proofs.«01_k».proof.Proof.Gen.Kernel
public import proofs.«01_k».proof.Proof.Gen.ReferenceIdeal.Run

/-! The frames: each program ends, leaves its arguments alone and every semaphore counter at zero; and the named constants of the kernel. -/

@[expose] public section

noncomputable section

namespace Cert.Attn

open Idealize.ShloMosaic Idealize.SL.Sem

/-- Asked nothing, a list of computations and transfers meets it. -/
theorem wlp_trivial {F : FTy → Type} [FloatOps F] [Named F] (l : List (Act F)) (σ : St F) : wlp (fun _ _ => True) (fun _ => True) l σ := by
  induction l generalizing σ with
  | nil => trivial
  | cons a l ih =>
    cases a with
    | blk B rd wr => exact ih _
    | send x => exact ⟨fun _ _ => trivial, ih _⟩
    | recv x => exact fun _ _ => ih _
    | wsend x => exact ih _
    | merge x => exact ih _

/-- Over the machine's words a named constant is the word it stands for. -/
@[reducible] def wordNamed : Named Bits := ⟨fun _ _ φ b => Scalar.ofBits φ b⟩

theorem frame_ideal : Cert.quiescent_KernelIdeal := fun m ρ _ =>
  (θ_run Cert.KernelIdeal.defs _ _).mono (fun _ h => ⟨fun c => (h.1 c).2, h.2⟩)
    (run_main (F := Ideal) m ρ (fun _ _ => True) (fun _ _ => True) (fun _ _ _ => wlp_trivial _ _))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem named : Cert.preserves_Kernel_KernelIdeal :=
  ⟨IdealRules.named_const.statement Cert.KernelIdeal.κ "mask" .f32 0xCE6E6B28#32 ⊥ rfl,
    IdealRules.named_const.statement Cert.KernelIdeal.κ "qscale" .f32 0x3E0293EE#32 (((Real.sqrt 128)⁻¹ * (Real.log 2)⁻¹ : ℝ) : EReal) rfl⟩

set_option maxRecDepth 100000 in
/-- Over the machine's words the kernel's body with named constants is the kernel's body. -/
theorem body_words : @Cert.KernelIdeal.cc0_body Bits _ wordNamed _ = @Cert.Kernel.cc0_body Bits _ _ := rfl

theorem bodies_words : @Cert.KernelIdeal.defs₀ Bits _ wordNamed _ = @Cert.Kernel.defs₀ Bits _ _ := by
  refine congrArg Defs.onTc (funext fun l => funext fun a => ?_)
  obtain ⟨n, hn⟩ := l
  cases n with
  | zero => obtain ⟨t, s⟩ := a; rfl
  | succ n => exact absurd hn (Nat.not_lt.2 (Nat.le_add_left _ _))

/-- Over the machine's words the two tables of bodies are one. -/
theorem defs_words : @Cert.KernelIdeal.defs Bits _ wordNamed _ = @Cert.Kernel.defs Bits _ _ :=
  congrArg (Pipeline.defs (Cert.Kernel.pcfgs (F := Bits))) bodies_words

theorem frame_kernel : Cert.quiescent_Kernel := fun m ρ _ => by
  have h := @run_main Bits _ wordNamed m ρ (fun _ _ => True) (fun _ _ => True) (fun _ _ _ => @wlp_trivial _ _ wordNamed _ _)
  rw [defs_words] at h
  exact (θ_run Cert.Kernel.defs _ _).mono (fun _ h => ⟨fun c => (h.1 c).2, h.2⟩) h

end Cert.Attn

end
-- ==== Proof.Real.lean ====
/-
The problem's mathematics, and how its sums over the keys split between devices and windows.

`Data` holds the five arguments as functions of their coordinates: the inputs of the scores are real numbers, the values and the
projection extended real ones. A query's weight on a key is `2 ^ (scaled score)`, zero where the mask hides the key.
-/
module

public import Mathlib.Analysis.SpecialFunctions.Pow.Real
public import Mathlib.Algebra.BigOperators.Intervals
public import Mathlib.Data.EReal.Operations

@[expose] public section

noncomputable section

namespace Cert.Attn

open Finset

/-- The query scale: `1 / (√128 · ln 2)`. -/
def qs : ℝ := (Real.sqrt 128)⁻¹ * (Real.log 2)⁻¹

/-- Query `i` and key `j` are within the window. -/
def near (i j : ℕ) : Prop := i ≤ j + 128 ∧ j ≤ i + 128
instance (i j : ℕ) : Decidable (near i j) := inferInstanceAs (Decidable (_ ∧ _))

/-- Query `i` sees key `j`. -/
def sees (i j : ℕ) : Prop := near i j ∨ j < 32 ∨ i < 32
instance (i j : ℕ) : Decidable (sees i j) := inferInstanceAs (Decidable (_ ∨ _))

/-- The arguments. -/
structure Data where
  X : ℕ → ℕ → ℝ
  Wq : ℕ → ℕ → ℝ
  K : ℕ → ℕ → ℕ → ℝ
  V : ℕ → ℕ → ℕ → EReal
  Wo : ℕ → ℕ → EReal

/-- The quotient by a real number that is not zero. -/
def quot (c : EReal) (l : ℝ) : EReal := c * ((1 / l : ℝ) : EReal)

namespace Data

variable (D : Data) {E : Type} [AddCommMonoid E]

/-- Head `h`'s query of row `i`. -/
def Q (h i d : ℕ) : ℝ := ∑ t ∈ range 1024, D.X i t * D.Wq t (128 * h + d)
/-- Its scaled score on key `j`. -/
def S (h i j : ℕ) : ℝ := ∑ d ∈ range 128, (D.Q h i d * qs) * D.K j h d
/-- Its weight on key `j`, the mask aside. -/
def W (h i j : ℕ) : ℝ := Real.rpow 2 (D.S h i j)
/-- Its weight on key `j`. -/
def M (h i j : ℕ) : ℝ := if sees i j then D.W h i j else 0
/-- The sum over the keys `a ≤ j < b` of what `g` makes of a key's weight. -/
def P (h i : ℕ) (g : ℕ → ℝ → E) (a b : ℕ) : E := ∑ j ∈ Ico a b, g j (D.M h i j)
/-- The weights' sum over the keys `a ≤ j < b`. -/
def L (h i a b : ℕ) : ℝ := D.P h i (fun _ m => m) a b
/-- Key `j`'s value, weighted. -/
def wv (h d j : ℕ) (m : ℝ) : EReal := (m : EReal) * D.V j h d
/-- The weighted values over the keys `a ≤ j < b`. -/
def C (h i d a b : ℕ) : EReal := D.P h i (D.wv h d) a b
/-- The attention's result of head `h`. -/
def A (h i d : ℕ) : EReal := quot (D.C h i d 0 4096) (D.L h i 0 4096)
/-- The output. -/
def O (i n : ℕ) : EReal := ∑ e ∈ range 1024, D.A (e / 128) i (e % 128) * D.Wo e n

theorem wv_zero (h d j : ℕ) : D.wv h d j 0 = 0 := by unfold wv; rw [EReal.coe_zero, zero_mul]
theorem W_pos (h i j : ℕ) : 0 < D.W h i j := Real.rpow_pos_of_pos two_pos _
theorem M_nonneg (h i j : ℕ) : 0 ≤ D.M h i j := by
  unfold M; split
  · exact (D.W_pos h i j).le
  · exact le_rfl
theorem M_zero_pos (h i : ℕ) : 0 < D.M h i 0 := by
  unfold M; rw [if_pos (show sees i 0 from Or.inr (Or.inl (by norm_num)))]; exact D.W_pos h i 0
theorem L_pos (h i b : ℕ) (hb : 0 < b) : 0 < D.L h i 0 b := by
  unfold L P
  refine Finset.sum_pos' (fun j _ => D.M_nonneg h i j) ⟨0, Finset.mem_Ico.2 ⟨le_rfl, hb⟩, ?_⟩
  exact D.M_zero_pos h i

theorem P_add (h i : ℕ) (g : ℕ → ℝ → E) {a b c : ℕ} (hab : a ≤ b) (hbc : b ≤ c) : D.P h i g a b + D.P h i g b c = D.P h i g a c :=
  Finset.sum_Ico_consecutive _ hab hbc

/-- Where the mask hides every key the sum is zero. -/
theorem P_zero (h i : ℕ) {g : ℕ → ℝ → E} (hg : ∀ j, g j 0 = 0) {a b : ℕ} (hh : ∀ j, a ≤ j → j < b → ¬ sees i j) : D.P h i g a b = 0 :=
  Finset.sum_eq_zero fun j hj => by
    have := Finset.mem_Ico.1 hj
    unfold M; rw [if_neg (hh j this.1 this.2), hg]

/-- A row before 896 sees nothing after the first device's keys, but for the global rows. -/
theorem P_mid (h i : ℕ) {g : ℕ → ℝ → E} (hg : ∀ j, g j 0 = 0) (h0 : 32 ≤ i) (h1 : i < 896) : D.P h i g 0 4096 = D.P h i g 0 1024 := by
  rw [← D.P_add h i g (Nat.zero_le 1024) (by norm_num : 1024 ≤ 4096),
    D.P_zero h i hg (a := 1024) (fun j _ _ hs => by unfold sees near at hs; omega), add_zero]
/-- The last rows see the first two devices' keys. -/
theorem P_edge (h i : ℕ) {g : ℕ → ℝ → E} (hg : ∀ j, g j 0 = 0) (h0 : 32 ≤ i) (h1 : i < 1024) : D.P h i g 0 4096 = D.P h i g 0 1024 + D.P h i g 1024 2048 := by
  rw [D.P_add h i g (Nat.zero_le 1024) (by norm_num : 1024 ≤ 2048), ← D.P_add h i g (Nat.zero_le 2048) (by norm_num : 2048 ≤ 4096),
    D.P_zero h i hg (a := 2048) (fun j _ _ hs => by unfold sees near at hs; omega), add_zero]
/-- The global rows see every device's keys. -/
theorem P_glob (h i : ℕ) (g : ℕ → ℝ → E) :
    D.P h i g 0 4096 = ((D.P h i g 0 1024 + D.P h i g 1024 2048) + D.P h i g 2048 3072) + D.P h i g 3072 4096 := by
  rw [D.P_add h i g (by norm_num) (by norm_num), D.P_add h i g (by norm_num) (by norm_num), D.P_add h i g (by norm_num) (by norm_num)]

/-- The keys a load brings, from `a` on. -/
theorem P_range (h i : ℕ) (g : ℕ → ℝ → E) (a n : ℕ) : D.P h i g a (a + n) = ∑ t ∈ range n, g (a + t) (D.M h i (a + t)) := by
  unfold P; rw [Finset.sum_Ico_eq_sum_range, Nat.add_sub_cancel_left]

/-- The first window block: rows before 256 see, of the first device's keys, those before 512, the global rows aside. -/
theorem P_first (h i : ℕ) {g : ℕ → ℝ → E} (hg : ∀ j, g j 0 = 0) (h0 : 32 ≤ i) (h1 : i < 256) : D.P h i g 0 1024 = ∑ t ∈ range 512, g t (D.M h i t) := by
  rw [← D.P_add h i g (Nat.zero_le 512) (by norm_num : 512 ≤ 1024),
    D.P_zero h i hg (a := 512) (fun j _ _ hs => by unfold sees near at hs; omega), add_zero]
  simpa using D.P_range h i g 0 512
/-- The global rows see both halves of them. -/
theorem P_first_glob (h i : ℕ) (g : ℕ → ℝ → E) (h0 : i < 32) :
    D.P h i g 0 1024 = (∑ t ∈ range 512, g t (D.M h i t)) + ∑ t ∈ range 512, g (512 + t) (D.W h i (512 + t)) := by
  rw [← D.P_add h i g (Nat.zero_le 512) (by norm_num : 512 ≤ 1024)]
  have e0 := D.P_range h i g 0 512
  have e1 := D.P_range h i g 512 512
  simp only [Nat.zero_add] at e0
  rw [e0, e1]
  refine congrArg _ (Finset.sum_congr rfl fun t _ => ?_)
  unfold M; rw [if_pos (show sees i _ from Or.inr (Or.inr h0))]
/-- The later blocks: the window's 512 keys from `o` on, and the 32 global keys. -/
theorem P_block (h i : ℕ) {g : ℕ → ℝ → E} (hg : ∀ j, g j 0 = 0) (o : ℕ) (ho : 32 ≤ o) (ho' : o + 512 ≤ 1024) (h0 : o + 128 ≤ i)
    (h1 : ∀ j, j < 1024 → near i j → j < o + 512) :
    D.P h i g 0 1024 = (∑ t ∈ range 512, g (o + t) (if near i (o + t) then D.W h i (o + t) else 0)) + ∑ t ∈ range 32, g t (D.W h i t) := by
  have split : ∀ j ∈ Ico 0 1024, g j (D.M h i j) = g j (if near i j then D.W h i j else 0) + (if j < 32 then g j (D.W h i j) else 0) := by
    intro j hj
    have hj' := (Finset.mem_Ico.1 hj).2
    unfold M sees
    by_cases hn : near i j
    · have : ¬ j < 32 := by unfold near at hn; omega
      simp [hn, this]
    · have : ¬ i < 32 := by omega
      by_cases hk : j < 32 <;> simp [hn, hk, this, hg]
  unfold P
  rw [Finset.sum_congr rfl split, Finset.sum_add_distrib]
  congr 1
  · have e : ∑ t ∈ range 512, g (o + t) (if near i (o + t) then D.W h i (o + t) else 0)
        = ∑ j ∈ Ico o (o + 512), g j (if near i j then D.W h i j else 0) := by
      rw [Finset.sum_Ico_eq_sum_range, Nat.add_sub_cancel_left]
    rw [e]
    refine (Finset.sum_subset (fun j hj => ?_) fun j hj hj' => ?_).symm
    · rw [Finset.mem_Ico] at hj ⊢; omega
    · have hlt := (Finset.mem_Ico.1 hj).2
      rw [if_neg, hg]
      intro hn
      refine hj' (Finset.mem_Ico.2 ⟨?_, h1 j hlt hn⟩)
      unfold near at hn; omega
  · have hsub : range 32 ⊆ Ico 0 1024 := fun j hj => by rw [Finset.mem_range] at hj; rw [Finset.mem_Ico]; omega
    rw [← Finset.sum_subset hsub (fun j _ hj' => if_neg (fun hk => hj' (Finset.mem_range.2 hk)))]
    exact Finset.sum_congr rfl fun j hj => if_pos (Finset.mem_range.1 hj)
/-- Another device's keys, for the global rows. -/
theorem P_dev_glob (h i : ℕ) (g : ℕ → ℝ → E) (a : ℕ) (h0 : i < 32) : D.P h i g a (a + 1024) = ∑ t ∈ range 1024, g (a + t) (D.W h i (a + t)) := by
  rw [P_range]
  refine Finset.sum_congr rfl fun t _ => ?_
  unfold M; rw [if_pos (show sees i _ from Or.inr (Or.inr h0))]
/-- The second device's keys, for the other rows. -/
theorem P_dev_edge (h i : ℕ) {g : ℕ → ℝ → E} (hg : ∀ j, g j 0 = 0) (h0 : 32 ≤ i) :
    D.P h i g 1024 2048 = ∑ t ∈ range 1024, g (1024 + t) (if near i (1024 + t) then D.W h i (1024 + t) else 0) := by
  have := D.P_range h i g 1024 1024
  rw [this]
  refine Finset.sum_congr rfl fun t _ => ?_
  have e1 : ¬ (1024 + t < 32) := by omega
  have e2 : ¬ i < 32 := by omega
  unfold M sees; simp [e1, e2]

/-- A sum over `128 n` indices, in `n` runs of 128. -/
theorem sum_heads (f : ℕ → E) (n : ℕ) : ∑ e ∈ range (128 * n), f e = ∑ h ∈ range n, ∑ d ∈ range 128, f (128 * h + d) := by
  induction n with
  | zero => rfl
  | succ n ih => rw [Nat.mul_succ, Finset.sum_range_add, ih]; exact (Finset.sum_range_succ (fun h => ∑ d ∈ range 128, f (128 * h + d)) n).symm

/-- The output, head by head. -/
theorem O_heads (i n : ℕ) : D.O i n = ∑ h ∈ range 8, ∑ d ∈ range 128, D.A h i d * D.Wo (128 * h + d) n := by
  unfold O
  rw [show (1024 : ℕ) = 128 * 8 from rfl, sum_heads]
  refine Finset.sum_congr rfl fun h _ => Finset.sum_congr rfl fun d hd => ?_
  have := Finset.mem_range.1 hd
  rw [show (128 * h + d) / 128 = h by omega, show (128 * h + d) % 128 = d by omega]

/-- A sum's quotient is the quotients' sum. -/
theorem sum_quot (s : Finset ℕ) (f : ℕ → EReal) {l : ℝ} (hl : 0 < l) : quot (∑ j ∈ s, f j) l = ∑ j ∈ s, quot (f j) l := by
  unfold quot
  induction s using Finset.induction_on with
  | empty => simp
  | insert a s ha ih =>
    rw [Finset.sum_insert ha, Finset.sum_insert ha, ← ih]
    exact EReal.right_distrib_of_nonneg_of_ne_top (EReal.coe_nonneg.2 (by positivity)) (EReal.coe_ne_top _) _ _

end Data

end Cert.Attn

end
-- ==== Proof.Ops.lean ====
/-
The kernel's vector operations over the extended reals, read at an index.

`R2 f G` says that the element of `f` at row `a` and column `b` is the real number `G a b`; `R1`, `R3` and `R4` say it of
other ranks, and `E2`, `E3` and `E4` say which extended real number it is. Each lemma takes such readings of an operation's operands to one of its result.
-/
module

public import proofs.«01_k».proof.Proof.Real
public import Idealize.ShloMosaic.Lib.MatmulPlain
public import Idealize.ShloMosaic.Lib.ValueIdx
public import Idealize.ShloMosaic.Lib.VecWindow
public import Idealize.ShloMosaic.Lib.Pipeline.Value
public import Idealize.ShloMosaic.Lib.IdealHost

@[expose] public section

noncomputable section

namespace Cert.Attn

open Idealize.ShloMosaic Idealize.ShloMosaic.ValueIdx
open Finset (range)

/-- A sum of real numbers, read as extended reals. -/
theorem coe_sum_range (f : ℕ → ℝ) (n : ℕ) : ∑ t : Fin n, ((f t.val : ℝ) : EReal) = ((∑ t ∈ range n, f t : ℝ) : EReal) := by
  rw [Finset.sum_range]
  exact (map_sum (⟨⟨Real.toEReal, rfl⟩, EReal.coe_add⟩ : ℝ →+ EReal) (fun t : Fin n => f t.val) Finset.univ).symm

def R1 {a : ℕ} (f : (⟨1, ![a]⟩ : Shape).Idx → EReal) (G : ℕ → ℝ) : Prop := ∀ i, f i = ((G (i 0).val : ℝ) : EReal)
def R2 {a b : ℕ} (f : (⟨2, ![a, b]⟩ : Shape).Idx → EReal) (G : ℕ → ℕ → ℝ) : Prop := ∀ i, f i = ((G (i 0).val (i 1).val : ℝ) : EReal)
def R3 {a b c : ℕ} (f : (⟨3, ![a, b, c]⟩ : Shape).Idx → EReal) (G : ℕ → ℕ → ℕ → ℝ) : Prop :=
  ∀ i, f i = ((G (i 0).val (i 1).val (i 2).val : ℝ) : EReal)
def R4 {a b c d : ℕ} (f : (⟨4, ![a, b, c, d]⟩ : Shape).Idx → EReal) (G : ℕ → ℕ → ℕ → ℕ → ℝ) : Prop :=
  ∀ i, f i = ((G (i 0).val (i 1).val (i 2).val (i 3).val : ℝ) : EReal)

/-! ## Arithmetic -/

section Arith

variable {M K N : ℕ} {φ φ₁ φ₂ : FTy}

theorem R2.congr {f : (⟨2, ![M, N]⟩ : Shape).Idx → EReal} {G G' : ℕ → ℕ → ℝ} (h : R2 f G)
    (e : ∀ a b, a < M → b < N → G a b = G' a b) : R2 f G' := fun i => by
  rw [h i, e _ _ (i 0).isLt (i 1).isLt]

theorem R2.mm {a : FVec Ideal ⟨2, ![M, K]⟩ φ₁} {b : FVec Ideal ⟨2, ![K, N]⟩ φ₂} {A B : ℕ → ℕ → ℝ} (ha : R2 a A) (hb : R2 b B) :
    R2 (FloatOps.matmul (DotDims.plain M K N) none a b (constant ⟨2, ![M, N]⟩ .f32 0x00000000#32))
      (fun i j => ∑ t ∈ range K, A i t * B t j) := fun i => by
  obtain ⟨r, c, rfl⟩ : ∃ r c, i = ix2 r c := ⟨i 0, i 1, eq_ix2 i⟩
  rw [Ideal.matmul_plain_apply, constant_apply, Ideal.ofBits_zero_f32, zero_add, ← coe_sum_range]
  refine Finset.sum_congr rfl fun t _ => ?_
  rw [ha, hb, ← EReal.coe_mul]; rfl

theorem R2.mmT {a : FVec Ideal ⟨2, ![M, K]⟩ φ₁} {b : FVec Ideal ⟨2, ![N, K]⟩ φ₂} {A B : ℕ → ℕ → ℝ} (ha : R2 a A) (hb : R2 b B) :
    R2 (FloatOps.matmul (DotDims.transposedRhs M K N) none a b (constant ⟨2, ![M, N]⟩ .f32 0x00000000#32))
      (fun i j => ∑ t ∈ range K, A i t * B j t) := fun i => by
  obtain ⟨r, c, rfl⟩ : ∃ r c, i = ix2 r c := ⟨i 0, i 1, eq_ix2 i⟩
  rw [Ideal.matmul_transposedRhs_apply, constant_apply, Ideal.ofBits_zero_f32, zero_add, ← coe_sum_range]
  refine Finset.sum_congr rfl fun t _ => ?_
  rw [ha, hb, ← EReal.coe_mul]; rfl

theorem R2.scale {a : FVec Ideal ⟨2, ![M, N]⟩ φ} {A : ℕ → ℕ → ℝ} {x : EReal} {c : ℝ} (ha : R2 a A) (hx : x = (c : EReal)) :
    R2 (mulf a (broadcast _ x : FVec Ideal ⟨2, ![M, N]⟩ φ)) (fun i j => A i j * c) := fun i => by
  rw [mulf_apply, ha, EReal.coe_mul, ← hx]; rfl

theorem R2.add {a b : FVec Ideal ⟨2, ![M, N]⟩ φ} {A B : ℕ → ℕ → ℝ} (ha : R2 a A) (hb : R2 b B) :
    R2 (addf a b) (fun i j => A i j + B i j) := fun i => by rw [addf_apply, ha, hb, EReal.coe_add]

theorem R2.exp {a : FVec Ideal ⟨2, ![M, N]⟩ .f32} {A : ℕ → ℕ → ℝ} (ha : R2 a A) :
    R2 (exp2 a) (fun i j => Real.rpow 2 (A i j)) := fun i => by
  show Ideal.exp2 (a i) = _
  rw [ha, Ideal.exp2_coe]

/-- Zero where `p` holds, and −∞ elsewhere. -/
def Msk (m : (⟨2, ![M, N]⟩ : Shape).Idx → EReal) (p : ℕ → ℕ → Prop) [∀ i j, Decidable (p i j)] : Prop :=
  ∀ i, m i = if p (i 0).val (i 1).val then 0 else ⊥

theorem R2.expMask {a m : FVec Ideal ⟨2, ![M, N]⟩ .f32} {A : ℕ → ℕ → ℝ} {p : ℕ → ℕ → Prop} [∀ i j, Decidable (p i j)] (ha : R2 a A) (hm : Msk m p) :
    R2 (exp2 (addf a m)) (fun i j => if p i j then Real.rpow 2 (A i j) else 0) := fun i => by
  show Ideal.exp2 (a i + m i) = _
  rw [ha, hm]
  show _ = ((if p (i 0).val (i 1).val then Real.rpow 2 (A (i 0).val (i 1).val) else 0 : ℝ) : EReal)
  split
  · rw [add_zero, Ideal.exp2_coe]
  · rw [EReal.add_bot, Ideal.exp2_bot, EReal.coe_zero]

theorem R2.div {a b : FVec Ideal ⟨2, ![M, N]⟩ φ} {A B : ℕ → ℕ → ℝ} (ha : R2 a A) (hb : R2 b B)
    (h : ∀ i j, i < M → j < N → B i j ≠ 0) : R2 (divf a b) (fun i j => A i j / B i j) := fun i => by
  rw [divf_apply, ha, hb, Ideal.div_coe (h _ _ (i 0).isLt (i 1).isLt), ← EReal.coe_mul, mul_one_div]

/-- A row's sum, as a column. -/
theorem R2.rowSum {a : FVec Ideal ⟨2, ![M, N]⟩ .f32} {A : ℕ → ℕ → ℝ} (ha : R2 a A) {acc : BitVec 32}
    (h : (⟨2, ![M, N]⟩ : Shape).Reduces [1] ⟨1, ![M]⟩) (hφ) (hacc) (hs : (⟨1, ![M]⟩ : Shape).ShapeCasts ⟨2, ![M, 1]⟩) :
    R2 (shapeCast ⟨2, ![M, 1]⟩ (multiReduction .add [1] ⟨1, ![M]⟩ a acc h hφ hacc) hs) (fun i _ => ∑ t ∈ range N, A i t) := fun i => by
  have h1 : (i 1).val = 0 := by have := (i 1).isLt; exact Nat.lt_one_iff.1 this
  rw [shapeCast_apply _ hs i (ix1 (i 0)) (by rw [Shape.rowMajor_val_one, Shape.rowMajor_val_two, h1]; show (i 0).val = (i 0).val * 1 + 0; omega),
    Ideal.multiReduction_add_single, ← coe_sum_range]
  refine Finset.sum_congr rfl fun t _ => ?_
  rw [ha]; rfl

/-- A column, along every row. -/
theorem R2.col {l : FVec Ideal ⟨2, ![M, 1]⟩ φ} {G : ℕ → ℕ → ℝ} (hl : R2 l G) (h : (⟨2, ![M, 1]⟩ : Shape).Broadcasts ⟨2, ![M, N]⟩) :
    R2 (broadcastTo ⟨2, ![M, N]⟩ l h) (fun i _ => G i 0) := fun i => by
  rw [broadcastTo_apply l h i (ix2 (i 0) 0) (fun a => by
    match a with
    | ⟨0, _⟩ =>
      show (i 0).val = if M = 1 then 0 else (i 0).val
      split
      · have := (i 0).isLt; have : (i 0).val < M := this; omega
      · rfl
    | ⟨1, _⟩ => rfl), hl]
  rfl

theorem R2.slice {m n o0 o1 : ℕ} {a : (⟨2, ![M, N]⟩ : Shape).Idx → EReal} {A : ℕ → ℕ → ℝ} (ha : R2 a A)
    (h : (⟨2, ![M, N]⟩ : Shape).Slices ![o0, o1] ⟨2, ![m, n]⟩) :
    R2 (extractStridedSlice ⟨2, ![m, n]⟩ ![o0, o1] a h) (fun i j => A (o0 + i) (o1 + j)) := fun i => by
  have b0 := h.2 ⟨0, Nat.zero_lt_two⟩
  have b1 := h.2 ⟨1, Nat.one_lt_two⟩
  have l0 := (i 0).isLt
  have l1 := (i 1).isLt
  rw [extractStridedSlice_apply _ a h i (ix2 ⟨o0 + (i 0).val, lt_of_lt_of_le (Nat.add_lt_add_left l0 _) b0⟩ ⟨o1 + (i 1).val, lt_of_lt_of_le (Nat.add_lt_add_left l1 _) b1⟩) (fun a => by
    match a with
    | ⟨0, _⟩ => rfl
    | ⟨1, _⟩ => rfl), ha]
  rfl

end Arith

/-! ## Shape casts -/

section Casts

variable {a b c d : ℕ} {α : Type}

theorem cast_1ab (x : (⟨3, ![1, a, b]⟩ : Shape).Idx → α) (h : (⟨3, ![1, a, b]⟩ : Shape).ShapeCasts ⟨2, ![a, b]⟩) (i : (⟨2, ![a, b]⟩ : Shape).Idx) :
    shapeCast ⟨2, ![a, b]⟩ x h i = x (ix3 0 (i 0) (i 1)) :=
  shapeCast_apply x h i _ (by rw [Shape.rowMajor_val_two, Shape.rowMajor_val_three]; show (0 * a + (i 0).val) * b + (i 1).val = _; rw [Nat.zero_mul, Nat.zero_add]; rfl)
theorem cast_to1ab (x : (⟨2, ![a, b]⟩ : Shape).Idx → α) (h : (⟨2, ![a, b]⟩ : Shape).ShapeCasts ⟨3, ![1, a, b]⟩) (i : (⟨3, ![1, a, b]⟩ : Shape).Idx) :
    shapeCast ⟨3, ![1, a, b]⟩ x h i = x (ix2 (i 1) (i 2)) :=
  shapeCast_apply x h i _ (by
    have h0 : (i 0).val = 0 := Nat.lt_one_iff.1 (i 0).isLt
    rw [Shape.rowMajor_val_two, Shape.rowMajor_val_three, h0]
    show (i 1).val * b + (i 2).val = (0 * a + (i 1).val) * b + (i 2).val; rw [Nat.zero_mul, Nat.zero_add])
theorem cast_11ab (x : (⟨4, ![1, 1, a, b]⟩ : Shape).Idx → α) (h : (⟨4, ![1, 1, a, b]⟩ : Shape).ShapeCasts ⟨2, ![a, b]⟩) (i : (⟨2, ![a, b]⟩ : Shape).Idx) :
    shapeCast ⟨2, ![a, b]⟩ x h i = x (ix4 0 0 (i 0) (i 1)) :=
  shapeCast_apply x h i _ (by rw [Shape.rowMajor_val_two, Shape.rowMajor_val_four]; show (0 * a + (i 0).val) * b + (i 1).val = _; rw [Nat.zero_mul, Nat.zero_add]; rfl)
theorem cast_to11ab (x : (⟨2, ![a, b]⟩ : Shape).Idx → α) (h : (⟨2, ![a, b]⟩ : Shape).ShapeCasts ⟨4, ![1, 1, a, b]⟩) (i : (⟨4, ![1, 1, a, b]⟩ : Shape).Idx) :
    shapeCast ⟨4, ![1, 1, a, b]⟩ x h i = x (ix2 (i 2) (i 3)) :=
  shapeCast_apply x h i _ (by
    have h0 : (i 0).val = 0 := Nat.lt_one_iff.1 (i 0).isLt
    have h1 : (i 1).val = 0 := Nat.lt_one_iff.1 (i 1).isLt
    rw [Shape.rowMajor_val_two, Shape.rowMajor_val_four, h0, h1]
    show (i 2).val * b + (i 3).val = (0 * a + (i 2).val) * b + (i 3).val; rw [Nat.zero_mul, Nat.zero_add])
theorem cast_1a1b (x : (⟨4, ![1, a, 1, b]⟩ : Shape).Idx → α) (h : (⟨4, ![1, a, 1, b]⟩ : Shape).ShapeCasts ⟨2, ![a, b]⟩) (i : (⟨2, ![a, b]⟩ : Shape).Idx) :
    shapeCast ⟨2, ![a, b]⟩ x h i = x (ix4 0 (i 0) 0 (i 1)) :=
  shapeCast_apply x h i _ (by rw [Shape.rowMajor_val_two, Shape.rowMajor_val_four]; show ((0 * a + (i 0).val) * 1 + 0) * b + (i 1).val = _; rw [Nat.zero_mul, Nat.zero_add, Nat.mul_one, Nat.add_zero]; rfl)

theorem R2.self {f : (⟨2, ![a, b]⟩ : Shape).Idx → EReal} {G : ℕ → ℕ → ℝ} (hf : R2 f G) (h : (⟨2, ![a, b]⟩ : Shape).ShapeCasts ⟨2, ![a, b]⟩) :
    R2 (shapeCast ⟨2, ![a, b]⟩ f h) G := by rw [shapeCast_self]; exact hf
theorem R3.drop {f : (⟨3, ![1, a, b]⟩ : Shape).Idx → EReal} {G : ℕ → ℕ → ℕ → ℝ} (hf : R3 f G) (h : (⟨3, ![1, a, b]⟩ : Shape).ShapeCasts ⟨2, ![a, b]⟩) :
    R2 (shapeCast ⟨2, ![a, b]⟩ f h) (G 0) := fun i => by rw [cast_1ab, hf]; rfl
theorem R4.drop {f : (⟨4, ![1, 1, a, b]⟩ : Shape).Idx → EReal} {G : ℕ → ℕ → ℕ → ℕ → ℝ} (hf : R4 f G)
    (h : (⟨4, ![1, 1, a, b]⟩ : Shape).ShapeCasts ⟨2, ![a, b]⟩) : R2 (shapeCast ⟨2, ![a, b]⟩ f h) (G 0 0) := fun i => by rw [cast_11ab, hf]; rfl
theorem R4.drop' {f : (⟨4, ![1, a, 1, b]⟩ : Shape).Idx → EReal} {G : ℕ → ℕ → ℕ → ℕ → ℝ} (hf : R4 f G)
    (h : (⟨4, ![1, a, 1, b]⟩ : Shape).ShapeCasts ⟨2, ![a, b]⟩) : R2 (shapeCast ⟨2, ![a, b]⟩ f h) (fun i j => G 0 i 0 j) := fun i => by rw [cast_1a1b, hf]; rfl

end Casts

/-! ## Windows and stores -/

section Windows

variable {a b c d : ℕ}

/-- A load: what is known of the elements it brings. -/
theorem window_read {s : Shape} (f : s.Idx → EReal) (G : (Fin s.rank → ℕ) → ℝ) (off size : Fin s.rank → ℕ) (inb : ∀ x, off x + size x ≤ s.size x)
    (hf : ∀ i : s.Idx, (∀ x, off x ≤ (i x).val ∧ (i x).val < off x + size x) → f i = ((G fun x => (i x).val : ℝ) : EReal))
    (y : (Rect.unit off size inb).shape.Idx) : VecWindow.window f off size inb y = ((G fun x => off x + (y x).val : ℝ) : EReal) := by
  have e : ∀ x, ((Rect.unit off size inb).emb y x).val = off x + (y x).val := fun x => by
    show off x + 1 * (y x).val = _; omega
  have := hf ((Rect.unit off size inb).emb y) (fun x => by
    have l : (y x).val < size x := (y x).isLt
    have := e x; omega)
  simp only [e] at this
  exact this
/-- A store: what is known of every element after it. -/
theorem put_read {s : Shape} (f : s.Idx → EReal) (G : (Fin s.rank → ℕ) → ℝ) (off size : Fin s.rank → ℕ)
    (w : ((a : Fin s.rank) → Fin (size a)) → EReal) (hw : ∀ y, w y = ((G fun x => (y x).val : ℝ) : EReal)) (i : s.Idx) :
    VecWindow.put f off size w i
      = if ∀ x, off x ≤ (i x).val ∧ (i x).val < off x + size x then ((G fun x => (i x).val - off x : ℝ) : EReal) else f i := by
  unfold VecWindow.put
  by_cases h : ∀ x, off x ≤ (i x).val ∧ (i x).val < off x + size x
  · rw [dif_pos h, if_pos h]; exact hw _
  · rw [dif_neg h, if_neg h]

theorem R2.window {f : (⟨2, ![a, b]⟩ : Shape).Idx → EReal} {G : ℕ → ℕ → ℝ} {o0 o1 t0 t1 : ℕ}
    (inb : ∀ x, (![o0, o1] : Fin 2 → ℕ) x + (![t0, t1] : Fin 2 → ℕ) x ≤ (![a, b] : Fin 2 → ℕ) x)
    (hf : ∀ i : (⟨2, ![a, b]⟩ : Shape).Idx, o0 ≤ (i 0).val → (i 0).val < o0 + t0 → o1 ≤ (i 1).val → (i 1).val < o1 + t1 → f i = ((G (i 0).val (i 1).val : ℝ) : EReal)) :
    R2 (a := t0) (b := t1) (VecWindow.window (s := ⟨2, ![a, b]⟩) f ![o0, o1] ![t0, t1] inb) (fun i j => G (o0 + i) (o1 + j)) :=
  fun y => window_read (s := ⟨2, ![a, b]⟩) f (fun y => G (y 0) (y 1)) ![o0, o1] ![t0, t1] inb (fun i h => hf i (h 0).1 (h 0).2 (h 1).1 (h 1).2) y
theorem R2.put {f : (⟨2, ![a, b]⟩ : Shape).Idx → EReal} {G : ℕ → ℕ → ℝ} {o0 o1 t0 t1 : ℕ}
    {w : (⟨2, ![t0, t1]⟩ : Shape).Idx → EReal} (hw : R2 w G) (i : (⟨2, ![a, b]⟩ : Shape).Idx) :
    VecWindow.put (s := ⟨2, ![a, b]⟩) f ![o0, o1] ![t0, t1] w i = if (o0 ≤ (i 0).val ∧ (i 0).val < o0 + t0) ∧ (o1 ≤ (i 1).val ∧ (i 1).val < o1 + t1) then ((G ((i 0).val - o0) ((i 1).val - o1) : ℝ) : EReal) else f i :=
  (put_read (s := ⟨2, ![a, b]⟩) f (fun y => G (y 0) (y 1)) ![o0, o1] ![t0, t1] w hw i).trans (if_congr (by simp [Fin.forall_fin_succ]) rfl rfl)

theorem R3.window {f : (⟨3, ![a, b, c]⟩ : Shape).Idx → EReal} {G : ℕ → ℕ → ℕ → ℝ} {o0 o1 o2 t0 t1 t2 : ℕ}
    (inb : ∀ x, (![o0, o1, o2] : Fin 3 → ℕ) x + (![t0, t1, t2] : Fin 3 → ℕ) x ≤ (![a, b, c] : Fin 3 → ℕ) x)
    (hf : ∀ i : (⟨3, ![a, b, c]⟩ : Shape).Idx, o0 ≤ (i 0).val → (i 0).val < o0 + t0 → o1 ≤ (i 1).val → (i 1).val < o1 + t1 → o2 ≤ (i 2).val → (i 2).val < o2 + t2 → f i = ((G (i 0).val (i 1).val (i 2).val : ℝ) : EReal)) :
    R3 (a := t0) (b := t1) (c := t2) (VecWindow.window (s := ⟨3, ![a, b, c]⟩) f ![o0, o1, o2] ![t0, t1, t2] inb) (fun i j k => G (o0 + i) (o1 + j) (o2 + k)) :=
  fun y => window_read (s := ⟨3, ![a, b, c]⟩) f (fun y => G (y 0) (y 1) (y 2)) ![o0, o1, o2] ![t0, t1, t2] inb (fun i h => hf i (h 0).1 (h 0).2 (h 1).1 (h 1).2 (h 2).1 (h 2).2) y
theorem R3.put {f : (⟨3, ![a, b, c]⟩ : Shape).Idx → EReal} {G : ℕ → ℕ → ℕ → ℝ} {o0 o1 o2 t0 t1 t2 : ℕ}
    {w : (⟨3, ![t0, t1, t2]⟩ : Shape).Idx → EReal} (hw : R3 w G) (i : (⟨3, ![a, b, c]⟩ : Shape).Idx) :
    VecWindow.put (s := ⟨3, ![a, b, c]⟩) f ![o0, o1, o2] ![t0, t1, t2] w i = if (o0 ≤ (i 0).val ∧ (i 0).val < o0 + t0) ∧ (o1 ≤ (i 1).val ∧ (i 1).val < o1 + t1) ∧ (o2 ≤ (i 2).val ∧ (i 2).val < o2 + t2) then ((G ((i 0).val - o0) ((i 1).val - o1) ((i 2).val - o2) : ℝ) : EReal) else f i :=
  (put_read (s := ⟨3, ![a, b, c]⟩) f (fun y => G (y 0) (y 1) (y 2)) ![o0, o1, o2] ![t0, t1, t2] w hw i).trans (if_congr (by simp [Fin.forall_fin_succ]) rfl rfl)

theorem R4.window {f : (⟨4, ![a, b, c, d]⟩ : Shape).Idx → EReal} {G : ℕ → ℕ → ℕ → ℕ → ℝ} {o0 o1 o2 o3 t0 t1 t2 t3 : ℕ}
    (inb : ∀ x, (![o0, o1, o2, o3] : Fin 4 → ℕ) x + (![t0, t1, t2, t3] : Fin 4 → ℕ) x ≤ (![a, b, c, d] : Fin 4 → ℕ) x)
    (hf : ∀ i : (⟨4, ![a, b, c, d]⟩ : Shape).Idx, o0 ≤ (i 0).val → (i 0).val < o0 + t0 → o1 ≤ (i 1).val → (i 1).val < o1 + t1 → o2 ≤ (i 2).val → (i 2).val < o2 + t2 → o3 ≤ (i 3).val → (i 3).val < o3 + t3 → f i = ((G (i 0).val (i 1).val (i 2).val (i 3).val : ℝ) : EReal)) :
    R4 (a := t0) (b := t1) (c := t2) (d := t3) (VecWindow.window (s := ⟨4, ![a, b, c, d]⟩) f ![o0, o1, o2, o3] ![t0, t1, t2, t3] inb) (fun i j k l => G (o0 + i) (o1 + j) (o2 + k) (o3 + l)) :=
  fun y => window_read (s := ⟨4, ![a, b, c, d]⟩) f (fun y => G (y 0) (y 1) (y 2) (y 3)) ![o0, o1, o2, o3] ![t0, t1, t2, t3] inb (fun i h => hf i (h 0).1 (h 0).2 (h 1).1 (h 1).2 (h 2).1 (h 2).2 (h 3).1 (h 3).2) y
theorem R4.put {f : (⟨4, ![a, b, c, d]⟩ : Shape).Idx → EReal} {G : ℕ → ℕ → ℕ → ℕ → ℝ} {o0 o1 o2 o3 t0 t1 t2 t3 : ℕ}
    {w : (⟨4, ![t0, t1, t2, t3]⟩ : Shape).Idx → EReal} (hw : R4 w G) (i : (⟨4, ![a, b, c, d]⟩ : Shape).Idx) :
    VecWindow.put (s := ⟨4, ![a, b, c, d]⟩) f ![o0, o1, o2, o3] ![t0, t1, t2, t3] w i = if (o0 ≤ (i 0).val ∧ (i 0).val < o0 + t0) ∧ (o1 ≤ (i 1).val ∧ (i 1).val < o1 + t1) ∧ (o2 ≤ (i 2).val ∧ (i 2).val < o2 + t2) ∧ (o3 ≤ (i 3).val ∧ (i 3).val < o3 + t3) then ((G ((i 0).val - o0) ((i 1).val - o1) ((i 2).val - o2) ((i 3).val - o3) : ℝ) : EReal) else f i :=
  (put_read (s := ⟨4, ![a, b, c, d]⟩) f (fun y => G (y 0) (y 1) (y 2) (y 3)) ![o0, o1, o2, o3] ![t0, t1, t2, t3] w hw i).trans (if_congr (by simp [Fin.forall_fin_succ]) rfl rfl)

theorem R2.lead {f : (⟨2, ![a, b]⟩ : Shape).Idx → EReal} {G : ℕ → ℕ → ℝ} (hf : R2 f G) (h : (⟨2, ![a, b]⟩ : Shape).ShapeCasts ⟨3, ![1, a, b]⟩) :
    R3 (shapeCast ⟨3, ![1, a, b]⟩ f h) (fun _ i j => G i j) := fun i => by rw [cast_to1ab, hf]; rfl
theorem R2.lead2 {f : (⟨2, ![a, b]⟩ : Shape).Idx → EReal} {G : ℕ → ℕ → ℝ} (hf : R2 f G) (h : (⟨2, ![a, b]⟩ : Shape).ShapeCasts ⟨4, ![1, 1, a, b]⟩) :
    R4 (shapeCast ⟨4, ![1, 1, a, b]⟩ f h) (fun _ _ i j => G i j) := fun i => by rw [cast_to11ab, hf]; rfl

end Windows

/-! ## Readings by extended real numbers -/

def E2 {a b : ℕ} (f : (⟨2, ![a, b]⟩ : Shape).Idx → EReal) (G : ℕ → ℕ → EReal) : Prop := ∀ i, f i = G (i 0).val (i 1).val
def E3 {a b c : ℕ} (f : (⟨3, ![a, b, c]⟩ : Shape).Idx → EReal) (G : ℕ → ℕ → ℕ → EReal) : Prop :=
  ∀ i, f i = G (i 0).val (i 1).val (i 2).val
def E4 {a b c d : ℕ} (f : (⟨4, ![a, b, c, d]⟩ : Shape).Idx → EReal) (G : ℕ → ℕ → ℕ → ℕ → EReal) : Prop :=
  ∀ i, f i = G (i 0).val (i 1).val (i 2).val (i 3).val

theorem R2.ext {a b : ℕ} {f : (⟨2, ![a, b]⟩ : Shape).Idx → EReal} {G : ℕ → ℕ → ℝ} (h : R2 f G) : E2 f fun i j => ((G i j : ℝ) : EReal) := h

section Arith

variable {M K N : ℕ} {φ φ₁ φ₂ : FTy}

theorem E2.congr {f : (⟨2, ![M, N]⟩ : Shape).Idx → EReal} {G G' : ℕ → ℕ → EReal} (h : E2 f G)
    (e : ∀ a b, a < M → b < N → G a b = G' a b) : E2 f G' := fun i => by
  rw [h i, e _ _ (i 0).isLt (i 1).isLt]
theorem E3.congr {M N P : ℕ} {f : (⟨3, ![M, N, P]⟩ : Shape).Idx → EReal} {G G' : ℕ → ℕ → ℕ → EReal} (h : E3 f G)
    (e : ∀ a b c, a < M → b < N → c < P → G a b c = G' a b c) : E3 f G' := fun i => by
  rw [h i, e _ _ _ (i 0).isLt (i 1).isLt (i 2).isLt]
theorem E4.congr {M N P R : ℕ} {f : (⟨4, ![M, N, P, R]⟩ : Shape).Idx → EReal} {G G' : ℕ → ℕ → ℕ → ℕ → EReal} (h : E4 f G)
    (e : ∀ a b c d, a < M → b < N → c < P → d < R → G a b c d = G' a b c d) : E4 f G' := fun i => by
  rw [h i, e _ _ _ _ (i 0).isLt (i 1).isLt (i 2).isLt (i 3).isLt]

theorem E2.mm {a : FVec Ideal ⟨2, ![M, K]⟩ φ₁} {b : FVec Ideal ⟨2, ![K, N]⟩ φ₂} {A B : ℕ → ℕ → EReal} (ha : E2 a A) (hb : E2 b B) :
    E2 (FloatOps.matmul (DotDims.plain M K N) none a b (constant ⟨2, ![M, N]⟩ .f32 0x00000000#32))
      (fun i j => ∑ t ∈ range K, A i t * B t j) := fun i => by
  obtain ⟨r, c, rfl⟩ : ∃ r c, i = ix2 r c := ⟨i 0, i 1, eq_ix2 i⟩
  rw [Ideal.matmul_plain_apply, constant_apply, Ideal.ofBits_zero_f32, zero_add]
  refine (Finset.sum_congr rfl fun t _ => ?_).trans (Finset.sum_range fun t => A r.val t * B t c.val).symm
  rw [ha, hb]; rfl

theorem E2.add {a b : FVec Ideal ⟨2, ![M, N]⟩ φ} {A B : ℕ → ℕ → EReal} (ha : E2 a A) (hb : E2 b B) :
    E2 (addf a b) (fun i j => A i j + B i j) := fun i => by rw [addf_apply, ha, hb]

/-- The quotient by real numbers. -/
theorem E2.div {a b : FVec Ideal ⟨2, ![M, N]⟩ φ} {A : ℕ → ℕ → EReal} {B : ℕ → ℕ → ℝ} (ha : E2 a A) (hb : R2 b B)
    (h : ∀ i j, i < M → j < N → B i j ≠ 0) : E2 (divf a b) (fun i j => quot (A i j) (B i j)) := fun i => by
  rw [divf_apply, ha, hb, Ideal.div_coe (h _ _ (i 0).isLt (i 1).isLt)]; rfl

theorem E2.slice {m n o0 o1 : ℕ} {a : (⟨2, ![M, N]⟩ : Shape).Idx → EReal} {A : ℕ → ℕ → EReal} (ha : E2 a A)
    (h : (⟨2, ![M, N]⟩ : Shape).Slices ![o0, o1] ⟨2, ![m, n]⟩) :
    E2 (extractStridedSlice ⟨2, ![m, n]⟩ ![o0, o1] a h) (fun i j => A (o0 + i) (o1 + j)) := fun i => by
  have b0 := h.2 ⟨0, Nat.zero_lt_two⟩
  have b1 := h.2 ⟨1, Nat.one_lt_two⟩
  have l0 := (i 0).isLt
  have l1 := (i 1).isLt
  rw [extractStridedSlice_apply _ a h i (ix2 ⟨o0 + (i 0).val, lt_of_lt_of_le (Nat.add_lt_add_left l0 _) b0⟩ ⟨o1 + (i 1).val, lt_of_lt_of_le (Nat.add_lt_add_left l1 _) b1⟩) (fun a => by
    match a with
    | ⟨0, _⟩ => rfl
    | ⟨1, _⟩ => rfl), ha]
  rfl

end Arith

section Casts

variable {a b c d : ℕ} {α : Type}

theorem E2.self {f : (⟨2, ![a, b]⟩ : Shape).Idx → EReal} {G : ℕ → ℕ → EReal} (hf : E2 f G) (h : (⟨2, ![a, b]⟩ : Shape).ShapeCasts ⟨2, ![a, b]⟩) :
    E2 (shapeCast ⟨2, ![a, b]⟩ f h) G := by rw [shapeCast_self]; exact hf
theorem E3.drop {f : (⟨3, ![1, a, b]⟩ : Shape).Idx → EReal} {G : ℕ → ℕ → ℕ → EReal} (hf : E3 f G) (h : (⟨3, ![1, a, b]⟩ : Shape).ShapeCasts ⟨2, ![a, b]⟩) :
    E2 (shapeCast ⟨2, ![a, b]⟩ f h) (G 0) := fun i => by rw [cast_1ab, hf]; rfl
theorem E4.drop {f : (⟨4, ![1, 1, a, b]⟩ : Shape).Idx → EReal} {G : ℕ → ℕ → ℕ → ℕ → EReal} (hf : E4 f G)
    (h : (⟨4, ![1, 1, a, b]⟩ : Shape).ShapeCasts ⟨2, ![a, b]⟩) : E2 (shapeCast ⟨2, ![a, b]⟩ f h) (G 0 0) := fun i => by rw [cast_11ab, hf]; rfl
theorem E4.drop' {f : (⟨4, ![1, a, 1, b]⟩ : Shape).Idx → EReal} {G : ℕ → ℕ → ℕ → ℕ → EReal} (hf : E4 f G)
    (h : (⟨4, ![1, a, 1, b]⟩ : Shape).ShapeCasts ⟨2, ![a, b]⟩) : E2 (shapeCast ⟨2, ![a, b]⟩ f h) (fun i j => G 0 i 0 j) := fun i => by rw [cast_1a1b, hf]; rfl

end Casts

section Windows

variable {a b c d : ℕ}

/-- A load: what is known of the elements it brings. -/
theorem window_readE {s : Shape} (f : s.Idx → EReal) (G : (Fin s.rank → ℕ) → EReal) (off size : Fin s.rank → ℕ) (inb : ∀ x, off x + size x ≤ s.size x)
    (hf : ∀ i : s.Idx, (∀ x, off x ≤ (i x).val ∧ (i x).val < off x + size x) → f i = (G fun x => (i x).val))
    (y : (Rect.unit off size inb).shape.Idx) : VecWindow.window f off size inb y = (G fun x => off x + (y x).val) := by
  have e : ∀ x, ((Rect.unit off size inb).emb y x).val = off x + (y x).val := fun x => by
    show off x + 1 * (y x).val = _; omega
  have := hf ((Rect.unit off size inb).emb y) (fun x => by
    have l : (y x).val < size x := (y x).isLt
    have := e x; omega)
  simp only [e] at this
  exact this
/-- A store: what is known of every element after it. -/
theorem put_readE {s : Shape} (f : s.Idx → EReal) (G : (Fin s.rank → ℕ) → EReal) (off size : Fin s.rank → ℕ)
    (w : ((a : Fin s.rank) → Fin (size a)) → EReal) (hw : ∀ y, w y = (G fun x => (y x).val)) (i : s.Idx) :
    VecWindow.put f off size w i
      = if ∀ x, off x ≤ (i x).val ∧ (i x).val < off x + size x then (G fun x => (i x).val - off x) else f i := by
  unfold VecWindow.put
  by_cases h : ∀ x, off x ≤ (i x).val ∧ (i x).val < off x + size x
  · rw [dif_pos h, if_pos h]; exact hw _
  · rw [dif_neg h, if_neg h]

theorem E2.window {f : (⟨2, ![a, b]⟩ : Shape).Idx → EReal} {G : ℕ → ℕ → EReal} {o0 o1 t0 t1 : ℕ}
    (inb : ∀ x, (![o0, o1] : Fin 2 → ℕ) x + (![t0, t1] : Fin 2 → ℕ) x ≤ (![a, b] : Fin 2 → ℕ) x)
    (hf : ∀ i : (⟨2, ![a, b]⟩ : Shape).Idx, o0 ≤ (i 0).val → (i 0).val < o0 + t0 → o1 ≤ (i 1).val → (i 1).val < o1 + t1 → f i = (G (i 0).val (i 1).val)) :
    E2 (a := t0) (b := t1) (VecWindow.window (s := ⟨2, ![a, b]⟩) f ![o0, o1] ![t0, t1] inb) (fun i j => G (o0 + i) (o1 + j)) :=
  fun y => window_readE (s := ⟨2, ![a, b]⟩) f (fun y => G (y 0) (y 1)) ![o0, o1] ![t0, t1] inb (fun i h => hf i (h 0).1 (h 0).2 (h 1).1 (h 1).2) y
theorem E2.put {f : (⟨2, ![a, b]⟩ : Shape).Idx → EReal} {G : ℕ → ℕ → EReal} {o0 o1 t0 t1 : ℕ}
    {w : (⟨2, ![t0, t1]⟩ : Shape).Idx → EReal} (hw : E2 w G) (i : (⟨2, ![a, b]⟩ : Shape).Idx) :
    VecWindow.put (s := ⟨2, ![a, b]⟩) f ![o0, o1] ![t0, t1] w i = if (o0 ≤ (i 0).val ∧ (i 0).val < o0 + t0) ∧ (o1 ≤ (i 1).val ∧ (i 1).val < o1 + t1) then (G ((i 0).val - o0) ((i 1).val - o1)) else f i :=
  (put_readE (s := ⟨2, ![a, b]⟩) f (fun y => G (y 0) (y 1)) ![o0, o1] ![t0, t1] w hw i).trans (if_congr (by simp [Fin.forall_fin_succ]) rfl rfl)

theorem E3.window {f : (⟨3, ![a, b, c]⟩ : Shape).Idx → EReal} {G : ℕ → ℕ → ℕ → EReal} {o0 o1 o2 t0 t1 t2 : ℕ}
    (inb : ∀ x, (![o0, o1, o2] : Fin 3 → ℕ) x + (![t0, t1, t2] : Fin 3 → ℕ) x ≤ (![a, b, c] : Fin 3 → ℕ) x)
    (hf : ∀ i : (⟨3, ![a, b, c]⟩ : Shape).Idx, o0 ≤ (i 0).val → (i 0).val < o0 + t0 → o1 ≤ (i 1).val → (i 1).val < o1 + t1 → o2 ≤ (i 2).val → (i 2).val < o2 + t2 → f i = (G (i 0).val (i 1).val (i 2).val)) :
    E3 (a := t0) (b := t1) (c := t2) (VecWindow.window (s := ⟨3, ![a, b, c]⟩) f ![o0, o1, o2] ![t0, t1, t2] inb) (fun i j k => G (o0 + i) (o1 + j) (o2 + k)) :=
  fun y => window_readE (s := ⟨3, ![a, b, c]⟩) f (fun y => G (y 0) (y 1) (y 2)) ![o0, o1, o2] ![t0, t1, t2] inb (fun i h => hf i (h 0).1 (h 0).2 (h 1).1 (h 1).2 (h 2).1 (h 2).2) y
theorem E3.put {f : (⟨3, ![a, b, c]⟩ : Shape).Idx → EReal} {G : ℕ → ℕ → ℕ → EReal} {o0 o1 o2 t0 t1 t2 : ℕ}
    {w : (⟨3, ![t0, t1, t2]⟩ : Shape).Idx → EReal} (hw : E3 w G) (i : (⟨3, ![a, b, c]⟩ : Shape).Idx) :
    VecWindow.put (s := ⟨3, ![a, b, c]⟩) f ![o0, o1, o2] ![t0, t1, t2] w i = if (o0 ≤ (i 0).val ∧ (i 0).val < o0 + t0) ∧ (o1 ≤ (i 1).val ∧ (i 1).val < o1 + t1) ∧ (o2 ≤ (i 2).val ∧ (i 2).val < o2 + t2) then (G ((i 0).val - o0) ((i 1).val - o1) ((i 2).val - o2)) else f i :=
  (put_readE (s := ⟨3, ![a, b, c]⟩) f (fun y => G (y 0) (y 1) (y 2)) ![o0, o1, o2] ![t0, t1, t2] w hw i).trans (if_congr (by simp [Fin.forall_fin_succ]) rfl rfl)

theorem E4.window {f : (⟨4, ![a, b, c, d]⟩ : Shape).Idx → EReal} {G : ℕ → ℕ → ℕ → ℕ → EReal} {o0 o1 o2 o3 t0 t1 t2 t3 : ℕ}
    (inb : ∀ x, (![o0, o1, o2, o3] : Fin 4 → ℕ) x + (![t0, t1, t2, t3] : Fin 4 → ℕ) x ≤ (![a, b, c, d] : Fin 4 → ℕ) x)
    (hf : ∀ i : (⟨4, ![a, b, c, d]⟩ : Shape).Idx, o0 ≤ (i 0).val → (i 0).val < o0 + t0 → o1 ≤ (i 1).val → (i 1).val < o1 + t1 → o2 ≤ (i 2).val → (i 2).val < o2 + t2 → o3 ≤ (i 3).val → (i 3).val < o3 + t3 → f i = (G (i 0).val (i 1).val (i 2).val (i 3).val)) :
    E4 (a := t0) (b := t1) (c := t2) (d := t3) (VecWindow.window (s := ⟨4, ![a, b, c, d]⟩) f ![o0, o1, o2, o3] ![t0, t1, t2, t3] inb) (fun i j k l => G (o0 + i) (o1 + j) (o2 + k) (o3 + l)) :=
  fun y => window_readE (s := ⟨4, ![a, b, c, d]⟩) f (fun y => G (y 0) (y 1) (y 2) (y 3)) ![o0, o1, o2, o3] ![t0, t1, t2, t3] inb (fun i h => hf i (h 0).1 (h 0).2 (h 1).1 (h 1).2 (h 2).1 (h 2).2 (h 3).1 (h 3).2) y
theorem E4.put {f : (⟨4, ![a, b, c, d]⟩ : Shape).Idx → EReal} {G : ℕ → ℕ → ℕ → ℕ → EReal} {o0 o1 o2 o3 t0 t1 t2 t3 : ℕ}
    {w : (⟨4, ![t0, t1, t2, t3]⟩ : Shape).Idx → EReal} (hw : E4 w G) (i : (⟨4, ![a, b, c, d]⟩ : Shape).Idx) :
    VecWindow.put (s := ⟨4, ![a, b, c, d]⟩) f ![o0, o1, o2, o3] ![t0, t1, t2, t3] w i = if (o0 ≤ (i 0).val ∧ (i 0).val < o0 + t0) ∧ (o1 ≤ (i 1).val ∧ (i 1).val < o1 + t1) ∧ (o2 ≤ (i 2).val ∧ (i 2).val < o2 + t2) ∧ (o3 ≤ (i 3).val ∧ (i 3).val < o3 + t3) then (G ((i 0).val - o0) ((i 1).val - o1) ((i 2).val - o2) ((i 3).val - o3)) else f i :=
  (put_readE (s := ⟨4, ![a, b, c, d]⟩) f (fun y => G (y 0) (y 1) (y 2) (y 3)) ![o0, o1, o2, o3] ![t0, t1, t2, t3] w hw i).trans (if_congr (by simp [Fin.forall_fin_succ]) rfl rfl)

theorem E2.lead {f : (⟨2, ![a, b]⟩ : Shape).Idx → EReal} {G : ℕ → ℕ → EReal} (hf : E2 f G) (h : (⟨2, ![a, b]⟩ : Shape).ShapeCasts ⟨3, ![1, a, b]⟩) :
    E3 (shapeCast ⟨3, ![1, a, b]⟩ f h) (fun _ i j => G i j) := fun i => by rw [cast_to1ab, hf]; rfl
theorem E2.lead2 {f : (⟨2, ![a, b]⟩ : Shape).Idx → EReal} {G : ℕ → ℕ → EReal} (hf : E2 f G) (h : (⟨2, ![a, b]⟩ : Shape).ShapeCasts ⟨4, ![1, 1, a, b]⟩) :
    E4 (shapeCast ⟨4, ![1, 1, a, b]⟩ f h) (fun _ _ i j => G i j) := fun i => by rw [cast_to11ab, hf]; rfl

end Windows

end Cert.Attn

end
-- ==== Proof.Words.lean ====
/-
The masks' index arithmetic: what the 32-bit words of small coordinates say of the coordinates.
-/
module

public import proofs.«01_k».proof.Proof.Real
public import Idealize.ShloMosaic.Lib.ValueIdx

@[expose] public section

namespace Cert.Attn

open Idealize.ShloMosaic

/-- A small number's word, read as a signed integer, is the number. -/
theorem toInt_small {a : ℕ} (h : a < 2 ^ 31) : (BitVec.ofNat 32 a).toInt = a := by
  rw [BitVec.toInt_eq_toNat_of_lt (by rw [BitVec.toNat_ofNat]; omega), BitVec.toNat_ofNat]
  omega

/-- The absolute difference of two small numbers' words. -/
theorem absi_sub {a b : ℕ} (ha : a < 2 ^ 31) (hb : b < 2 ^ 31) :
    IntOp.absi (IntOp.subi (BitVec.ofNat 32 a) (BitVec.ofNat 32 b)) = BitVec.ofNat 32 ((a - b) + (b - a)) := by
  unfold IntOp.absi IntOp.subi
  by_cases h : a < b
  · have e : (BitVec.ofNat 32 a - BitVec.ofNat 32 b).msb = true := by
      rw [BitVec.msb_eq_decide, decide_eq_true_iff, BitVec.toNat_sub, BitVec.toNat_ofNat, BitVec.toNat_ofNat]; omega
    rw [e, if_pos rfl]
    apply BitVec.eq_of_toNat_eq
    rw [BitVec.toNat_neg, BitVec.toNat_sub, BitVec.toNat_ofNat, BitVec.toNat_ofNat, BitVec.toNat_ofNat]; omega
  · have e : (BitVec.ofNat 32 a - BitVec.ofNat 32 b).msb = false := by
      rw [BitVec.msb_eq_decide, decide_eq_false_iff_not, BitVec.toNat_sub, BitVec.toNat_ofNat, BitVec.toNat_ofNat]; omega
    rw [e, if_neg Bool.false_ne_true]
    apply BitVec.eq_of_toNat_eq
    rw [BitVec.toNat_sub, BitVec.toNat_ofNat, BitVec.toNat_ofNat, BitVec.toNat_ofNat]; omega

/-- The window's comparison. -/
theorem near_word {a b : ℕ} (ha : a < 2 ^ 30) (hb : b < 2 ^ 30) :
    IntOp.cmpi .sle (IntOp.absi (IntOp.subi (BitVec.ofNat 32 a) (BitVec.ofNat 32 b))) 128#32 = BitVec.ofBool (decide (near a b)) := by
  rw [absi_sub (by omega) (by omega)]
  unfold IntOp.cmpi
  refine congrArg BitVec.ofBool ?_
  show BitVec.sle _ _ = _
  unfold BitVec.sle
  rw [toInt_small (by omega), show (128#32 : BitVec 32).toInt = 128 from rfl]
  exact decide_eq_decide.2 (by unfold near; omega)

/-- The global rows' comparison. -/
theorem glob_word {a : ℕ} (ha : a < 2 ^ 31) : IntOp.cmpi .slt (BitVec.ofNat 32 a) 32#32 = BitVec.ofBool (decide (a < 32)) := by
  unfold IntOp.cmpi
  refine congrArg BitVec.ofBool ?_
  show BitVec.slt _ _ = _
  unfold BitVec.slt
  rw [toInt_small ha, show (32#32 : BitVec 32).toInt = 32 from rfl]
  exact decide_eq_decide.2 (by omega)

theorem addi_word (a b : ℕ) : IntOp.addi (BitVec.ofNat 32 a) (BitVec.ofNat 32 b) = BitVec.ofNat 32 (a + b) := by
  unfold IntOp.addi; rw [BitVec.ofNat_add]

theorem ori_word (p q : Bool) : IntOp.ori (BitVec.ofBool p) (BitVec.ofBool q) = BitVec.ofBool (p || q) := by
  cases p <;> cases q <;> rfl

theorem select_word {α : Type} (p : Bool) (x y : α) : Scalar.select (BitVec.ofBool p) x y = if p then x else y := by
  cases p <;> rfl

end Cert.Attn
-- ==== Proof.Vals.lean ====
/-
The arithmetic of each piece over the extended reals, read at an index.
-/
module

public import proofs.«01_k».proof.Proof.Ops
public import proofs.«01_k».proof.Proof.Words
public import proofs.«01_k».proof.Proof.Pieces

@[expose] public section

noncomputable section

namespace Cert.Attn

open Cert.KernelIdeal Cert.KernelIdeal.Gen

open Idealize.ShloMosaic Idealize.ShloMosaic.ValueIdx
open Idealize.ShloMosaic.TcCoe
open Finset (range)

/-! ## The named constants -/

theorem qsc_eq : qsc Ideal = ((qs : ℝ) : EReal) := IdealRules.named_const.ideal_named_scalar κ "qscale" _ _ rfl
theorem mk_eq : mk Ideal = (⊥ : EReal) := IdealRules.named_const.ideal_named_scalar κ "mask" _ _ rfl
theorem z0_eq : z0 Ideal = (0 : EReal) := Ideal.ofBits_zero_f32

/-! ## The masks -/

/-- Block `b`'s mask: its rows from `256 b`, its keys from `o`. -/
theorem msk_maskB (q k : ℕ) (hq : q < 1024) (hk : k < 1024) :
    Msk (maskB (F := Ideal) (BitVec.ofNat 32 q) (BitVec.ofNat 32 k)) (fun i j => near (q + i) (k + j)) := fun i => by
  have l0 : (i 0).val < 256 := (i 0).isLt
  have l1 : (i 1).val < 512 := (i 1).isLt
  show Scalar.select (IntOp.cmpi .sle (IntOp.absi (IntOp.subi (IntOp.addi (iota .tc S256x512 32 [0] iota_S256x512_d0_w32 i) (BitVec.ofNat 32 q))
      (IntOp.addi (iota .tc S256x512 32 [1] iota_S256x512_d1_w32 i) (BitVec.ofNat 32 k)))) 128#32) (z0 Ideal) (mk Ideal) = _
  rw [iota_single_apply, iota_single_apply, addi_word, addi_word, near_word (by omega) (by omega), select_word, z0_eq, mk_eq]
  exact if_congr (by rw [decide_eq_true_iff, Nat.add_comm _ q, Nat.add_comm _ k]) rfl rfl
theorem msk_mask0 : Msk (mask0 (F := Ideal)) (fun i j => sees i j) := fun i => by
  have l0 : (i 0).val < 256 := (i 0).isLt
  have l1 : (i 1).val < 512 := (i 1).isLt
  show Scalar.select (IntOp.ori (IntOp.ori (IntOp.cmpi .sle (IntOp.absi (IntOp.subi (IntOp.addi (iota .tc S256x512 32 [0] iota_S256x512_d0_w32 i) (BitVec.ofNat 32 0))
      (IntOp.addi (iota .tc S256x512 32 [1] iota_S256x512_d1_w32 i) (BitVec.ofNat 32 0)))) 128#32)
      (IntOp.cmpi .slt (IntOp.addi (iota .tc S256x512 32 [1] iota_S256x512_d1_w32 i) (BitVec.ofNat 32 0)) 32#32))
      (IntOp.cmpi .slt (IntOp.addi (iota .tc S256x512 32 [0] iota_S256x512_d0_w32 i) (BitVec.ofNat 32 0)) 32#32)) (z0 Ideal) (mk Ideal) = _
  rw [iota_single_apply, iota_single_apply, addi_word, addi_word, near_word (by omega) (by omega), glob_word (by omega), glob_word (by omega),
    ori_word, ori_word, select_word, z0_eq, mk_eq]
  exact if_congr (by simp only [Bool.or_eq_true, decide_eq_true_eq, Nat.add_zero, sees, or_assoc]) rfl rfl
theorem msk_maskE : Msk (maskE (F := Ideal)) (fun i j => near (896 + i) (1024 + j)) := fun i => by
  have l0 : (i 0).val < 128 := (i 0).isLt
  have l1 : (i 1).val < 1024 := (i 1).isLt
  show Scalar.select (IntOp.cmpi .sle (IntOp.absi (IntOp.subi (IntOp.addi (iota .tc S128x1024 32 [0] iota_S128x1024_d0_w32 i) (BitVec.ofNat 32 896))
      (IntOp.addi (iota .tc S128x1024 32 [1] iota_S128x1024_d1_w32 i) (BitVec.ofNat 32 1024)))) 128#32) (z0 Ideal) (mk Ideal) = _
  rw [iota_single_apply, iota_single_apply, addi_word, addi_word, near_word (by omega) (by omega), select_word, z0_eq, mk_eq]
  exact if_congr (by rw [decide_eq_true_iff, Nat.add_comm _ 896, Nat.add_comm _ 1024]) rfl rfl

/-! ## Queries -/

theorem r_qAll {x : Vec Ideal S1x1024x1024 .f32} {w : Vec Ideal S1024x128 .f32} {X : ℕ → ℕ → ℕ → ℝ} {W : ℕ → ℕ → ℝ} (hx : R3 x X) (hw : R2 w W) :
    R2 (qAll x w) (fun i d => (∑ t ∈ range 1024, X 0 i t * W t d) * qs) := ((hx.drop _).mm (hw.self _)).scale qsc_eq
theorem r_qGlob {x : Vec Ideal S1x32x1024 .f32} {w : Vec Ideal S1024x128 .f32} {X : ℕ → ℕ → ℕ → ℝ} {W : ℕ → ℕ → ℝ} (hx : R3 x X) (hw : R2 w W) :
    R2 (qGlob x w) (fun i d => (∑ t ∈ range 1024, X 0 i t * W t d) * qs) := ((hx.drop _).mm (hw.self _)).scale qsc_eq
theorem r_qEdge {x : Vec Ideal S1x128x1024 .f32} {w : Vec Ideal S1024x128 .f32} {X : ℕ → ℕ → ℕ → ℝ} {W : ℕ → ℕ → ℝ} (hx : R3 x X) (hw : R2 w W) :
    R2 (qEdge x w) (fun i d => (∑ t ∈ range 1024, X 0 i t * W t d) * qs) := ((hx.drop _).mm (hw.self _)).scale qsc_eq

/-! ## Weights, their sums, and the weighted values -/

section Blocks

variable {Q W L : ℕ → ℕ → ℝ} {C : ℕ → ℕ → EReal} {K : ℕ → ℕ → ℕ → ℕ → ℝ} {V : ℕ → ℕ → ℕ → ℕ → EReal} {p : ℕ → ℕ → Prop} [∀ i j, Decidable (p i j)]

/-- A weight: a power of two of a score. -/
abbrev wt (Q : ℕ → ℕ → ℝ) (K : ℕ → ℕ → ℕ → ℕ → ℝ) (i j : ℕ) : ℝ := Real.rpow 2 (∑ d ∈ range 128, Q i d * K 0 j 0 d)

theorem r_wBlk {q : FVec Ideal S256x128 .bf16} {k : Vec Ideal S1x512x1x128 .f32} {m : Vec Ideal S1x256x512 .f32} (hq : R2 q Q) (hk : R4 k K)
    (hm : Msk (shapeCast S256x512 m shapeCasts_S1x256x512_S256x512) p) : R2 (wBlk q k m) (fun i j => if p i j then wt Q K i j else 0) :=
  (hq.mmT (hk.drop' _)).expMask hm
theorem r_lBlk {w : FVec Ideal S256x512 .f32} (hw : R2 w W) : R2 (lBlk w) (fun i _ => ∑ t ∈ range 512, W i t) := hw.rowSum (acc := 0x00000000#32) _ (.inl rfl) rfl _
theorem r_cBlk {w : FVec Ideal S256x512 .f32} {v : Vec Ideal S1x512x1x128 .f32} (hw : R2 w W) (hv : E4 v V) :
    E2 (cBlk w v) (fun i d => ∑ t ∈ range 512, (W i t : EReal) * V 0 t 0 d) := hw.ext.mm (hv.drop' _)
theorem r_quo {c : FVec Ideal S256x128 .f32} {l : FVec Ideal S256x1 .f32} (hc : E2 c C) (hl : R2 l L) (h : ∀ i, i < 256 → L i 0 ≠ 0) :
    E2 (quo c l) (fun i d => quot (C i d) (L i 0)) := hc.div (hl.col _) (fun i _ hi _ => h i hi)
theorem r_w32 {q : FVec Ideal S32x128 .bf16} {k : Vec Ideal S1x512x1x128 .f32} (hq : R2 q Q) (hk : R4 k K) : R2 (w32 q k) (wt Q K) :=
  (hq.mmT (hk.drop' _)).exp
theorem r_c32Add {c : FVec Ideal S256x128 .f32} {w : FVec Ideal S32x512 .f32} {v : Vec Ideal S1x512x1x128 .f32} (hc : E2 c C) (hw : R2 w W) (hv : E4 v V) :
    E2 (c32Add c w v) (fun i d => C (0 + i) (0 + d) + ∑ t ∈ range 512, (W i t : EReal) * V 0 t 0 d) := (hc.slice _).add (hw.ext.mm (hv.drop' _))
theorem r_l32Add {l : FVec Ideal S256x1 .f32} {w : FVec Ideal S32x512 .f32} (hl : R2 l L) (hw : R2 w W) :
    R2 (l32Add l w) (fun i d => L (0 + i) (0 + d) + ∑ t ∈ range 512, W i t) := (hl.slice _).add (hw.rowSum (acc := 0x00000000#32) _ (.inl rfl) rfl _)
theorem r_wG {q : FVec Ideal S256x128 .bf16} {k : Vec Ideal S1x32x1x128 .f32} (hq : R2 q Q) (hk : R4 k K) : R2 (wG q k) (wt Q K) :=
  (hq.mmT (hk.drop' _)).exp
theorem r_lGAdd {l : FVec Ideal S256x1 .f32} {w : FVec Ideal S256x32 .f32} (hl : R2 l L) (hw : R2 w W) :
    R2 (lGAdd l w) (fun i d => L i d + ∑ t ∈ range 32, W i t) := hl.add (hw.rowSum (acc := 0x00000000#32) _ (.inl rfl) rfl _)
theorem r_cGAdd {c : FVec Ideal S256x128 .f32} {w : FVec Ideal S256x32 .f32} {v : Vec Ideal S1x32x1x128 .f32} (hc : E2 c C) (hw : R2 w W) (hv : E4 v V) :
    E2 (cGAdd c w v) (fun i d => C i d + ∑ t ∈ range 32, (W i t : EReal) * V 0 t 0 d) := hc.add (hw.ext.mm (hv.drop' _))
theorem r_wGl {q : FVec Ideal S32x128 .bf16} {k : Vec Ideal S1x1024x1x128 .f32} (hq : R2 q Q) (hk : R4 k K) : R2 (wGl q k) (wt Q K) :=
  (hq.mmT (hk.drop' _)).exp
theorem r_cGl {w : FVec Ideal S32x1024 .f32} {v : Vec Ideal S1x1024x1x128 .f32} (hw : R2 w W) (hv : E4 v V) :
    E2 (cGl w v) (fun i d => ∑ t ∈ range 1024, (W i t : EReal) * V 0 t 0 d) := hw.ext.mm (hv.drop' _)
theorem r_lGl {w : FVec Ideal S32x1024 .f32} (hw : R2 w W) : R2 (lGl w) (fun i _ => ∑ t ∈ range 1024, W i t) := hw.rowSum (acc := 0x00000000#32) _ (.inl rfl) rfl _
theorem r_wEd {q : FVec Ideal S128x128 .bf16} {k : Vec Ideal S1x1024x1x128 .f32} (hq : R2 q Q) (hk : R4 k K) :
    R2 (wEd q k) (fun i j => if near (896 + i) (1024 + j) then wt Q K i j else 0) := (hq.mmT (hk.drop' _)).expMask msk_maskE
theorem r_cEd {w : FVec Ideal S128x1024 .f32} {v : Vec Ideal S1x1024x1x128 .f32} (hw : R2 w W) (hv : E4 v V) :
    E2 (cEd w v) (fun i d => ∑ t ∈ range 1024, (W i t : EReal) * V 0 t 0 d) := hw.ext.mm (hv.drop' _)
theorem r_lEd {w : FVec Ideal S128x1024 .f32} (hw : R2 w W) : R2 (lEd w) (fun i _ => ∑ t ∈ range 1024, W i t) := hw.rowSum (acc := 0x00000000#32) _ (.inl rfl) rfl _

end Blocks

/-! ## The projection and the sums over devices -/

section Tail

variable {A W : ℕ → ℕ → EReal} {B E : ℕ → ℕ → ℝ} {O : ℕ → ℕ → ℕ → EReal} {P G0 G1 G2 : ℕ → ℕ → ℕ → ℕ → EReal} {E3' : ℕ → ℕ → ℕ → EReal}
  {H0 H1 H2 : ℕ → ℕ → ℕ → ℕ → ℝ} {F3 : ℕ → ℕ → ℕ → ℝ}

theorem r_woA {o : Vec Ideal S1x480x1024 .f32} {p : Vec Ideal S1x1x480x128 .bf16} {w : Vec Ideal S128x1024 .f32} (ho : E3 o O) (hp : E4 p P) (hw : E2 w W) :
    E3 (woA o p w) (fun _ i n => O 0 i n + ∑ d ∈ range 128, P 0 0 i d * W d n) := E2.lead ((ho.drop _).add (E2.mm (hp.drop _) (hw.self _))) _
theorem r_woB {o : Vec Ideal S1x384x1024 .f32} {p : Vec Ideal S1x1x384x128 .bf16} {w : Vec Ideal S128x1024 .f32} (ho : E3 o O) (hp : E4 p P) (hw : E2 w W) :
    E3 (woB o p w) (fun _ i n => O 0 i n + ∑ d ∈ range 128, P 0 0 i d * W d n) := E2.lead ((ho.drop _).add (E2.mm (hp.drop _) (hw.self _))) _
theorem r_accG {p g0 g1 g2 : Vec Ideal S1x1x32x128 .bf16} (hp : E4 p P) (h0 : E4 g0 G0) (h1 : E4 g1 G1) (h2 : E4 g2 G2) :
    E2 (accG p g0 g1 g2) (fun i d => ((P 0 0 i d + G0 0 0 i d) + G1 0 0 i d) + G2 0 0 i d) :=
  E2.self (E2.add (E2.add (E2.add (hp.drop _) (h0.drop _)) (h1.drop _)) (h2.drop _)) _
theorem r_accE {p : Vec Ideal S1x1x128x128 .bf16} {e : Vec Ideal S1x128x128 .bf16} (hp : E4 p P) (he : E3 e E3') :
    E2 (accE p e) (fun i d => P 0 0 i d + E3' 0 i d) := E2.self (E2.add (hp.drop _) (he.drop _)) _
theorem r_ltG {d : Vec Ideal S32x8 .f32} {g0 g1 g2 : Vec Ideal S1x1x32x8 .bf16} (hd : R2 d B) (h0 : R4 g0 H0) (h1 : R4 g1 H1) (h2 : R4 g2 H2) :
    R2 (ltG d g0 g1 g2) (fun i h => ((B i h + H0 0 0 i h) + H1 0 0 i h) + H2 0 0 i h) :=
  R2.self (R2.add (R2.add (R2.add hd (h0.drop _)) (h1.drop _)) (h2.drop _)) _
theorem r_ltE {d : Vec Ideal S128x8 .f32} {e : Vec Ideal S1x128x8 .bf16} (hd : R2 d B) (he : R3 e F3) :
    R2 (ltE d e) (fun i h => B i h + F3 0 i h) := R2.self (R2.add hd (he.drop _)) _
theorem r_divG {a : Vec Ideal S32x128 .f32} {l : Vec Ideal S32x1 .f32} (ha : E2 a A) (hl : R2 l E) (h : ∀ i, i < 32 → E i 0 ≠ 0) :
    E2 (divG a l) (fun i d => quot (A i d) (E i 0)) := E2.self (E2.div (φ := .f32) ha (R2.col (φ := .f32) hl _) (fun i _ hi _ => h i hi)) _
theorem r_divE {a : Vec Ideal S128x128 .f32} {l : Vec Ideal S128x1 .f32} (ha : E2 a A) (hl : R2 l E) (h : ∀ i, i < 128 → E i 0 ≠ 0) :
    E2 (divE a l) (fun i d => quot (A i d) (E i 0)) := E2.self (E2.div (φ := .f32) ha (R2.col (φ := .f32) hl _) (fun i _ hi _ => h i hi)) _
theorem r_finG {a : Vec Ideal S32x1024 .f32} {w : Vec Ideal S1024x1024 .f32} (ha : E2 a A) (hw : E2 w W) :
    E3 (finG a w) (fun _ i n => ∑ e ∈ range 1024, A i e * W e n) := E2.lead (ha.mm (hw.self _)) _
theorem r_finE {a : Vec Ideal S128x1024 .f32} {w : Vec Ideal S1024x1024 .f32} (ha : E2 a A) (hw : E2 w W) :
    E3 (finE a w) (fun _ i n => ∑ e ∈ range 1024, A i e * W e n) := E2.lead (ha.mm (hw.self _)) _

end Tail

end Cert.Attn

end
-- ==== Proof.Steps.lean ====
/-
What each piece does to a device's memory, over the extended reals.

Each theorem `at_…` is read backwards: to know `Q` of the state after a piece, know it of every state that the piece can
leave, as far as its elements are described.
-/
module

public import proofs.«01_k».proof.Proof.Vals

@[expose] public section

noncomputable section

namespace Cert.Attn

open Cert.KernelIdeal Cert.KernelIdeal.Gen

open Idealize.ShloMosaic Idealize.ShloMosaic.ValueIdx
open Idealize.ShloMosaic.TcCoe
open Finset (range)

theorem R3.congr {M N P : ℕ} {f : (⟨3, ![M, N, P]⟩ : Shape).Idx → EReal} {G G' : ℕ → ℕ → ℕ → ℝ} (h : R3 f G)
    (e : ∀ a b c, a < M → b < N → c < P → G a b c = G' a b c) : R3 f G' := fun i => by
  rw [h i, e _ _ _ (i 0).isLt (i 1).isLt (i 2).isLt]
theorem R4.congr {M N P R : ℕ} {f : (⟨4, ![M, N, P, R]⟩ : Shape).Idx → EReal} {G G' : ℕ → ℕ → ℕ → ℕ → ℝ} (h : R4 f G)
    (e : ∀ a b c d, a < M → b < N → c < P → d < R → G a b c d = G' a b c d) : R4 f G' := fun i => by
  rw [h i, e _ _ _ _ (i 0).isLt (i 1).isLt (i 2).isLt (i 3).isLt]

variable {D : Data} {a : ℕ} {σ : St Ideal} {Q : St Ideal → Prop}

/-! ## The arguments -/

/-- The device's staged arguments hold the problem's, its keys and values from row `a` on. -/
structure In (D : Data) (a : ℕ) (σ : St Ideal) : Prop where
  x : R3 (σ .x) (fun _ i t => D.X i t)
  wq : R2 (σ .wq) D.Wq
  k : R4 (σ .k) (fun _ j h d => D.K (a + j) h d)
  v : E4 (σ .v) (fun _ j h d => D.V (a + j) h d)
  wo : E2 (σ .wo) D.Wo

/-- The staged arguments. -/
abbrev args : List Rg := [.x, .wq, .k, .v, .wo]

theorem In.keep {σ' : St Ideal} (h : In D a σ) (e : ∀ r ∈ args, σ' r = σ r) : In D a σ' where
  x := by rw [e .x (by decide)]; exact h.x
  wq := by rw [e .wq (by decide)]; exact h.wq
  k := by rw [e .k (by decide)]; exact h.k
  v := by rw [e .v (by decide)]; exact h.v
  wo := by rw [e .wo (by decide)]; exact h.wo

theorem In.upd (h : In D a σ) {r : Rg} (hr : ∀ r' ∈ args, r' ≠ r) (f : Con Ideal r) : In D a (Function.update σ r f) :=
  h.keep fun r' m => Function.update_of_ne (hr r' m) _ _

theorem at_ldX (hI : In D a σ) {k : Vec Ideal S1x1024x1024 .f32 → Blk Ideal} (H : ∀ x : Vec Ideal S1x1024x1024 .f32, R3 x (fun _ i t => D.X i t) → Q ((k x).run σ)) :
    Q ((ldX k).run σ) :=
  H _ (R3.congr (R3.window (G := fun _ i t => D.X i t) _ fun i _ _ _ _ _ _ => hI.x i) (by intros; simp))
theorem at_ldX32 (hI : In D a σ) {k : Vec Ideal S1x32x1024 .f32 → Blk Ideal} (H : ∀ x : Vec Ideal S1x32x1024 .f32, R3 x (fun _ i t => D.X i t) → Q ((k x).run σ)) :
    Q ((ldX32 k).run σ) :=
  H _ (R3.congr (R3.window (G := fun _ i t => D.X i t) _ fun i _ _ _ _ _ _ => hI.x i) (by intros; simp))
theorem at_ldX128 (hI : In D a σ) {k : Vec Ideal S1x128x1024 .f32 → Blk Ideal} (H : ∀ x : Vec Ideal S1x128x1024 .f32, R3 x (fun _ i t => D.X (896 + i) t) → Q ((k x).run σ)) :
    Q ((ldX128 k).run σ) :=
  H _ (R3.congr (R3.window (G := fun _ i t => D.X i t) _ fun i _ _ _ _ _ _ => hI.x i) (by intros; simp))
theorem at_ldWq (h : Fin 8) (hI : In D a σ) {k : Vec Ideal S1024x128 .f32 → Blk Ideal} (H : ∀ w : Vec Ideal S1024x128 .f32, R2 w (fun t d => D.Wq t (128 * h.val + d)) → Q ((k w).run σ)) :
    Q ((ldWq h k).run σ) :=
  H _ (R2.congr (R2.window (G := D.Wq) _ fun i _ _ _ _ => hI.wq i) (by intros; simp))
theorem at_ldWoH (h : Fin 8) (hI : In D a σ) {k : Vec Ideal S128x1024 .f32 → Blk Ideal} (H : ∀ w : Vec Ideal S128x1024 .f32, E2 w (fun d n => D.Wo (128 * h.val + d) n) → Q ((k w).run σ)) :
    Q ((ldWoH h k).run σ) :=
  H _ (E2.congr (E2.window (G := D.Wo) _ fun i _ _ _ _ => hI.wo i) (by intros; simp))
theorem at_ldWo (hI : In D a σ) {k : Vec Ideal S1024x1024 .f32 → Blk Ideal} (H : ∀ w : Vec Ideal S1024x1024 .f32, E2 w D.Wo → Q ((k w).run σ)) :
    Q ((ldWo k).run σ) :=
  H _ (E2.congr (E2.window (G := D.Wo) _ fun i _ _ _ _ => hI.wo i) (by intros; simp))
theorem at_ldK512 (h : Fin 8) {o : ℕ} (ho : o + 512 ≤ 1024) (hI : In D a σ) {k : Vec Ideal S1x512x1x128 .f32 → Blk Ideal}
    (H : ∀ w : Vec Ideal S1x512x1x128 .f32, R4 w (fun _ j _ d => D.K (a + (o + j)) h.val d) → Q ((k w).run σ)) : Q ((ldK512 h o ho k).run σ) :=
  H _ (R4.congr (R4.window (G := fun _ j h d => D.K (a + j) h d) _ fun i _ _ _ _ _ _ _ _ => hI.k i) fun i j k l _ _ hk _ => by simp [Nat.lt_one_iff.1 hk])
theorem at_ldV512 (h : Fin 8) {o : ℕ} (ho : o + 512 ≤ 1024) (hI : In D a σ) {k : Vec Ideal S1x512x1x128 .f32 → Blk Ideal}
    (H : ∀ w : Vec Ideal S1x512x1x128 .f32, E4 w (fun _ j _ d => D.V (a + (o + j)) h.val d) → Q ((k w).run σ)) : Q ((ldV512 h o ho k).run σ) :=
  H _ (E4.congr (E4.window (G := fun _ j h d => D.V (a + j) h d) _ fun i _ _ _ _ _ _ _ _ => hI.v i) fun i j k l _ _ hk _ => by simp [Nat.lt_one_iff.1 hk])
theorem at_ldK32 (h : Fin 8) (hI : In D a σ) {k : Vec Ideal S1x32x1x128 .f32 → Blk Ideal}
    (H : ∀ w : Vec Ideal S1x32x1x128 .f32, R4 w (fun _ j _ d => D.K (a + j) h.val d) → Q ((k w).run σ)) : Q ((ldK32 h k).run σ) :=
  H _ (R4.congr (R4.window (G := fun _ j h d => D.K (a + j) h d) _ fun i _ _ _ _ _ _ _ _ => hI.k i) fun i j k l _ _ hk _ => by simp [Nat.lt_one_iff.1 hk])
theorem at_ldV32 (h : Fin 8) (hI : In D a σ) {k : Vec Ideal S1x32x1x128 .f32 → Blk Ideal}
    (H : ∀ w : Vec Ideal S1x32x1x128 .f32, E4 w (fun _ j _ d => D.V (a + j) h.val d) → Q ((k w).run σ)) : Q ((ldV32 h k).run σ) :=
  H _ (E4.congr (E4.window (G := fun _ j h d => D.V (a + j) h d) _ fun i _ _ _ _ _ _ _ _ => hI.v i) fun i j k l _ _ hk _ => by simp [Nat.lt_one_iff.1 hk])
theorem at_ldKA (h : Fin 8) (hI : In D a σ) {k : Vec Ideal S1x1024x1x128 .f32 → Blk Ideal}
    (H : ∀ w : Vec Ideal S1x1024x1x128 .f32, R4 w (fun _ j _ d => D.K (a + j) h.val d) → Q ((k w).run σ)) : Q ((ldKA h k).run σ) :=
  H _ (R4.congr (R4.window (G := fun _ j h d => D.K (a + j) h d) _ fun i _ _ _ _ _ _ _ _ => hI.k i) fun i j k l _ _ hk _ => by simp [Nat.lt_one_iff.1 hk])
theorem at_ldVA (h : Fin 8) (hI : In D a σ) {k : Vec Ideal S1x1024x1x128 .f32 → Blk Ideal}
    (H : ∀ w : Vec Ideal S1x1024x1x128 .f32, E4 w (fun _ j _ d => D.V (a + j) h.val d) → Q ((k w).run σ)) : Q ((ldVA h k).run σ) :=
  H _ (E4.congr (E4.window (G := fun _ j h d => D.V (a + j) h d) _ fun i _ _ _ _ _ _ _ _ => hI.v i) fun i j k l _ _ hk _ => by simp [Nat.lt_one_iff.1 hk])

/-! ## The masks -/

/-- Block `b` of the stored masks hides all but `p`. -/
def MdAt (σ : St Ideal) (b : Fin 4) (p : ℕ → ℕ → Prop) [∀ i j, Decidable (p i j)] : Prop :=
  Msk (shapeCast S256x512 (VecWindow.window (σ .md) ![b.val, 0, 0] S1x256x512.size (inb3 (by omega) (by omega) (by omega))) shapeCasts_S1x256x512_S256x512) p

theorem MdAt.upd {b : Fin 4} {p : ℕ → ℕ → Prop} [∀ i j, Decidable (p i j)] (h : MdAt σ b p) {r : Rg} (hr : .md ≠ r) (f : Con Ideal r) :
    MdAt (Function.update σ r f) b p := by
  unfold MdAt; rw [Function.update_of_ne hr]; exact h

/-- A stored mask is there. -/
theorem md_same {b : Fin 4} {p : ℕ → ℕ → Prop} [∀ i j, Decidable (p i j)] {m : FVec Ideal S256x512 .f32} (hm : Msk m p) :
    MdAt (Function.update σ .md (VecWindow.put (σ .md) ![b.val, 0, 0] S1x256x512.size (shapeCast S1x256x512 m shapeCasts_S256x512_S1x256x512))) b p := by
  unfold MdAt
  rw [Function.update_self, VecWindow.window_put_same]
  exact fun i => (congrFun (shapeCast_shapeCast m shapeCasts_S256x512_S1x256x512 shapeCasts_S1x256x512_S256x512) i).trans (hm i)
/-- Another mask is not disturbed. -/
theorem md_other {b b' : Fin 4} (hb : b ≠ b') {p : ℕ → ℕ → Prop} [∀ i j, Decidable (p i j)] {m : Vec Ideal S1x256x512 .f32} (h : MdAt σ b p) :
    MdAt (Function.update σ .md (VecWindow.put (σ .md) ![b'.val, 0, 0] S1x256x512.size m)) b p := by
  unfold MdAt
  rw [Function.update_self, VecWindow.window_put_of_disjoint (a := (0 : Fin 3))]
  · exact h
  · show b.val + 1 ≤ b'.val ∨ b'.val + 1 ≤ b.val
    have := Fin.val_ne_of_ne hb; omega

/-- The four masks. -/
structure Md (σ : St Ideal) : Prop where
  m0 : MdAt σ 0 sees
  m1 : MdAt σ 1 (fun i j => near (256 + i) (128 + j))
  m2 : MdAt σ 2 (fun i j => near (512 + i) (384 + j))
  m3 : MdAt σ 3 (fun i j => near (768 + i) (512 + j))

theorem Md.upd (h : Md σ) {r : Rg} (hr : .md ≠ r) (f : Con Ideal r) : Md (Function.update σ r f) :=
  ⟨h.m0.upd hr f, h.m1.upd hr f, h.m2.upd hr f, h.m3.upd hr f⟩

theorem at_stMd (b : Fin 4) {m : FVec Ideal S256x512 .f32} {K : Blk Ideal}
    (H : ∀ σ', σ' = Function.update σ .md (VecWindow.put (σ .md) ![b.val, 0, 0] S1x256x512.size (shapeCast S1x256x512 m shapeCasts_S256x512_S1x256x512)) → Q (K.run σ')) :
    Q ((stMd b m K).run σ) := H _ rfl

theorem at_maddInit (H : ∀ σ', Md σ' → (∀ r, r ≠ .md → σ' r = σ r) → Q σ') : Q ((maddInit Ideal).run σ) := by
  unfold maddInit
  refine at_stMd 0 fun σ0 e0 => at_stMd 1 fun σ1 e1 => at_stMd 2 fun σ2 e2 => at_stMd 3 fun σ3 e3 => H σ3 ?_ ?_
  case refine_2 => subst e3 e2 e1 e0; intro r hr; simp only [Function.update_of_ne hr]
  subst e3 e2 e1 e0
  exact ⟨md_other (by decide) (md_other (by decide) (md_other (by decide) (md_same msk_mask0))),
    md_other (by decide) (md_other (by decide) (md_same (msk_maskB 256 128 (by omega) (by omega)))),
    md_other (by decide) (md_same (msk_maskB 512 384 (by omega) (by omega))), md_same (msk_maskB 768 512 (by omega) (by omega))⟩

theorem at_ldMd (b : Fin 4) {p : ℕ → ℕ → Prop} [∀ i j, Decidable (p i j)] (hm : MdAt σ b p) {k : Vec Ideal S1x256x512 .f32 → Blk Ideal}
    (H : ∀ m : Vec Ideal S1x256x512 .f32, Msk (shapeCast S256x512 m shapeCasts_S1x256x512_S256x512) p → Q ((k m).run σ)) : Q ((ldMd b k).run σ) := H _ hm

end Cert.Attn

end
-- ==== Proof.Dev0.lean ====
/-
The first device's partial results: what its head's piece leaves in the two halves of `p0` and in `d0`.
-/
module

public import proofs.«01_k».proof.Proof.Steps

@[expose] public section

noncomputable section

namespace Cert.Attn

open Cert.KernelIdeal Cert.KernelIdeal.Gen

open Idealize.ShloMosaic Idealize.ShloMosaic.ValueIdx
open Idealize.ShloMosaic.TcCoe
open Finset (range)

namespace Data

variable (D : Data)

/-- What the first device passes on of a row: the attention's result, or, of the rows that need other devices' keys, its own weighted values. -/
def Pv (h i d : ℕ) : EReal := if 32 ≤ i ∧ i < 896 then D.A h i d else D.C h i d 0 1024

theorem A_mid (h i d : ℕ) (h0 : 32 ≤ i) (h1 : i < 896) : D.A h i d = quot (D.C h i d 0 1024) (D.L h i 0 1024) := by
  unfold A C L; rw [D.P_mid h i (D.wv_zero h d) h0 h1, D.P_mid h i (fun _ => rfl) h0 h1]

end Data

variable {D : Data} {σ : St Ideal} {Q : St Ideal → Prop}

/-! ## Stores -/

theorem at_stP256 (h : Fin 8) (r o : Fin 2) {w : FVec Ideal S256x128 .bf16} {G : ℕ → ℕ → EReal} (hw : E2 w G) {K : Blk Ideal}
    (H : ∀ f : Con Ideal (.p0 h r), (∀ i : S8x2x512x128.Idx, f i = if (i 0).val = h.val ∧ (i 1).val = r.val ∧ 256 * o.val ≤ (i 2).val ∧ (i 2).val < 256 * o.val + 256
      then (G ((i 2).val - 256 * o.val) (i 3).val) else σ (.p0 h r) i) → Q (K.run (Function.update σ (.p0 h r) f))) : Q ((stP256 h r o w K).run σ) :=
  H _ fun i => (E4.put (hw.lead2 _) i).trans (if_congr (by have : (i 3).val < 128 := (i 3).isLt; omega) rfl rfl)
theorem at_stP32 (h : Fin 8) {w : FVec Ideal S32x128 .bf16} {G : ℕ → ℕ → EReal} (hw : E2 w G) {K : Blk Ideal}
    (H : ∀ f : Con Ideal (.p0 h 0), (∀ i : S8x2x512x128.Idx, f i = if (i 0).val = h.val ∧ (i 1).val = 0 ∧ (i 2).val < 32
      then (G (i 2).val (i 3).val) else σ (.p0 h 0) i) → Q (K.run (Function.update σ (.p0 h 0) f))) : Q ((stP32 h w K).run σ) :=
  H _ fun i => (E4.put (hw.lead2 _) i).trans (if_congr (by have : (i 3).val < 128 := (i 3).isLt; omega) rfl rfl)
theorem at_stP128 (h : Fin 8) {w : FVec Ideal S128x128 .bf16} {G : ℕ → ℕ → EReal} (hw : E2 w G) {K : Blk Ideal}
    (H : ∀ f : Con Ideal (.p0 h 1), (∀ i : S8x2x512x128.Idx, f i = if (i 0).val = h.val ∧ (i 1).val = 1 ∧ 384 ≤ (i 2).val
      then (G ((i 2).val - 384) (i 3).val) else σ (.p0 h 1) i) → Q (K.run (Function.update σ (.p0 h 1) f))) : Q ((stP128 h w K).run σ) :=
  H _ fun i => (E4.put (hw.lead2 _) i).trans (if_congr (by
    have : (i 3).val < 128 := (i 3).isLt
    have : (i 2).val < 512 := (i 2).isLt
    omega) rfl rfl)
theorem at_stD32 (h : Fin 8) {w : FVec Ideal S32x1 .f32} {G : ℕ → ℕ → ℝ} (hw : R2 w G) {K : Blk Ideal}
    (H : ∀ f : Con Ideal .d0, (∀ i : S160x8.Idx, f i = if (i 1).val = h.val ∧ (i 0).val < 32
      then ((G (i 0).val 0 : ℝ) : EReal) else σ .d0 i) → Q (K.run (Function.update σ .d0 f))) : Q ((stD32 h w K).run σ) :=
  H _ fun i => (R2.put (hw.self _) i).trans (by
    by_cases e : (i 1).val = h.val ∧ (i 0).val < 32
    · rw [if_pos e, if_pos (by omega), e.1, Nat.sub_self, Nat.sub_zero]
    · rw [if_neg e, if_neg (by omega)])
theorem at_stD128 (h : Fin 8) {w : FVec Ideal S128x1 .f32} {G : ℕ → ℕ → ℝ} (hw : R2 w G) {K : Blk Ideal}
    (H : ∀ f : Con Ideal .d0, (∀ i : S160x8.Idx, f i = if (i 1).val = h.val ∧ 32 ≤ (i 0).val
      then ((G ((i 0).val - 32) 0 : ℝ) : EReal) else σ .d0 i) → Q (K.run (Function.update σ .d0 f))) : Q ((stD128 h w K).run σ) :=
  H _ fun i => (R2.put (hw.self _) i).trans (by
    have : (i 0).val < 160 := (i 0).isLt
    by_cases e : (i 1).val = h.val ∧ 32 ≤ (i 0).val
    · rw [if_pos e, if_pos (by omega), e.1, Nat.sub_self]
    · rw [if_neg e, if_neg (by omega)])

theorem p0_args (h : Fin 8) (r : Fin 2) : ∀ r' ∈ args, r' ≠ .p0 h r := by simp [args]

/-! ## The first block of queries -/

theorem at_head0 (h : Fin 8) {q : FVec Ideal S1024x128 .bf16} (hq : R2 q (fun i d => D.Q h.val i d * qs)) (hI : In D 0 σ) (hM : Md σ) {K : Blk Ideal}
    (H : ∀ (fp : Con Ideal (.p0 h 0)) (fd : Con Ideal .d0),
      (∀ i : S8x2x512x128.Idx, fp i = if (i 0).val = h.val ∧ (i 1).val = 0 ∧ (i 2).val < 256 then (D.Pv h.val (i 2).val (i 3).val) else σ (.p0 h 0) i) →
      (∀ i : S160x8.Idx, fd i = if (i 1).val = h.val ∧ (i 0).val < 32 then ((D.L h.val (i 0).val 0 1024 : ℝ) : EReal) else σ .d0 i) →
      Q (K.run (Function.update (Function.update σ (.p0 h 0) fp) .d0 fd))) : Q ((head0 h q K).run σ) := by
  unfold head0
  refine at_ldK512 h _ hI fun k hk => at_ldMd 0 hM.m0 fun m hm => at_ldV512 h _ hI fun v hv => ?_
  have hw : R2 (wBlk (extractStridedSlice S256x128 ![0, 0] q slices_S1024x128_o0_0_S256x128) k m) (D.M h.val) :=
    (r_wBlk (hq.slice _) hk hm).congr fun i j _ _ => by simp only [Nat.zero_add]; rfl
  have hc : E2 (cBlk (wBlk (extractStridedSlice S256x128 ![0, 0] q slices_S1024x128_o0_0_S256x128) k m) v)
      (fun i d => D.C h.val i d 0 512) := (r_cBlk hw hv).congr fun i d _ _ => by
    have := D.P_range h.val i (D.wv h.val d) 0 512
    simp only [Nat.zero_add] at this ⊢
    exact this.symm
  have hl : R2 (lBlk (wBlk (extractStridedSlice S256x128 ![0, 0] q slices_S1024x128_o0_0_S256x128) k m)) (fun i _ => D.L h.val i 0 512) :=
    (r_lBlk hw).congr fun i d _ _ => by
      have := D.P_range h.val i (fun _ m => m) 0 512
      simp only [Nat.zero_add, mul_one] at this
      exact this.symm
  refine at_stP256 h 0 0 (r_quo hc hl fun i _ => (D.L_pos h.val i 512 (by norm_num)).ne') fun f1 h1 => ?_
  have hI1 := hI.upd (p0_args h 0) f1
  refine at_ldK512 h _ hI1 fun k2 hk2 => at_ldV512 h _ hI1 fun v2 hv2 => ?_
  have hw2 : R2 (w32 (extractStridedSlice S32x128 ![0, 0] q slices_S1024x128_o0_0_S32x128) k2) (fun i j => D.W h.val i (512 + j)) :=
    (r_w32 (hq.slice _) hk2).congr fun i j _ _ => by simp only [Nat.zero_add]; rfl
  have hc2 := (r_c32Add hc hw2 hv2).congr (G' := fun i d => D.C h.val i d 0 1024) fun i d hi _ => by
    simp only [Nat.zero_add, Data.C]
    have := D.P_range h.val i (D.wv h.val d) 0 512
    simp only [Nat.zero_add] at this
    rw [D.P_first_glob h.val i _ hi, this]; rfl
  have hl2 := (r_l32Add hl hw2).congr (G' := fun i _ => D.L h.val i 0 1024) fun i d hi _ => by
    simp only [Nat.zero_add, Data.L]
    have := D.P_range h.val i (fun _ m => m) 0 512
    simp only [Nat.zero_add] at this
    rw [D.P_first_glob h.val i _ hi, this]
  refine at_stP32 h hc2 fun f2 h2 => at_stD32 h hl2 fun f3 h3 => ?_
  rw [Function.update_idem]
  refine H f2 f3 (fun i => ?_) (fun i => ?_)
  · rw [h2, Function.update_self, h1]
    by_cases e : (i 0).val = h.val ∧ (i 1).val = 0 ∧ (i 2).val < 256
    · rw [if_pos e]
      by_cases e2 : (i 2).val < 32
      · rw [if_pos ⟨e.1, e.2.1, e2⟩, Data.Pv, if_neg (by omega)]
      · rw [if_neg (by omega), if_pos ⟨e.1, e.2.1, Nat.zero_le _, e.2.2⟩, Data.Pv, if_pos (by omega), D.A_mid _ _ _ (by omega) (by omega)]
        simp only [Data.C, Data.L]
        rw [D.P_first _ _ (D.wv_zero _ _) (by omega) e.2.2, D.P_first _ _ (fun _ => rfl) (by omega) e.2.2]
        have a0 := D.P_range h.val (i 2).val (D.wv h.val (i 3).val) 0 512
        have a1 := D.P_range h.val (i 2).val (fun _ m => m) 0 512
        simp only [Nat.zero_add] at a0 a1
        rw [← a0, ← a1]; rfl
    · rw [if_neg e, if_neg (by omega), if_neg]
      rintro ⟨q1, q2, _, q3⟩; exact e ⟨q1, q2, q3⟩
  · rw [h3]
    exact if_congr Iff.rfl rfl (by rw [Function.update_of_ne (by simp), Function.update_of_ne (by simp)])

/-! ## The later blocks -/

theorem at_headB (h : Fin 8) {q0 o : ℕ} {b : Fin 4} (ho : o + 512 ≤ 1024) (r s : Fin 2) (ho0 : 32 ≤ o) (hq0 : o + 128 ≤ q0)
    (hn : ∀ i j, i < 256 → j < 1024 → near (q0 + i) j → j < o + 512) {q : FVec Ideal S256x128 .bf16} (hq : R2 q (fun i d => D.Q h.val (q0 + i) d * qs))
    (hI : In D 0 σ) (hM : MdAt σ b (fun i j => near (q0 + i) (o + j))) {K : FVec Ideal S256x128 .f32 → FVec Ideal S256x1 .f32 → Blk Ideal}
    (H : ∀ (fp : Con Ideal (.p0 h r)) (c : FVec Ideal S256x128 .f32) (l : FVec Ideal S256x1 .f32),
      (∀ i : S8x2x512x128.Idx, fp i = if (i 0).val = h.val ∧ (i 1).val = r.val ∧ 256 * s.val ≤ (i 2).val ∧ (i 2).val < 256 * s.val + 256
        then quot (D.C h.val (q0 + ((i 2).val - 256 * s.val)) (i 3).val 0 1024) (D.L h.val (q0 + ((i 2).val - 256 * s.val)) 0 1024) else σ (.p0 h r) i) →
      E2 c (fun i d => D.C h.val (q0 + i) d 0 1024) → R2 l (fun i _ => D.L h.val (q0 + i) 0 1024) →
      Q ((K c l).run (Function.update σ (.p0 h r) fp))) : Q ((headB h q b o ho r s K).run σ) := by
  unfold headB
  refine at_ldK512 h _ hI fun k hk => at_ldMd b hM fun m hm => at_ldV512 h _ hI fun v hv => at_ldK32 h hI fun kg hkg => at_ldV32 h hI fun vg hvg => ?_
  have hw : R2 (wBlk q k m) (fun i j => if near (q0 + i) (o + j) then D.W h.val (q0 + i) (o + j) else 0) :=
    (r_wBlk hq hk hm).congr fun i j _ _ => by simp only [Nat.zero_add]; rfl
  have hg : R2 (wG q kg) (fun i j => D.W h.val (q0 + i) j) := (r_wG hq hkg).congr fun i j _ _ => by simp only [Nat.zero_add]; rfl
  have hc := (r_cGAdd (r_cBlk hw hv) hg hvg).congr (G' := fun i d => D.C h.val (q0 + i) d 0 1024) fun i d hi _ => by
    simp only [Nat.zero_add, Data.C]
    exact (D.P_block h.val (q0 + i) (D.wv_zero h.val d) o ho0 ho (by omega) (fun j => hn i j hi)).symm
  have hl := (r_lGAdd (r_lBlk hw) hg).congr (G' := fun i _ => D.L h.val (q0 + i) 0 1024) fun i d hi _ => by
    have := (D.P_block h.val (q0 + i) (g := fun _ m => m) (fun _ => rfl) o ho0 ho (by omega) (fun j => hn i j hi)).symm
    simpa only [Data.L] using this
  exact at_stP256 h r s (r_quo hc hl fun i _ => (D.L_pos h.val _ 1024 (by norm_num)).ne') fun f hf => H f _ _ hf hc hl

/-! ## The head -/

/-- The row a row of `d0` stands for. -/
def rowOf (s : ℕ) : ℕ := if s < 32 then s else 864 + s

theorem at_dev0Head (h : Fin 8) (hI : In D 0 σ) (hM : Md σ)
    (H : ∀ σ' : St Ideal, (∀ r : Fin 2, ∀ i : S8x2x512x128.Idx, (i 0).val = h.val → (i 1).val = r.val →
        σ' (.p0 h r) i = (D.Pv h.val (512 * r.val + (i 2).val) (i 3).val)) →
      (∀ i : S160x8.Idx, σ' .d0 i = if (i 1).val = h.val then ((D.L h.val (rowOf (i 0).val) 0 1024 : ℝ) : EReal) else σ .d0 i) →
      (∀ r, r ≠ .p0 h 0 → r ≠ .p0 h 1 → r ≠ .d0 → σ' r = σ r) → Q σ') : Q ((dev0Head h).run σ) := by
  unfold dev0Head
  refine at_ldX hI fun x hx => at_ldWq h hI fun wq hwq => ?_
  have hq : R2 (qAll x wq) (fun i d => D.Q h.val i d * qs) := r_qAll hx hwq
  refine at_head0 h hq hI hM fun f0 d0 h0 hd => ?_
  have hI0 := (hI.upd (p0_args h 0) f0).upd (r := .d0) (by decide) d0
  have hM0 := (hM.upd (r := .p0 h 0) (by simp) f0).upd (r := .d0) (by simp) d0
  refine at_headB h (q0 := 256) _ 0 1 (by norm_num) (by norm_num) (fun i j _ _ e => by unfold near at e; omega)
    ((hq.slice _).congr fun i d _ _ => by rw [Nat.zero_add]) hI0 hM0.m1 fun f1 _ _ h1 _ _ => ?_
  have hI1 := hI0.upd (p0_args h 0) f1
  have hM1 := hM0.upd (r := .p0 h 0) (by simp) f1
  refine at_headB h (q0 := 512) _ 1 0 (by norm_num) (by norm_num) (fun i j _ _ e => by unfold near at e; omega)
    ((hq.slice _).congr fun i d _ _ => by rw [Nat.zero_add]) hI1 hM1.m2 fun f2 _ _ h2 _ _ => ?_
  have hI2 := hI1.upd (p0_args h 1) f2
  have hM2 := hM1.upd (r := .p0 h 1) (by simp) f2
  refine at_headB h (q0 := 768) _ 1 1 (by norm_num) (by norm_num) (fun i j _ _ e => by unfold near at e; omega)
    ((hq.slice _).congr fun i d _ _ => by rw [Nat.zero_add]) hI2 hM2.m3 fun f3 c l h3 hc hl => ?_
  have hc' : E2 (extractStridedSlice S128x128 ![128, 0] c slices_S256x128_o128_0_S128x128) _ := hc.slice _
  have hl' : R2 (extractStridedSlice S128x1 ![128, 0] l slices_S256x1_o128_0_S128x1) _ := hl.slice _
  refine at_stP128 h hc' fun f4 h4 => at_stD128 h hl' fun f5 h5 => H _ ?_ ?_ ?_
  · have e0 : (Rg.p0 h 1) ≠ .d0 := by simp
    have e1 : (Rg.p0 h 0) ≠ .d0 := by simp
    have e2 : (Rg.p0 h 0) ≠ .p0 h 1 := by simp
    refine Fin.forall_fin_two.2 ⟨fun i i0 i1 => ?_, fun i i0 i1 => ?_⟩
    · have l2 : (i 2).val < 512 := (i 2).isLt
      rw [Blk.run, Function.update_of_ne e1, Function.update_of_ne e2, Function.update_of_ne e2, Function.update_of_ne e2, Function.update_self, h1,
        Function.update_of_ne e1, Function.update_self, h0]
      simp only [i0, i1, true_and, Fin.val_zero, Fin.val_one, Nat.mul_zero, Nat.zero_add, Nat.mul_one]
      by_cases e : (i 2).val < 256
      · rw [if_neg (by omega), if_pos e]
      · rw [if_pos (by omega), Data.Pv, if_pos (by omega), D.A_mid _ _ _ (by omega) (by omega), show 256 + ((i 2).val - 256) = (i 2).val by omega]
    · have l2 : (i 2).val < 512 := (i 2).isLt
      rw [Blk.run, Function.update_of_ne e0, Function.update_self, h4, Function.update_self, h3, Function.update_self, h2]
      simp only [i0, i1, true_and, Fin.val_zero, Fin.val_one, Nat.mul_zero, Nat.zero_add, Nat.mul_one, Nat.sub_zero, Nat.zero_le]
      by_cases e : 384 ≤ (i 2).val
      · rw [if_pos e, Data.Pv, if_neg (by omega), show 768 + (128 + ((i 2).val - 384)) = 512 + (i 2).val by omega]
      · have ep : D.Pv h.val (512 + (i 2).val) (i 3).val = quot (D.C h.val (512 + (i 2).val) (i 3).val 0 1024) (D.L h.val (512 + (i 2).val) 0 1024) := by
          rw [Data.Pv, if_pos (by omega), D.A_mid _ _ _ (by omega) (by omega)]
        rw [if_neg e, ep]
        by_cases e' : 256 ≤ (i 2).val
        · rw [if_pos (by omega), show 768 + ((i 2).val - 256) = 512 + (i 2).val by omega]
        · rw [if_neg (by omega), if_pos (by omega)]
  · intro i
    have l0 : (i 0).val < 160 := (i 0).isLt
    rw [Blk.run, Function.update_self, h5]
    rw [Function.update_of_ne (by simp), Function.update_of_ne (by simp), Function.update_of_ne (by simp), Function.update_of_ne (by simp), Function.update_self, hd]
    unfold rowOf
    by_cases e : (i 1).val = h.val
    · by_cases e' : (i 0).val < 32
      · rw [if_neg (by omega), if_pos ⟨e, e'⟩, if_pos e, if_pos e']
      · rw [if_pos (by omega), if_pos e, if_neg e', show 768 + (128 + ((i 0).val - 32)) = 864 + (i 0).val by omega]
    · rw [if_neg (by omega), if_neg (by omega), if_neg e]
  · intro r r0 r1 r2
    simp only [Blk.run, Function.update_of_ne r0, Function.update_of_ne r1, Function.update_of_ne r2]

end Cert.Attn

end
-- ==== Proof.Peers.lean ====
/-
What the transfers carry, and the other devices' partial results: what a head's piece leaves in `gl` and `ed`.
-/
module

public import proofs.«01_k».proof.Proof.Dev0

@[expose] public section

noncomputable section

namespace Cert.Attn

open Cert.KernelIdeal Cert.KernelIdeal.Gen

open Idealize.ShloMosaic Idealize.ShloMosaic.ValueIdx
open Idealize.ShloMosaic.TcCoe
open Finset (range)

/-- What the sender of a region has computed in it. -/
def good (D : Data) : (r : Rg) → Con Ideal r → Prop
  | .p0 h r, f => ∀ i : S8x2x512x128.Idx, (i 0).val = h.val → (i 1).val = r.val → f i = (D.Pv h.val (512 * r.val + (i 2).val) (i 3).val)
  | .d0, f => ∀ i : S160x8.Idx, f i = ((D.L (i 1).val (rowOf (i 0).val) 0 1024 : ℝ) : EReal)
  | .ed, f => ∀ i : S9x128x128.Idx, ((i 0).val < 8 → f i = (D.C (i 0).val (896 + (i 1).val) (i 2).val 1024 2048))
      ∧ ((i 0).val = 8 → (i 2).val < 8 → f i = ((D.L (i 2).val (896 + (i 1).val) 1024 2048 : ℝ) : EReal))
  | .gl r, f => ∀ i : S3x9x32x128.Idx, (i 0).val = r.val →
      ((i 1).val < 8 → f i = (D.C (i 1).val (i 2).val (i 3).val (1024 * (r.val + 1)) (1024 * (r.val + 1) + 1024)))
      ∧ ((i 1).val = 8 → (i 3).val < 8 → f i = ((D.L (i 3).val (i 2).val (1024 * (r.val + 1)) (1024 * (r.val + 1) + 1024) : ℝ) : EReal))
  | _, _ => True

variable {D : Data} {a : ℕ} {σ : St Ideal} {Q : St Ideal → Prop}

/-! ## Stores -/

theorem at_stGl (h : Fin 8) (r : Fin 3) {w : FVec Ideal S32x128 .bf16} {G : ℕ → ℕ → EReal} (hw : E2 w G) {K : Blk Ideal}
    (H : ∀ f : Con Ideal (.gl r), (∀ i : S3x9x32x128.Idx, f i = if (i 0).val = r.val ∧ (i 1).val = h.val
      then (G (i 2).val (i 3).val) else σ (.gl r) i) → Q (K.run (Function.update σ (.gl r) f))) : Q ((stGl h r w K).run σ) :=
  H _ fun i => (E4.put (hw.lead2 _) i).trans (if_congr (by
    have : (i 3).val < 128 := (i 3).isLt
    have : (i 2).val < 32 := (i 2).isLt
    omega) rfl rfl)
theorem at_stGl8 (h : Fin 8) (r : Fin 3) {w : FVec Ideal S32x1 .bf16} {G : ℕ → ℕ → ℝ} (hw : R2 w G) {K : Blk Ideal}
    (H : ∀ f : Con Ideal (.gl r), (∀ i : S3x9x32x128.Idx, f i = if (i 0).val = r.val ∧ (i 1).val = 8 ∧ (i 3).val = h.val
      then ((G (i 2).val 0 : ℝ) : EReal) else σ (.gl r) i) → Q (K.run (Function.update σ (.gl r) f))) : Q ((stGl8 h r w K).run σ) :=
  H _ fun i => (R4.put (hw.lead2 _) i).trans (by
    have : (i 2).val < 32 := (i 2).isLt
    by_cases e : (i 0).val = r.val ∧ (i 1).val = 8 ∧ (i 3).val = h.val
    · rw [if_pos e, if_pos (by omega), e.2.2, Nat.sub_self, Nat.sub_zero]
    · rw [if_neg e, if_neg (by omega)])
theorem at_stEd (h : Fin 8) {w : FVec Ideal S128x128 .bf16} {G : ℕ → ℕ → EReal} (hw : E2 w G) {K : Blk Ideal}
    (H : ∀ f : Con Ideal .ed, (∀ i : S9x128x128.Idx, f i = if (i 0).val = h.val
      then (G (i 1).val (i 2).val) else σ .ed i) → Q (K.run (Function.update σ .ed f))) : Q ((stEd h w K).run σ) :=
  H _ fun i => (E3.put (hw.lead _) i).trans (if_congr (by
    have : (i 1).val < 128 := (i 1).isLt
    have : (i 2).val < 128 := (i 2).isLt
    omega) rfl rfl)
theorem at_stEd8 (h : Fin 8) {w : FVec Ideal S128x1 .bf16} {G : ℕ → ℕ → ℝ} (hw : R2 w G) {K : Blk Ideal}
    (H : ∀ f : Con Ideal .ed, (∀ i : S9x128x128.Idx, f i = if (i 0).val = 8 ∧ (i 2).val = h.val
      then ((G (i 1).val 0 : ℝ) : EReal) else σ .ed i) → Q (K.run (Function.update σ .ed f))) : Q ((stEd8 h w K).run σ) :=
  H _ fun i => (R3.put (hw.lead _) i).trans (by
    have : (i 1).val < 128 := (i 1).isLt
    by_cases e : (i 0).val = 8 ∧ (i 2).val = h.val
    · rw [if_pos e, if_pos (by omega), e.2, Nat.sub_self, Nat.sub_zero]
    · rw [if_neg e, if_neg (by omega)])

theorem gl_args (r : Fin 3) : ∀ r' ∈ args, r' ≠ .gl r := by simp [args]

/-! ## The heads -/

/-- The global rows' partial results, head `h`: the weighted values, and in place 8 the weights' sums. -/
def GlUpd (D : Data) (a : ℕ) (h : Fin 8) (r : Fin 3) (f g : Con Ideal (.gl r)) : Prop :=
  ∀ i : S3x9x32x128.Idx, (i 0).val = r.val →
    g i = if (i 1).val = h.val then (D.C h.val (i 2).val (i 3).val a (a + 1024))
      else if (i 1).val = 8 ∧ (i 3).val = h.val then ((D.L h.val (i 2).val a (a + 1024) : ℝ) : EReal) else f i
/-- The last rows' partial results, head `h`. -/
def EdUpd (D : Data) (h : Fin 8) (f g : Con Ideal .ed) : Prop :=
  ∀ i : S9x128x128.Idx,
    g i = if (i 0).val = h.val then (D.C h.val (896 + (i 1).val) (i 2).val 1024 2048)
      else if (i 0).val = 8 ∧ (i 2).val = h.val then ((D.L h.val (896 + (i 1).val) 1024 2048 : ℝ) : EReal) else f i

theorem at_globBody (h : Fin 8) (r : Fin 3) {k v : Vec Ideal S1x1024x1x128 .f32} (hk : R4 k (fun _ j _ d => D.K (a + j) h.val d))
    (hv : E4 v (fun _ j _ d => D.V (a + j) h.val d)) (hI : In D a σ) {K : Blk Ideal}
    (H : ∀ g : Con Ideal (.gl r), GlUpd D a h r (σ (.gl r)) g → Q (K.run (Function.update σ (.gl r) g))) : Q ((globBody h r k v K).run σ) := by
  unfold globBody
  refine at_ldX32 hI fun x hx => at_ldWq h hI fun wq hwq => ?_
  have hq : R2 (qGlob x wq) (fun i d => D.Q h.val i d * qs) := r_qGlob hx hwq
  have hw : R2 (wGl (qGlob x wq) k) (fun i j => D.W h.val i (a + j)) := r_wGl hq hk
  have hc := (r_cGl hw hv).congr (G' := fun i d => D.C h.val i d a (a + 1024)) fun i d hi _ => (D.P_dev_glob h.val i (D.wv h.val d) a hi).symm
  have hl := (r_lGl hw).congr (G' := fun i _ => D.L h.val i a (a + 1024)) fun i d hi _ => by
    have := (D.P_dev_glob h.val i (fun _ m => m) a hi).symm
    simpa only [Data.L] using this
  refine at_stGl h r hc fun f1 h1 => at_stGl8 h r hl fun f2 h2 => ?_
  rw [Function.update_idem]
  refine H f2 fun i hi => ?_
  rw [h2, Function.update_self, h1]
  have : h.val < 8 := h.isLt
  by_cases e : (i 1).val = h.val
  · rw [if_neg (by omega), if_pos ⟨hi, e⟩, if_pos e]
  · rw [if_neg e]
    by_cases e' : (i 1).val = 8 ∧ (i 3).val = h.val
    · rw [if_pos ⟨hi, e'⟩, if_pos e']
    · rw [if_neg (by tauto), if_neg (by tauto), if_neg e']

theorem at_globHead (h : Fin 8) (r : Fin 3) (hI : In D a σ)
    (H : ∀ g : Con Ideal (.gl r), GlUpd D a h r (σ (.gl r)) g → Q (Function.update σ (.gl r) g)) : Q ((globHead h r).run σ) := by
  unfold globHead
  exact at_ldKA h hI fun k hk => at_ldVA h hI fun v hv => at_globBody h r hk hv hI H

theorem at_dev1Head (h : Fin 8) (hI : In D 1024 σ)
    (H : ∀ (g : Con Ideal (.gl 0)) (e : Con Ideal .ed), GlUpd D 1024 h 0 (σ (.gl 0)) g → EdUpd D h (σ .ed) e →
      Q (Function.update (Function.update σ (.gl 0) g) .ed e)) : Q ((dev1Head h).run σ) := by
  unfold dev1Head
  refine at_ldKA h hI fun k hk => at_ldVA h hI fun v hv => at_ldKA h hI fun k' hk' => at_ldVA h hI fun v' hv' => at_globBody h 0 hk' hv' hI fun g hg => ?_
  have hI1 := hI.upd (gl_args 0) g
  refine at_ldX128 hI1 fun x hx => at_ldWq h hI1 fun wq hwq => ?_
  have hq : R2 (qEdge x wq) (fun i d => D.Q h.val (896 + i) d * qs) := r_qEdge hx hwq
  have hw : R2 (wEd (qEdge x wq) k) (fun i j => if near (896 + i) (1024 + j) then D.W h.val (896 + i) (1024 + j) else 0) := r_wEd hq hk
  have hc := (r_cEd hw hv).congr (G' := fun i d => D.C h.val (896 + i) d 1024 2048) fun i d hi _ => (D.P_dev_edge h.val (896 + i) (D.wv_zero h.val d) (by omega)).symm
  have hl := (r_lEd hw).congr (G' := fun i _ => D.L h.val (896 + i) 1024 2048) fun i d hi _ => by
    have := (D.P_dev_edge h.val (896 + i) (g := fun _ m => m) (fun _ => rfl) (by omega)).symm
    simpa only [Data.L] using this
  refine at_stEd h hc fun f1 h1 => at_stEd8 h hl fun f2 h2 => ?_
  rw [Function.update_idem]
  refine H g f2 hg fun i => ?_
  rw [h2, Function.update_self, h1, Function.update_of_ne (by simp)]
  have : h.val < 8 := h.isLt
  by_cases e : (i 0).val = h.val
  · rw [if_neg (by omega), if_pos e, if_pos e]
  · rw [if_neg e, if_neg e]

end Cert.Attn

end
-- ==== Proof.Tail.lean ====
/-
The pieces every device runs on the gathered partial results: the projection of the rows that are complete, and the
sums over devices, the quotients and the projection of the others.
-/
module

public import proofs.«01_k».proof.Proof.Peers

@[expose] public section

noncomputable section

namespace Cert.Attn

open Cert.KernelIdeal Cert.KernelIdeal.Gen

open Idealize.ShloMosaic Idealize.ShloMosaic.ValueIdx
open Idealize.ShloMosaic.TcCoe
open Finset (range)

variable {D : Data} {a : ℕ} {σ : St Ideal} {Q : St Ideal → Prop}

/-! ## Loads -/

theorem at_ld {r : Rg} {off size : Fin r.shape.rank → ℕ} {inb : ∀ x, off x + size x ≤ r.shape.size x} {hp : 0 < (Rect.unit off size inb).shape.numel}
    {k : ((Rect.unit off size inb).shape.Idx → Elt Ideal r.elt) → Blk Ideal} (H : Q ((k (VecWindow.window (σ r) off size inb)).run σ)) :
    Q ((Blk.ld r off size inb hp k).run σ) := H

theorem at_st {r : Rg} {off size : Fin r.shape.rank → ℕ} {inb : ∀ x, off x + size x ≤ r.shape.size x} {w : (Rect.unit off size inb).shape.Idx → Elt Ideal r.elt}
    {hs : (r.mref.access (Rect.unit off size inb)).Stores Finset.univ} {k : Blk Ideal}
    (H : ∀ f : Con Ideal r, f = VecWindow.put (σ r) off size w → Q (k.run (Function.update σ r f))) : Q ((Blk.st r off size inb w hs k).run σ) := H _ rfl
theorem at_ldP32 (h : Fin 8) (hP : good D (.p0 h 0) (σ (.p0 h 0))) {k : Vec Ideal S1x1x32x128 .bf16 → Blk Ideal}
    (H : ∀ w : Vec Ideal S1x1x32x128 .bf16, E4 w (fun _ _ i d => D.C h.val i d 0 1024) → Q ((k w).run σ)) : Q ((ldP32 h k).run σ) :=
  H _ (E4.congr (E4.window (G := fun _ _ i d => D.Pv h.val i d) _ fun i a0 a1 b0 b1 c0 c1 _ _ => by
    rw [hP i (by omega) (show (i 1).val = 0 by omega)]
    simp only [Fin.val_zero, Nat.mul_zero, Nat.zero_add]) fun _ _ i d _ _ hi _ => by
      simp only [Nat.zero_add]; rw [Data.Pv, if_neg (by omega)])
theorem at_ldP128 (h : Fin 8) (hP : good D (.p0 h 1) (σ (.p0 h 1))) {k : Vec Ideal S1x1x128x128 .bf16 → Blk Ideal}
    (H : ∀ w : Vec Ideal S1x1x128x128 .bf16, E4 w (fun _ _ i d => D.C h.val (896 + i) d 0 1024) → Q ((k w).run σ)) : Q ((ldP128 h k).run σ) :=
  H _ (E4.congr (E4.window (G := fun _ _ i d => D.Pv h.val (512 + i) d) _ fun i a0 a1 b0 b1 c0 c1 _ _ => by
    rw [hP i (by omega) (show (i 1).val = 1 by omega)]
    simp only [Fin.val_one, Nat.mul_one]) fun _ _ i d _ _ hi _ => by
      simp only [Nat.zero_add]; rw [Data.Pv, if_neg (by omega), show 512 + (384 + i) = 896 + i by omega])
theorem at_ldPA (h : Fin 8) (hP : good D (.p0 h 0) (σ (.p0 h 0))) {k : Vec Ideal S1x1x480x128 .bf16 → Blk Ideal}
    (H : ∀ w : Vec Ideal S1x1x480x128 .bf16, E4 w (fun _ _ i d => D.A h.val (32 + i) d) → Q ((k w).run σ)) : Q ((ldPA h k).run σ) :=
  H _ (E4.congr (E4.window (G := fun _ _ i d => D.Pv h.val i d) _ fun i a0 a1 b0 b1 c0 c1 _ _ => by
    rw [hP i (by omega) (show (i 1).val = 0 by omega)]
    simp only [Fin.val_zero, Nat.mul_zero, Nat.zero_add]) fun _ _ i d _ _ hi _ => by
      simp only [Nat.zero_add]; rw [Data.Pv, if_pos (by omega)])
theorem at_ldPB (h : Fin 8) (hP : good D (.p0 h 1) (σ (.p0 h 1))) {k : Vec Ideal S1x1x384x128 .bf16 → Blk Ideal}
    (H : ∀ w : Vec Ideal S1x1x384x128 .bf16, E4 w (fun _ _ i d => D.A h.val (512 + i) d) → Q ((k w).run σ)) : Q ((ldPB h k).run σ) :=
  H _ (E4.congr (E4.window (G := fun _ _ i d => D.Pv h.val (512 + i) d) _ fun i a0 a1 b0 b1 c0 c1 _ _ => by
    rw [hP i (by omega) (show (i 1).val = 1 by omega)]
    simp only [Fin.val_one, Nat.mul_one]) fun _ _ i d _ _ hi _ => by
      simp only [Nat.zero_add]; rw [Data.Pv, if_pos (by omega)])
theorem at_ldGl (h : Fin 8) (r : Fin 3) (hG : good D (.gl r) (σ (.gl r))) {k : Vec Ideal S1x1x32x128 .bf16 → Blk Ideal}
    (H : ∀ w : Vec Ideal S1x1x32x128 .bf16, E4 w (fun _ _ i d => D.C h.val i d (1024 * (r.val + 1)) (1024 * (r.val + 1) + 1024)) → Q ((k w).run σ)) :
    Q ((ldGl h r k).run σ) :=
  H _ (E4.congr (E4.window (G := fun _ h i d => D.C h i d (1024 * (r.val + 1)) (1024 * (r.val + 1) + 1024)) _ fun i a0 a1 b0 b1 c0 c1 _ _ =>
    (hG i (by omega)).1 (by have := h.isLt; omega)) fun _ b i d _ hb hi _ => by simp only [Nat.zero_add, Nat.lt_one_iff.1 hb, Nat.add_zero])
theorem at_ldGl8 (r : Fin 3) (hG : good D (.gl r) (σ (.gl r))) {k : Vec Ideal S1x1x32x8 .bf16 → Blk Ideal}
    (H : ∀ w : Vec Ideal S1x1x32x8 .bf16, R4 w (fun _ _ i h => D.L h i (1024 * (r.val + 1)) (1024 * (r.val + 1) + 1024)) → Q ((k w).run σ)) :
    Q ((ldGl8 r k).run σ) :=
  H _ (R4.congr (R4.window (G := fun _ _ i h => D.L h i (1024 * (r.val + 1)) (1024 * (r.val + 1) + 1024)) _ fun i a0 a1 b0 b1 c0 c1 d0 d1 =>
    (hG i (by omega)).2 (by omega) (by omega)) fun _ b i d _ hb hi _ => by simp only [Nat.zero_add])
theorem at_ldEd (h : Fin 8) (hE : good D .ed (σ .ed)) {k : Vec Ideal S1x128x128 .bf16 → Blk Ideal}
    (H : ∀ w : Vec Ideal S1x128x128 .bf16, E3 w (fun _ i d => D.C h.val (896 + i) d 1024 2048) → Q ((k w).run σ)) : Q ((ldEd h k).run σ) :=
  H _ (E3.congr (E3.window (G := fun h i d => D.C h (896 + i) d 1024 2048) _ fun i a0 a1 b0 b1 c0 c1 =>
    (hE i).1 (by have := h.isLt; omega)) fun a i d ha hi _ => by simp only [Nat.zero_add, Nat.lt_one_iff.1 ha, Nat.add_zero])
theorem at_ldEd8 (hE : good D .ed (σ .ed)) {k : Vec Ideal S1x128x8 .bf16 → Blk Ideal}
    (H : ∀ w : Vec Ideal S1x128x8 .bf16, R3 w (fun _ i h => D.L h (896 + i) 1024 2048) → Q ((k w).run σ)) : Q ((ldEd8 k).run σ) :=
  H _ (R3.congr (R3.window (G := fun _ i h => D.L h (896 + i) 1024 2048) _ fun i a0 a1 b0 b1 c0 c1 =>
    (hE i).2 (by omega) (by omega)) fun a i d ha hi _ => by simp only [Nat.zero_add])

/-! ## The rows that are complete -/

/-- The rows 32 to 895 of the output are `G`. -/
def Mid (G : ℕ → ℕ → EReal) (f : Con Ideal .out) : Prop :=
  ∀ i : S1x1024x1024.Idx, 32 ≤ (i 1).val → (i 1).val < 896 → f i = (G (i 1).val (i 2).val)

theorem at_zeroMid (H : ∀ f : Con Ideal .out, Mid (fun _ _ => 0) f → Q (Function.update σ .out f)) : Q ((zeroMid Ideal).run σ) := by
  have hz : E2 (broadcast S864x1024 (z0 Ideal) : FVec Ideal S864x1024 .f32) (fun _ _ => 0) := fun i => z0_eq
  refine H _ fun i h0 h1 => (E3.put (hz.lead _) i).trans ?_
  have : (i 0).val < 1 := (i 0).isLt
  have : (i 2).val < 1024 := (i 2).isLt
  exact if_pos (by omega)

/-- Head `h`'s share of the projection. -/
def share (D : Data) (h i n : ℕ) : EReal := ∑ d ∈ range 128, D.A h i d * D.Wo (128 * h + d) n

theorem at_woAcc (h : Fin 8) {G : ℕ → ℕ → EReal} (hI : In D a σ) (h0 : good D (.p0 h 0) (σ (.p0 h 0))) (h1 : good D (.p0 h 1) (σ (.p0 h 1)))
    (hG : Mid G (σ .out)) (H : ∀ f : Con Ideal .out, Mid (fun i n => G i n + share D h.val i n) f → Q (Function.update σ .out f)) :
    Q ((woAcc h).run σ) := by
  have ro : E3 (VecWindow.window (σ .out) ![0, 32, 0] S1x480x1024.size (inb3 (by omega) (by omega) (by omega))) (fun _ i n => G (32 + i) n) :=
    E3.congr (E3.window (G := fun _ i n => G i n) _ fun i _ _ b0 b1 _ _ => hG i b0 (by omega)) (by intros; simp only [Nat.zero_add])
  unfold woAcc ldOA
  refine at_ld ?_
  refine at_ldPA h h0 fun p hp => at_ldWoH h hI fun w hw => ?_
  have s1 := r_woA ro hp hw
  unfold stOA ldOA
  refine at_ld (at_st fun f1 e1 => ?_)
  have e1 : ∀ i : S1x1024x1024.Idx, f1 i = _ := fun i => (congrFun e1 i).trans (E3.put s1 i)
  have l0 : ∀ i : S1x1024x1024.Idx, (i 0).val < 1 := fun i => (i 0).isLt
  have l2 : ∀ i : S1x1024x1024.Idx, (i 2).val < 1024 := fun i => (i 2).isLt
  have hI1 : In D a (Function.update σ .out f1) := hI.upd (r := .out) (by decide) f1
  have ro2 : E3 (VecWindow.window (Function.update σ .out f1 .out) ![0, 512, 0] S1x384x1024.size (inb3 (by omega) (by omega) (by omega))) (fun _ i n => G (512 + i) n) :=
    E3.congr (E3.window (G := fun _ i n => G i n) _ fun i _ _ b0 b1 _ _ => by
      rw [Function.update_self, e1, if_neg (by omega)]; exact hG i (by omega) (by omega)) (by intros; simp only [Nat.zero_add])
  unfold ldOB
  refine at_ld ?_
  refine at_ldPB (σ := Function.update σ .out f1) h (by rw [Function.update_of_ne (by simp)]; exact h1) fun p2 hp2 => at_ldWoH h hI1 fun w2 hw2 => ?_
  have s2 := r_woB ro2 hp2 hw2
  unfold stOB ldOB
  refine at_ld (at_st fun f2 e2 => ?_)
  have e2 : ∀ i : S1x1024x1024.Idx, f2 i = _ := fun i => (congrFun e2 i).trans (E3.put s2 i)
  rw [Function.update_idem]
  refine H f2 fun i i0 i1 => ?_
  have := l0 i; have := l2 i
  rw [e2]
  by_cases e : 512 ≤ (i 1).val
  · rw [if_pos (by omega), show 512 + ((i 1).val - 512) = (i 1).val by omega, Nat.sub_zero]; rfl
  · rw [if_neg (by omega), Function.update_self, e1, if_pos (by omega), show 32 + ((i 1).val - 32) = (i 1).val by omega, Nat.sub_zero]; rfl

/-! ## The rows summed over devices -/

theorem at_stA32 (h : Fin 8) {w : Vec Ideal S32x128 .f32} {G : ℕ → ℕ → EReal} (hw : E2 w G) {K : Blk Ideal}
    (H : ∀ f : Con Ideal .acc, (∀ i : S160x1024.Idx, f i = if (i 0).val < 32 ∧ (i 1).val / 128 = h.val
      then (G (i 0).val ((i 1).val % 128)) else σ .acc i) → Q (K.run (Function.update σ .acc f))) : Q ((stA32 h w K).run σ) :=
  H _ fun i => (E2.put hw i).trans (by
    by_cases e : (i 0).val < 32 ∧ (i 1).val / 128 = h.val
    · rw [if_pos e, if_pos (by omega), Nat.sub_zero, show (i 1).val - 128 * h.val = (i 1).val % 128 by omega]
    · rw [if_neg e, if_neg (by omega)])
theorem at_stA128 (h : Fin 8) {w : Vec Ideal S128x128 .f32} {G : ℕ → ℕ → EReal} (hw : E2 w G) {K : Blk Ideal}
    (H : ∀ f : Con Ideal .acc, (∀ i : S160x1024.Idx, f i = if 32 ≤ (i 0).val ∧ (i 1).val / 128 = h.val
      then (G ((i 0).val - 32) ((i 1).val % 128)) else σ .acc i) → Q (K.run (Function.update σ .acc f))) : Q ((stA128 h w K).run σ) :=
  H _ fun i => (E2.put hw i).trans (by
    have : (i 0).val < 160 := (i 0).isLt
    by_cases e : 32 ≤ (i 0).val ∧ (i 1).val / 128 = h.val
    · rw [if_pos e, if_pos (by omega), show (i 1).val - 128 * h.val = (i 1).val % 128 by omega]
    · rw [if_neg e, if_neg (by omega)])

theorem C_glob (D : Data) (h i d : ℕ) : D.C h i d 0 4096 = ((D.C h i d 0 1024 + D.C h i d 1024 2048) + D.C h i d 2048 3072) + D.C h i d 3072 4096 := D.P_glob h i _
theorem L_glob (D : Data) (h i : ℕ) : D.L h i 0 4096 = ((D.L h i 0 1024 + D.L h i 1024 2048) + D.L h i 2048 3072) + D.L h i 3072 4096 := D.P_glob h i _
theorem C_edge (D : Data) (h i d : ℕ) (h0 : 32 ≤ i) (h1 : i < 1024) : D.C h i d 0 4096 = D.C h i d 0 1024 + D.C h i d 1024 2048 := D.P_edge h i (D.wv_zero h d) h0 h1
theorem L_edge (D : Data) (h i : ℕ) (h0 : 32 ≤ i) (h1 : i < 1024) : D.L h i 0 4096 = D.L h i 0 1024 + D.L h i 1024 2048 := D.P_edge h i (fun _ => rfl) h0 h1

/-- Everything gathered: the partial results of the first device, and those of the others. -/
structure All (D : Data) (σ : St Ideal) : Prop where
  p0 : ∀ h r, good D (.p0 h r) (σ (.p0 h r))
  d0 : good D .d0 (σ .d0)
  ed : good D .ed (σ .ed)
  gl : ∀ r, good D (.gl r) (σ (.gl r))

/-- Head `h` of a buffer of heads is `G`; the others are as they were. -/
def HeadUpd (h : Fin 8) (G : ℕ → ℕ → EReal) (f g : Con Ideal .acc) : Prop :=
  ∀ i : S160x1024.Idx, g i = if (i 1).val / 128 = h.val then (G (rowOf (i 0).val) ((i 1).val % 128)) else f i

theorem at_accStore (h : Fin 8) (hA : All D σ)
    (H : ∀ f : Con Ideal .acc, HeadUpd h (fun i d => D.C h.val i d 0 4096) (σ .acc) f → Q (Function.update σ .acc f)) : Q ((accStore h).run σ) := by
  unfold accStore
  refine at_ldP32 h (hA.p0 h 0) fun p hp => at_ldGl h 0 (hA.gl 0) fun g0 h0 => at_ldGl h 1 (hA.gl 1) fun g1 h1 => at_ldGl h 2 (hA.gl 2) fun g2 h2 => ?_
  have s1 := (r_accG hp h0 h1 h2).congr (G' := fun i d => D.C h.val i d 0 4096) fun i d _ _ => (C_glob D h.val i d).symm
  refine at_stA32 h s1 fun f1 e1 => ?_
  refine at_ldP128 h (by rw [Function.update_of_ne (by simp)]; exact hA.p0 h 1) fun p hp => at_ldEd h (by rw [Function.update_of_ne (by simp)]; exact hA.ed) fun e he => ?_
  have s2 := (r_accE hp he).congr (G' := fun i d => D.C h.val (896 + i) d 0 4096) fun i d hi _ => (C_edge D h.val (896 + i) d (by omega) (by omega)).symm
  refine at_stA128 h s2 fun f2 e2 => ?_
  rw [Function.update_idem]
  refine H f2 fun i => ?_
  rw [e2, Function.update_self, e1]
  unfold rowOf
  by_cases e : (i 1).val / 128 = h.val
  · rw [if_pos e]
    by_cases e' : (i 0).val < 32
    · rw [if_neg (by omega), if_pos ⟨e', e⟩, if_pos e']
    · rw [if_pos ⟨by omega, e⟩, if_neg e', show 896 + ((i 0).val - 32) = 864 + (i 0).val by omega]
  · rw [if_neg e, if_neg (fun q => e q.2), if_neg (fun q => e q.2)]

/-- The weights' sums over the four devices. -/
def Lt (D : Data) (f : Con Ideal .lt) : Prop := ∀ i : S160x8.Idx, f i = ((D.L (i 1).val (rowOf (i 0).val) 0 4096 : ℝ) : EReal)

theorem at_ltStores (hA : All D σ) (H : ∀ f : Con Ideal .lt, Lt D f → Q (Function.update σ .lt f)) : Q ((ltStores Ideal).run σ) := by
  have d1 : R2 (VecWindow.window (σ .d0) ![0, 0] S32x8.size (inb2 (by omega) (by omega))) (fun i h => D.L h i 0 1024) :=
    R2.congr (R2.window (G := fun i h => D.L h (rowOf i) 0 1024) _ fun i _ _ _ _ => hA.d0 i) fun i h hi _ => by
      simp only [Nat.zero_add, rowOf]; rw [if_pos hi]
  unfold ltStores
  refine at_ld ?_
  refine at_ldGl8 0 (hA.gl 0) fun g0 h0 => at_ldGl8 1 (hA.gl 1) fun g1 h1 => at_ldGl8 2 (hA.gl 2) fun g2 h2 => ?_
  have s1 := (r_ltG d1 h0 h1 h2).congr (G' := fun i h => D.L h i 0 4096) fun i h _ _ => (L_glob D h i).symm
  refine at_ld (at_st fun f1 e1 => at_ld ?_)
  have e1 : ∀ i : S160x8.Idx, f1 i = _ := fun i => (congrFun e1 i).trans (R2.put s1 i)
  have d2 : R2 (VecWindow.window (Function.update σ .lt f1 .d0) ![32, 0] S128x8.size (inb2 (by omega) (by omega))) (fun i h => D.L h (896 + i) 0 1024) :=
    R2.congr (R2.window (G := fun i h => D.L h (rowOf i) 0 1024) _ fun i _ _ _ _ => by
      rw [Function.update_of_ne (by simp)]; exact hA.d0 i) fun i h hi _ => by
      simp only [Nat.zero_add, rowOf]; rw [if_neg (by omega), show 864 + (32 + i) = 896 + i by omega]
  refine at_ldEd8 (σ := Function.update σ .lt f1) (by rw [Function.update_of_ne (by simp)]; exact hA.ed) fun e he => ?_
  have s2 := (r_ltE d2 he).congr (G' := fun i h => D.L h (896 + i) 0 4096) fun i h hi _ => (L_edge D h (896 + i) (by omega) (by omega)).symm
  refine at_ld (at_st fun f2 e2 => ?_)
  have e2 : ∀ i : S160x8.Idx, f2 i = _ := fun i => (congrFun e2 i).trans (R2.put s2 i)
  rw [Function.update_idem]
  refine H f2 fun i => ?_
  have : (i 0).val < 160 := (i 0).isLt
  have : (i 1).val < 8 := (i 1).isLt
  rw [e2]
  unfold rowOf
  by_cases e : (i 0).val < 32
  · rw [if_neg (by omega), Function.update_self, e1, if_pos (by omega), if_pos e, Nat.sub_zero, Nat.sub_zero]
  · rw [if_pos (by omega), if_neg e, Nat.sub_zero, show 896 + ((i 0).val - 32) = 864 + (i 0).val by omega]

theorem at_divStore (h : Fin 8) (hL : Lt D (σ .lt))
    (hC : ∀ i : S160x1024.Idx, (i 1).val / 128 = h.val → σ .acc i = (D.C h.val (rowOf (i 0).val) ((i 1).val % 128) 0 4096))
    (H : ∀ f : Con Ideal .acc, HeadUpd h (fun i d => D.A h.val i d) (σ .acc) f → Q (Function.update σ .acc f)) : Q ((divStore h).run σ) := by
  have a1 : E2 (VecWindow.window (σ .acc) ![0, 128 * h.val] S32x128.size (inb2 (by omega) (by omega))) (fun i d => D.C h.val i d 0 4096) :=
    E2.congr (E2.window (G := fun i d => D.C h.val (rowOf i) (d % 128) 0 4096) _ fun i _ _ b0 b1 => hC i (by omega)) fun i d hi hd => by
      simp only [Nat.zero_add, rowOf]; rw [if_pos hi, show (128 * h.val + d) % 128 = d by omega]
  have l1 : R2 (VecWindow.window (σ .lt) ![0, h.val] S32x1.size (inb2 (by omega) (by omega))) (fun i _ => D.L h.val i 0 4096) :=
    R2.congr (R2.window (G := fun i h => D.L h (rowOf i) 0 4096) _ fun i _ _ _ _ => hL i) fun i d hi hd => by
      simp only [Nat.zero_add, rowOf]; rw [if_pos hi, Nat.lt_one_iff.1 hd, Nat.add_zero]
  refine at_stA32 h (r_divG a1 l1 fun i _ => (D.L_pos h.val i 4096 (by norm_num)).ne') fun f1 e1 => ?_
  have a2 : E2 (VecWindow.window (Function.update σ .acc f1 .acc) ![32, 128 * h.val] S128x128.size (inb2 (by omega) (by omega))) (fun i d => D.C h.val (896 + i) d 0 4096) :=
    E2.congr (E2.window (G := fun i d => D.C h.val (rowOf i) (d % 128) 0 4096) _ fun i a0 _ b0 b1 => by
      rw [Function.update_self, e1, if_neg (by omega)]; exact hC i (by omega)) fun i d hi hd => by
      simp only [rowOf]; rw [if_neg (by omega), show (128 * h.val + d) % 128 = d by omega, show 864 + (32 + i) = 896 + i by omega]
  have l2 : R2 (VecWindow.window (Function.update σ .acc f1 .lt) ![32, h.val] S128x1.size (inb2 (by omega) (by omega))) (fun i _ => D.L h.val (896 + i) 0 4096) :=
    R2.congr (R2.window (G := fun i h => D.L h (rowOf i) 0 4096) _ fun i _ _ _ _ => by
      rw [Function.update_of_ne (by simp)]; exact hL i) fun i d hi hd => by
      simp only [rowOf]; rw [if_neg (by omega), Nat.lt_one_iff.1 hd, Nat.add_zero, show 864 + (32 + i) = 896 + i by omega]
  refine at_stA128 h (r_divE a2 l2 fun i _ => (D.L_pos h.val (896 + i) 4096 (by norm_num)).ne') fun f2 e2 => ?_
  rw [Function.update_idem]
  refine H f2 fun i => ?_
  rw [e2, Function.update_self, e1]
  unfold rowOf
  by_cases e : (i 1).val / 128 = h.val
  · rw [if_pos e]
    by_cases e' : (i 0).val < 32
    · rw [if_neg (by omega), if_pos ⟨e', e⟩, if_pos e']; rfl
    · rw [if_pos ⟨by omega, e⟩, if_neg e', show 896 + ((i 0).val - 32) = 864 + (i 0).val by omega]; rfl
  · rw [if_neg e, if_neg (fun q => e q.2), if_neg (fun q => e q.2)]

theorem at_finalB (hI : In D a σ) (hA : ∀ i : S160x1024.Idx, σ .acc i = (D.A ((i 1).val / 128) (rowOf (i 0).val) ((i 1).val % 128)))
    (hM : Mid D.O (σ .out)) (H : ∀ f : Con Ideal .out, E3 f (fun _ i n => D.O i n) → Q (Function.update σ .out f)) : Q ((finalB Ideal).run σ) := by
  have a1 : E2 (VecWindow.window (σ .acc) ![0, 0] S32x1024.size (inb2 (by omega) (by omega))) (fun i e => D.A (e / 128) i (e % 128)) :=
    E2.congr (E2.window (G := fun i e => D.A (e / 128) (rowOf i) (e % 128)) _ fun i _ _ _ _ => hA i) fun i e hi _ => by
      simp only [Nat.zero_add, rowOf]; rw [if_pos hi]
  unfold finalB
  refine at_ld ?_
  refine at_ldWo hI fun w hw => ?_
  have s1 := r_finG a1 hw
  refine at_ld (at_st fun f1 e1 => at_ld ?_)
  have e1 : ∀ i : S1x1024x1024.Idx, f1 i = _ := fun i => (congrFun e1 i).trans (E3.put s1 i)
  have hI1 : In D a (Function.update σ .out f1) := hI.upd (r := .out) (by decide) f1
  have a2 : E2 (VecWindow.window (Function.update σ .out f1 .acc) ![32, 0] S128x1024.size (inb2 (by omega) (by omega))) (fun i e => D.A (e / 128) (896 + i) (e % 128)) :=
    E2.congr (E2.window (G := fun i e => D.A (e / 128) (rowOf i) (e % 128)) _ fun i _ _ _ _ => by
      rw [Function.update_of_ne (by simp)]; exact hA i) fun i e hi _ => by
      simp only [Nat.zero_add, rowOf]; rw [if_neg (by omega), show 864 + (32 + i) = 896 + i by omega]
  refine at_ldWo hI1 fun w2 hw2 => ?_
  have s2 := r_finE a2 hw2
  refine at_ld (at_st fun f2 e2 => ?_)
  have e2 : ∀ i : S1x1024x1024.Idx, f2 i = _ := fun i => (congrFun e2 i).trans (E3.put s2 i)
  rw [Function.update_idem]
  refine H f2 fun i => ?_
  have : (i 0).val < 1 := (i 0).isLt
  have : (i 1).val < 1024 := (i 1).isLt
  have : (i 2).val < 1024 := (i 2).isLt
  rw [e2]
  by_cases c0 : 896 ≤ (i 1).val
  · rw [if_pos (by omega), Nat.sub_zero, show 896 + ((i 1).val - 896) = (i 1).val by omega]; rfl
  rw [if_neg (by omega), Function.update_self, e1]
  by_cases c1 : (i 1).val < 32
  · rw [if_pos (by omega), Nat.sub_zero, Nat.sub_zero]; rfl
  · rw [if_neg (by omega)]; exact hM i (by omega) (by omega)

end Cert.Attn

end
-- ==== Proof.Dev.lean ====
/-
What the devices compute: run on the problem's arguments, every device ends with the problem's output, as long as what
it receives is what its sender was to compute.
-/
module

public import proofs.«01_k».proof.Proof.Tail
public import proofs.«01_k».proof.Proof.Run

@[expose] public section

noncomputable section

namespace Cert.Attn

open Cert.KernelIdeal Cert.KernelIdeal.Gen

open Idealize.ShloMosaic Idealize.ShloMosaic.ValueIdx
open Idealize.ShloMosaic.TcCoe
open Finset (range)

variable {D : Data} {a : ℕ} {σ : St Ideal} {Q : St Ideal → Prop}

/-! ## Lists of actions -/

theorem wlp_seq {g : (r : Rg) → Con Ideal r → Prop} {R : St Ideal → Prop} {l l' : List (Act Ideal)} (h : wlp g R l σ)
    (h' : ∀ σ', R σ' → wlp g Q l' σ') : wlp g Q (l ++ l') σ := by
  induction l generalizing σ with
  | nil => exact h' _ h
  | cons x l ih =>
    cases x with
    | blk B rd wr => exact ih h
    | send x => exact ⟨h.1, ih h.2⟩
    | recv x => exact fun σ' hσ => ih (h σ' hσ)
    | wsend x => exact ih h
    | merge x => exact ih h

/-- Head by head. -/
theorem wlp_heads {g : (r : Rg) → Con Ideal r → Prop} (J : ℕ → St Ideal → Prop) (f : Fin 8 → List (Act Ideal))
    (step : ∀ (h : Fin 8) σ, J h.val σ → wlp g (J (h.val + 1)) (f h) σ) (h0 : J 0 σ) : wlp g (J 8) (heads.flatMap f) σ :=
  wlp_seq (step 0 _ h0) fun _ h1 => wlp_seq (step 1 _ h1) fun _ h2 => wlp_seq (step 2 _ h2) fun _ h3 => wlp_seq (step 3 _ h3) fun _ h4 =>
  wlp_seq (step 4 _ h4) fun _ h5 => wlp_seq (step 5 _ h5) fun _ h6 => wlp_seq (step 6 _ h6) fun _ h7 => wlp_seq (l' := []) (step 7 _ h7) fun _ h8 => h8
theorem wlp_heads_map {g : (r : Rg) → Con Ideal r → Prop} (J : ℕ → St Ideal → Prop) (f : Fin 8 → Act Ideal)
    (step : ∀ (h : Fin 8) σ, J h.val σ → wlp g (J (h.val + 1)) [f h] σ) (h0 : J 0 σ) : wlp g (J 8) (heads.map f) σ :=
  wlp_heads J (fun h => [f h]) step h0

/-- A send of what its sender was to compute. -/
theorem wlp_send {x : Msg} {l : List (Act Ideal)} (hx : ∀ r ∈ x.regs, good D r (σ r)) (h : wlp (good D) Q l σ) : wlp (good D) Q (.send x :: l) σ := ⟨hx, h⟩
/-- The same region, to every peer. -/
theorem wlp_three {f : Fin 3 → Msg} (hx : ∀ j, ∀ r ∈ (f j).regs, good D r (σ r)) (h : Q σ) : wlp (good D) Q (three.map fun j => .send (f j)) σ :=
  wlp_send (hx 0) (wlp_send (hx 1) (wlp_send (hx 2) h))

/-- Waits for sends change nothing. -/
theorem wlp_waits {g : (r : Rg) → Con Ideal r → Prop} {l : List (Act Ideal)} (hl : ∀ x ∈ l, (∃ y, x = .wsend y) ∨ ∃ y, x = .merge y) (h : Q σ) : wlp g Q l σ := by
  induction l with
  | nil => exact h
  | cons x l ih =>
    have := ih fun y hy => hl y (List.mem_cons_of_mem _ hy)
    rcases hl x List.mem_cons_self with ⟨y, rfl⟩ | ⟨y, rfl⟩ <;> exact this

/-! ## Regions held -/

/-- A device's arguments, and what it holds of the regions that are transferred. -/
structure Has (D : Data) (a : ℕ) (S : Rg → Prop) (σ : St Ideal) : Prop where
  arg : In D a σ
  gd : ∀ r, S r → good D r (σ r)

/-- What any device may know. -/
abbrev none_ : Rg → Prop := fun _ => False

theorem regs_other (x : Msg) : ∀ r ∈ x.regs, r ∉ args ∧ r ≠ .out := by
  cases x <;> intro r hr <;> simp only [Msg.regs, Finset.mem_insert, Finset.mem_singleton] at hr
  · rcases hr with rfl | rfl <;> simp [args]
  all_goals subst hr; simp [args]

theorem Has.recv {S : Rg → Prop} (h : Has D a S σ) {x : Msg} {σ' : St Ideal} (hx : ∀ r ∈ x.regs, good D r (σ' r)) :
    Has D a (fun r => r ∈ x.regs ∨ S r) (mix x.regs σ' σ) where
  arg := h.arg.keep fun r hr => by unfold mix; rw [if_neg fun q => (regs_other x r q).1 hr]
  gd r hr := by
    unfold mix
    by_cases q : r ∈ x.regs
    · rw [if_pos q]; exact hx r q
    · rw [if_neg q]; exact h.gd r (hr.resolve_left q)

theorem Has.weaken {S S' : Rg → Prop} (h : Has D a S σ) (hS : ∀ r, S' r → S r ∨ r ∈ args ∨ r = .out ∨ r = .acc ∨ r = .lt ∨ r = .md) : Has D a S' σ where
  arg := h.arg
  gd r hr := by
    rcases hS r hr with q | q | rfl | rfl | rfl | rfl
    · exact h.gd r q
    · simp only [args, List.mem_cons, List.not_mem_nil, or_false] at q
      rcases q with rfl | rfl | rfl | rfl | rfl <;> trivial
    all_goals trivial

/-- A store elsewhere. -/
theorem Has.upd {S : Rg → Prop} (h : Has D a S σ) {r : Rg} (hr : r ∈ [Rg.out, .acc, .lt, .md]) (f : Con Ideal r) : Has D a S (Function.update σ r f) where
  arg := h.arg.upd (fun r' hr' => by rintro rfl; revert hr hr'; cases r' <;> simp [args]) f
  gd r' hr' := by
    by_cases q : r' = r
    · subst q
      revert hr; cases r' <;> first | (intro; trivial) | simp
    · rw [Function.update_of_ne q]; exact h.gd r' hr'

/-! ## The projection of the complete rows -/

/-- The shares of the first `n` heads are summed. -/
structure Proj (D : Data) (a : ℕ) (S : Rg → Prop) (n : ℕ) (σ : St Ideal) : Prop where
  has : Has D a S σ
  mid : Mid (fun i j => ∑ h ∈ range n, share D h i j) (σ .out)

theorem wlp_zero {S : Rg → Prop} (h : Has D a S σ) : wlp (good D) (Proj D a S 0) [aZero Ideal] σ := by
  show Proj D a S 0 ((zeroMid Ideal).run σ)
  exact at_zeroMid fun f hf => ⟨h.upd (by simp) f, by rw [Function.update_self]; exact hf⟩

theorem wlp_wo {S : Rg → Prop} (h : Fin 8) (hP : Proj D a S h.val σ) (h0 : S (.p0 h 0)) (h1 : S (.p0 h 1)) :
    wlp (good D) (Proj D a S (h.val + 1)) [aWo Ideal h] σ := by
  show Proj D a S (h.val + 1) ((woAcc h).run σ)
  refine at_woAcc h hP.has.arg (hP.has.gd _ h0) (hP.has.gd _ h1) hP.mid fun f hf => ⟨hP.has.upd (by simp) f, ?_⟩
  rw [Function.update_self]
  simpa only [Finset.sum_range_succ] using hf

theorem Proj.recv {S : Rg → Prop} {n : ℕ} (h : Proj D a S n σ) {x : Msg} {σ' : St Ideal} (hx : ∀ r ∈ x.regs, good D r (σ' r)) :
    Proj D a (fun r => r ∈ x.regs ∨ S r) n (mix x.regs σ' σ) where
  has := h.has.recv hx
  mid := by unfold mix; rw [if_neg fun q => (regs_other x _ q).2 rfl]; exact h.mid

theorem wlp_recv {S : Rg → Prop} {n : ℕ} (h : Proj D a S n σ) {x : Msg} {l : List (Act Ideal)}
    (hl : ∀ σ', Proj D a (fun r => r ∈ x.regs ∨ S r) n σ' → wlp (good D) Q l σ') : wlp (good D) Q (.recv x :: l) σ :=
  fun σ' hσ => hl _ (h.recv hσ)

/-! ## The tail -/

theorem Proj.all {S : Rg → Prop} (h : Proj D a S 8 σ) (hS : ∀ r, S r ∨ r ∈ args ∨ r = .out ∨ r = .acc ∨ r = .lt ∨ r = .md) : All D σ ∧ In D a σ ∧ Mid D.O (σ .out) := by
  have := h.has.weaken (S' := fun _ => True) fun r _ => hS r
  refine ⟨⟨fun h r => this.gd _ trivial, this.gd _ trivial, this.gd _ trivial, fun r => this.gd _ trivial⟩, this.arg, fun i h0 h1 => ?_⟩
  rw [h.mid i h0 h1, D.O_heads]; rfl

theorem All.upd (h : All D σ) {r : Rg} (hr : r ∈ [Rg.out, .acc, .lt, .md]) (f : Con Ideal r) : All D (Function.update σ r f) where
  p0 i j := by rw [Function.update_of_ne (by rintro rfl; simp at hr)]; exact h.p0 i j
  d0 := by rw [Function.update_of_ne (by rintro rfl; simp at hr)]; exact h.d0
  ed := by rw [Function.update_of_ne (by rintro rfl; simp at hr)]; exact h.ed
  gl i := by rw [Function.update_of_ne (by rintro rfl; simp at hr)]; exact h.gl i

/-- The buffer of heads: its first `n` heads are `G`. -/
def AccN (G : ℕ → ℕ → ℕ → EReal) (n : ℕ) (f : Con Ideal .acc) : Prop :=
  ∀ i : S160x1024.Idx, (i 1).val / 128 < n → f i = (G ((i 1).val / 128) (rowOf (i 0).val) ((i 1).val % 128))

theorem AccN.step {G : ℕ → ℕ → ℕ → EReal} {h : Fin 8} {f g : Con Ideal .acc} (hf : AccN G h.val f) (hg : HeadUpd h (G h.val) f g) : AccN G (h.val + 1) g := fun i hi => by
  rw [hg]
  by_cases e : (i 1).val / 128 = h.val
  · rw [if_pos e, e]
  · rw [if_neg e, hf i (by omega)]

/-- The output is the problem's. -/
def Out (D : Data) (f : Con Ideal .out) : Prop := ∀ i : S1x1024x1024.Idx, f i = (D.O (i 1).val (i 2).val)

/-- The quotients, head by head: `n` heads are divided, the others not yet. -/
def Divided (D : Data) (a n : ℕ) (σ : St Ideal) : Prop :=
  ((In D a σ ∧ Mid D.O (σ .out)) ∧ Lt D (σ .lt)) ∧ AccN (fun h i d => D.A h i d) n (σ .acc)
    ∧ ∀ i : S160x1024.Idx, n ≤ (i 1).val / 128 → σ .acc i = (D.C ((i 1).val / 128) (rowOf (i 0).val) ((i 1).val % 128) 0 4096)

theorem wlp_tail (hA : All D σ) (hI : In D a σ) (hM : Mid D.O (σ .out)) : wlp (good D) (fun σ' => Out D (σ' .out)) (tailA Ideal) σ := by
  refine wlp_seq (R := fun σ => (In D a σ ∧ Mid D.O (σ .out)) ∧ AccN (fun h i d => D.A h i d) 8 (σ .acc))
    (wlp_seq (R := fun σ => ((In D a σ ∧ Mid D.O (σ .out)) ∧ Lt D (σ .lt)) ∧ AccN (fun h i d => D.C h i d 0 4096) 8 (σ .acc))
    (wlp_seq (wlp_heads_map (fun n σ => (All D σ ∧ In D a σ ∧ Mid D.O (σ .out)) ∧ AccN (fun h i d => D.C h i d 0 4096) n (σ .acc)) _ (fun h σ hσ => ?_)
      ⟨⟨hA, hI, hM⟩, fun i hi => absurd hi (Nat.not_lt_zero _)⟩)
    fun σ hσ => ?_) fun σ hσ => ?_) fun σ hσ => ?_
  · exact at_accStore (Q := fun σ => (All D σ ∧ In D a σ ∧ Mid D.O (σ .out)) ∧ AccN (fun h i d => D.C h i d 0 4096) (h.val + 1) (σ .acc)) h hσ.1.1 fun f hf => ⟨⟨hσ.1.1.upd (by simp) f, hσ.1.2.1.upd (by decide) f, by rw [Function.update_of_ne (by simp)]; exact hσ.1.2.2⟩,
      by rw [Function.update_self]; exact hσ.2.step hf⟩
  · exact at_ltStores (Q := fun σ => ((In D a σ ∧ Mid D.O (σ .out)) ∧ Lt D (σ .lt)) ∧ AccN (fun h i d => D.C h i d 0 4096) 8 (σ .acc)) hσ.1.1 fun f hf =>
      ⟨⟨⟨hσ.1.2.1.upd (by decide) f, by rw [Function.update_of_ne (by simp)]; exact hσ.1.2.2⟩, by rw [Function.update_self]; exact hf⟩,
        by rw [Function.update_of_ne (by simp)]; exact hσ.2⟩
  · rw [← List.append_nil (List.map _ heads)]
    refine wlp_seq (l' := []) (wlp_heads_map (Divided D a) _ (fun h σ hσ => ?_)
        ⟨hσ.1, fun i hi => absurd hi (Nat.not_lt_zero _), fun i _ => hσ.2 i (by have : (i 1).val < 1024 := (i 1).isLt; omega)⟩) fun σ hσ => by exact ⟨hσ.1.1, hσ.2.1⟩
    refine at_divStore (Q := Divided D a (h.val + 1)) h hσ.1.2 (fun i hi => by rw [hσ.2.2 i hi.ge, hi]) fun f hf =>
      ⟨⟨⟨hσ.1.1.1.upd (by decide) f, by rw [Function.update_of_ne (by simp)]; exact hσ.1.1.2⟩, by rw [Function.update_of_ne (by simp)]; exact hσ.1.2⟩,
        by rw [Function.update_self]; exact hσ.2.1.step hf, fun i hi => ?_⟩
    rw [Function.update_self, hf, if_neg (by omega), hσ.2.2 i (by omega)]
  · exact at_finalB (Q := fun σ' => Out D (σ' .out)) hσ.1.1 (fun i => hσ.2 i (by have : (i 1).val < 1024 := (i 1).isLt; omega)) hσ.1.2 fun f hf => by
      rw [Function.update_self]; exact hf

/-- The tail and the waits, once everything is gathered. -/
theorem wlp_end {S : Rg → Prop} (h : Proj D a S 8 σ) (hS : ∀ r, S r ∨ r ∈ args ∨ r = .out ∨ r = .acc ∨ r = .lt ∨ r = .md) :
    wlp (good D) (fun σ' => Out D (σ' .out)) (tailA Ideal) σ :=
  wlp_tail (h.all hS).1 (h.all hS).2.1 (h.all hS).2.2

/-! ## The devices -/

theorem regs_p0 (j : Fin 2) (h : Fin 8) {r : Rg} (hr : r ∈ (Msg.p0 j h).regs) : ∃ r', r = .p0 h r' := by
  simp only [Msg.regs, Finset.mem_insert, Finset.mem_singleton] at hr
  rcases hr with rfl | rfl <;> exact ⟨_, rfl⟩

/-- Device 0 after `n` heads. -/
structure Dev0 (D : Data) (n : ℕ) (σ : St Ideal) : Prop where
  arg : In D 0 σ
  md : Md σ
  p0 : ∀ (h : Fin 8) r, h.val < n → good D (.p0 h r) (σ (.p0 h r))
  d0 : ∀ i : S160x8.Idx, (i 1).val < n → σ .d0 i = ((D.L (i 1).val (rowOf (i 0).val) 0 1024 : ℝ) : EReal)

theorem Dev0.step {n : ℕ} {h : Fin 8} (hn : h.val = n) (hσ : Dev0 D n σ) : Dev0 D (n + 1) ((dev0Head h).run σ) :=
  at_dev0Head h hσ.arg hσ.md fun σ' hp hd ho =>
    { arg := hσ.arg.keep fun r hr => ho r (by rintro rfl; simp [args] at hr) (by rintro rfl; simp [args] at hr) (by rintro rfl; simp [args] at hr)
      md := by
        have e := ho .md (by simp) (by simp) (by simp)
        have hm := hσ.md
        exact ⟨by unfold MdAt; rw [e]; exact hm.m0, by unfold MdAt; rw [e]; exact hm.m1, by unfold MdAt; rw [e]; exact hm.m2, by unfold MdAt; rw [e]; exact hm.m3⟩
      p0 := fun h' r hh => by
        by_cases e : h' = h
        · subst e; exact hp r
        · rw [ho _ (by simp [e]) (by simp [e]) (by simp)]
          exact hσ.p0 h' r (by have := Fin.val_ne_of_ne e; omega)
      d0 := fun i hi => by
        rw [hd]
        by_cases e : (i 1).val = h.val
        · rw [if_pos e, e]
        · rw [if_neg e]; exact hσ.d0 i (by omega) }

theorem wlp_main0 (hI : In D 0 σ) : wlp (good D) (fun σ' => Out D (σ' .out)) (main0 Ideal ++ tailA Ideal) σ := by
  have start : Dev0 D 0 ((maddInit Ideal).run σ) := at_maddInit fun σ' hm ho =>
    ⟨hI.keep fun r hr => ho r (by rintro rfl; simp [args] at hr), hm, fun _ _ h => absurd h (Nat.not_lt_zero _), fun _ h => absurd h (Nat.not_lt_zero _)⟩
  let S : Rg → Prop := fun r => (∃ h r', r = .p0 h r') ∨ r = .d0
  have h1 : wlp (good D) (Dev0 D 8) (.blk (maddInit Ideal) [.md] [.md] :: (heads.flatMap fun h => [aHead Ideal h, .send (.p0 0 h), .send (.p0 1 h)])) σ :=
    wlp_heads (Dev0 D) _ (fun h σ hσ => by
      have st := hσ.step rfl
      have snd : ∀ j, ∀ r ∈ (Msg.p0 j h).regs, good D r ((dev0Head h).run σ r) := fun j r hr => by
        obtain ⟨r', rfl⟩ := regs_p0 j h hr
        exact st.p0 h r' (Nat.lt_succ_self _)
      exact ⟨snd 0, snd 1, st⟩) start
  refine wlp_seq (wlp_seq (wlp_seq (wlp_seq (wlp_seq h1 (R := Dev0 D 8) (Q := Has D 0 S) fun σ hσ => ?_) (Q := Proj D 0 S 0) fun σ hσ => wlp_zero hσ)
    (Q := Proj D 0 S 8) fun σ hσ => wlp_heads_map (Proj D 0 S) _ (fun h σ hσ => wlp_wo h hσ (Or.inl ⟨_, _, rfl⟩) (Or.inl ⟨_, _, rfl⟩)) hσ)
    fun σ hσ => wlp_recv hσ fun σ hσ => wlp_recv hσ fun σ hσ => wlp_recv hσ fun σ hσ => wlp_recv (l := []) hσ fun σ hσ => hσ) fun σ hσ => wlp_end hσ ?_
  · refine wlp_three (fun j r hr => ?_) ⟨hσ.arg, fun r hr => ?_⟩
    · obtain rfl := Finset.mem_singleton.1 hr
      exact fun i => hσ.d0 i (i 1).isLt
    · rcases hr with ⟨h, r', rfl⟩ | rfl
      · exact hσ.p0 h r' h.isLt
      · exact fun i => hσ.d0 i (i 1).isLt
  · intro r
    cases r <;> simp [Msg.regs, args, S]
    · rename_i r; fin_cases r <;> simp
    · rename_i r; revert r; decide

/-- The first `n` heads of a device's partial results for the global rows. -/
def GlN (D : Data) (r : Fin 3) (n : ℕ) (f : Con Ideal (.gl r)) : Prop :=
  ∀ i : S3x9x32x128.Idx, (i 0).val = r.val →
    ((i 1).val < n → f i = (D.C (i 1).val (i 2).val (i 3).val (1024 * (r.val + 1)) (1024 * (r.val + 1) + 1024)))
    ∧ ((i 1).val = 8 → (i 3).val < n → f i = ((D.L (i 3).val (i 2).val (1024 * (r.val + 1)) (1024 * (r.val + 1) + 1024) : ℝ) : EReal))
/-- The first `n` heads of the second device's partial results for the last rows. -/
def EdN (D : Data) (n : ℕ) (f : Con Ideal .ed) : Prop :=
  ∀ i : S9x128x128.Idx, ((i 0).val < n → f i = (D.C (i 0).val (896 + (i 1).val) (i 2).val 1024 2048))
    ∧ ((i 0).val = 8 → (i 2).val < n → f i = ((D.L (i 2).val (896 + (i 1).val) 1024 2048 : ℝ) : EReal))

theorem GlN.step {r : Fin 3} {h : Fin 8} {f g : Con Ideal (.gl r)} (hf : GlN D r h.val f) (hg : GlUpd D (1024 * (r.val + 1)) h r f g) : GlN D r (h.val + 1) g := fun i hi => by
  have := h.isLt
  rw [hg i hi]
  constructor
  · intro hn
    by_cases e : (i 1).val = h.val
    · rw [if_pos e, e]
    · rw [if_neg e, if_neg (by omega)]; exact (hf i hi).1 (by omega)
  · intro h8 hn
    rw [if_neg (by omega)]
    by_cases e : (i 3).val = h.val
    · rw [if_pos ⟨h8, e⟩, e]
    · rw [if_neg (by omega)]; exact (hf i hi).2 h8 (by omega)
theorem EdN.step {h : Fin 8} {f g : Con Ideal .ed} (hf : EdN D h.val f) (hg : EdUpd D h f g) : EdN D (h.val + 1) g := fun i => by
  have := h.isLt
  rw [hg i]
  constructor
  · intro hn
    by_cases e : (i 0).val = h.val
    · rw [if_pos e, e]
    · rw [if_neg e, if_neg (by omega)]; exact (hf i).1 (by omega)
  · intro h8 hn
    rw [if_neg (by omega)]
    by_cases e : (i 2).val = h.val
    · rw [if_pos ⟨h8, e⟩, e]
    · rw [if_neg (by omega)]; exact (hf i).2 h8 (by omega)

/-- A device's own partial results. -/
theorem wlp_gls {r : Fin 3} (hI : In D (1024 * (r.val + 1)) σ) :
    wlp (good D) (fun σ => In D (1024 * (r.val + 1)) σ ∧ GlN D r 8 (σ (.gl r))) (heads.map (aGl Ideal r)) σ :=
  wlp_heads_map (fun n σ => In D (1024 * (r.val + 1)) σ ∧ GlN D r n (σ (.gl r))) _ (fun h σ hσ =>
    at_globHead (Q := fun σ => In D (1024 * (r.val + 1)) σ ∧ GlN D r (h.val + 1) (σ (.gl r))) h r hσ.1 fun g hg =>
      ⟨hσ.1.upd (gl_args r) g, by rw [Function.update_self]; exact hσ.2.step hg⟩)
    ⟨hI, fun i _ => ⟨fun h => absurd h (Nat.not_lt_zero _), fun _ h => absurd h (Nat.not_lt_zero _)⟩⟩
/-- The second device's. -/
theorem wlp_dev1s (hI : In D 1024 σ) : wlp (good D) (fun σ => In D 1024 σ ∧ GlN D 0 8 (σ (.gl 0)) ∧ EdN D 8 (σ .ed))
    (heads.map fun h => .blk (dev1Head h) [.x, .wq, .k, .v, .gl 0, .ed] [.gl 0, .ed]) σ :=
  wlp_heads_map (fun n σ => In D 1024 σ ∧ GlN D 0 n (σ (.gl 0)) ∧ EdN D n (σ .ed)) _ (fun h σ hσ =>
    at_dev1Head (Q := fun σ => In D 1024 σ ∧ GlN D 0 (h.val + 1) (σ (.gl 0)) ∧ EdN D (h.val + 1) (σ .ed)) h hσ.1 fun g e hg he =>
      ⟨(hσ.1.upd (gl_args 0) g).upd (by decide) e, by rw [Function.update_of_ne (by simp), Function.update_self]; exact hσ.2.1.step hg,
        by rw [Function.update_self]; exact hσ.2.2.step he⟩)
    ⟨hI, fun i _ => ⟨fun h => absurd h (Nat.not_lt_zero _), fun _ h => absurd h (Nat.not_lt_zero _)⟩,
      fun i => ⟨fun h => absurd h (Nat.not_lt_zero _), fun _ h => absurd h (Nat.not_lt_zero _)⟩⟩

/-- The regions of the first `n` heads, received one head at a time, and what was held before. -/
def upto (S : Rg → Prop) (n : ℕ) (r : Rg) : Prop := S r ∨ ∃ (h : Fin 8) (j : Fin 2), h.val < n ∧ r = .p0 h j

theorem upto_zero {S : Rg → Prop} {n : ℕ} (h : Proj D a S n σ) : Proj D a (upto S 0) n σ :=
  ⟨h.has.weaken fun r hr => hr.elim Or.inl fun ⟨_, _, h, _⟩ => absurd h (Nat.not_lt_zero _), h.mid⟩
theorem upto_succ {S S' : Rg → Prop} {n m : ℕ} (hP : Proj D a S' m σ) (h : Fin 8) (hn : h.val = n)
    (hS : ∀ r, S' r ↔ r = .p0 h 0 ∨ r = .p0 h 1 ∨ upto S n r) : Proj D a (upto S (n + 1)) m σ := by
  refine ⟨hP.has.weaken fun r hr => Or.inl ((hS r).2 ?_), hP.mid⟩
  rcases hr with q | ⟨h', j, hl, rfl⟩
  · exact Or.inr (Or.inr (Or.inl q))
  · by_cases e : h' = h
    · subst e
      fin_cases j
      · exact Or.inl rfl
      · exact Or.inr (Or.inl rfl)
    · exact Or.inr (Or.inr (Or.inr ⟨h', j, by have := Fin.val_ne_of_ne e; omega, rfl⟩))

/-- A head received whole, half of it passed on, and its share added. -/
theorem wlp_pass {S : Rg → Prop} (j r : Fin 2) (h : Fin 8) (hP : Proj D a (upto S h.val) h.val σ) :
    wlp (good D) (Proj D a (upto S (h.val + 1)) (h.val + 1)) [.recv (.p0 j h), .send (.fw r h), aWo Ideal h] σ := by
  refine wlp_recv hP fun σ hσ => ?_
  have hσ' : Proj D a (upto S (h.val + 1)) h.val σ := upto_succ hσ h rfl fun r => by simp [Msg.regs, or_assoc]
  have p0 : ∀ j : Fin 2, upto S (h.val + 1) (.p0 h j) := fun j => Or.inr ⟨h, j, Nat.lt_succ_self _, rfl⟩
  refine wlp_send (fun r' hr => ?_) (wlp_wo h hσ' (p0 0) (p0 1))
  obtain rfl := Finset.mem_singleton.1 hr
  exact hσ'.has.gd _ (p0 r)
/-- A head received in two halves, and its share added. -/
theorem wlp_halves {S : Rg → Prop} (h : Fin 8) (hP : Proj D a (upto S h.val) h.val σ) :
    wlp (good D) (Proj D a (upto S (h.val + 1)) (h.val + 1)) [.recv (.fw 0 h), .recv (.fw 1 h), aWo Ideal h] σ := by
  refine wlp_recv hP fun σ hσ => wlp_recv hσ fun σ hσ => ?_
  have hσ' : Proj D a (upto S (h.val + 1)) h.val σ := upto_succ hσ h rfl fun r => by simp [Msg.regs]; tauto
  have p0 : ∀ j : Fin 2, upto S (h.val + 1) (.p0 h j) := fun j => Or.inr ⟨h, j, Nat.lt_succ_self _, rfl⟩
  exact wlp_wo h hσ' (p0 0) (p0 1)

theorem wlp_main1 (hI : In D 1024 σ) : wlp (good D) (fun σ' => Out D (σ' .out)) (main1 Ideal ++ tailA Ideal) σ := by
  let S : Rg → Prop := fun r => r = .gl 0 ∨ r = .ed
  refine wlp_seq (wlp_seq (wlp_seq (wlp_seq (wlp_seq (wlp_seq (wlp_dev1s hI) (Q := Has D 1024 S) fun σ hσ => ?_) (Q := Has D 1024 S) fun σ hσ => ?_)
    (Q := Proj D 1024 S 0) fun σ hσ => wlp_zero hσ)
    (Q := Proj D 1024 (upto S 8) 8) fun σ hσ => wlp_heads (fun n => Proj D 1024 (upto S n) n) _ (fun h σ hσ => wlp_pass 0 0 h hσ) (upto_zero hσ))
    fun σ hσ => wlp_recv hσ fun σ hσ => wlp_recv hσ fun σ hσ => wlp_recv (l := []) hσ fun σ hσ => hσ) fun σ hσ => wlp_end hσ ?_
  · refine wlp_three (fun j r hr => ?_) ⟨hσ.1, fun r hr => ?_⟩
    · obtain rfl := Finset.mem_singleton.1 hr
      exact hσ.2.2
    · rcases hr with rfl | rfl
      · exact hσ.2.1
      · exact hσ.2.2
  · refine wlp_three (fun j r hr => ?_) hσ
    obtain rfl := Finset.mem_singleton.1 hr
    exact hσ.gd _ (Or.inl rfl)
  · intro r
    cases r <;> simp [Msg.regs, args, S, upto]
    rename_i r; revert r; decide

theorem wlp_main2 (hI : In D 2048 σ) : wlp (good D) (fun σ' => Out D (σ' .out)) (main2 Ideal ++ tailA Ideal) σ := by
  let S : Rg → Prop := fun r => r = .gl 1
  refine wlp_seq (wlp_seq (wlp_seq (wlp_seq (wlp_seq (wlp_gls (r := 1) hI) (Q := Has D 2048 S) fun σ hσ => ?_)
    (Q := Proj D 2048 S 0) fun σ hσ => wlp_zero hσ)
    (Q := Proj D 2048 (upto S 8) 8) fun σ hσ => wlp_heads (fun n => Proj D 2048 (upto S n) n) _ (fun h σ hσ => wlp_halves h hσ) (upto_zero hσ))
    fun σ hσ => wlp_recv hσ fun σ hσ => wlp_recv hσ fun σ hσ => wlp_recv hσ fun σ hσ => wlp_recv (l := []) hσ fun σ hσ => hσ) fun σ hσ => wlp_end hσ ?_
  · refine wlp_three (fun j r hr => ?_) ⟨hσ.1, fun r hr => ?_⟩
    · obtain rfl := Finset.mem_singleton.1 hr
      exact hσ.2
    · subst hr; exact hσ.2
  · intro r
    cases r <;> simp [Msg.regs, args, S, upto]
    rename_i r; revert r; decide

theorem wlp_main3 (hI : In D 3072 σ) : wlp (good D) (fun σ' => Out D (σ' .out)) (main3 Ideal ++ tailA Ideal) σ := by
  let S : Rg → Prop := fun r => r = .gl 2
  refine wlp_seq (wlp_seq (wlp_seq (wlp_seq (wlp_seq (wlp_gls (r := 2) hI) (Q := Has D 3072 S) fun σ hσ => ?_)
    (Q := Proj D 3072 S 0) fun σ hσ => wlp_zero hσ)
    (Q := Proj D 3072 (upto S 8) 8) fun σ hσ => wlp_heads (fun n => Proj D 3072 (upto S n) n) _ (fun h σ hσ => wlp_pass 1 1 h hσ) (upto_zero hσ))
    fun σ hσ => wlp_recv hσ fun σ hσ => wlp_recv hσ fun σ hσ => wlp_recv hσ fun σ hσ => wlp_recv (l := []) hσ fun σ hσ => hσ) fun σ hσ => wlp_end hσ ?_
  · refine wlp_three (fun j r hr => ?_) ⟨hσ.1, fun r hr => ?_⟩
    · obtain rfl := Finset.mem_singleton.1 hr
      exact hσ.2
    · subst hr; exact hσ.2
  · intro r
    cases r <;> simp [Msg.regs, args, S, upto]
    rename_i r; revert r; decide

/-- Every device's list, on its block of the arguments. -/
theorem wlp_full (c : Dev nD) (hI : In D (1024 * c.val) σ) : wlp (good D) (fun σ' => Out D (σ' .out)) (full Ideal c) σ := by
  have e : ∀ l : List (Act Ideal), (∀ x ∈ l, (∃ y, x = .wsend y) ∨ ∃ y, x = .merge y) → ∀ σ : St Ideal, Out D (σ .out) → wlp (good D) (fun σ' => Out D (σ' .out)) l σ :=
    fun l hl σ h => wlp_waits hl h
  refine wlp_seq (R := fun σ => Out D (σ .out)) ?_ (e _ fun x hx => by obtain ⟨y, _, rfl⟩ := List.mem_map.1 hx; exact Or.inr ⟨y, rfl⟩)
  obtain ⟨c, hc⟩ := c
  have hc4 : c < 4 := hc
  interval_cases c
  · exact wlp_seq (wlp_main0 hI) (e _ fun x hx => by simp [ws0, heads, three] at hx; casesm* _ ∨ _ <;> exact Or.inl ⟨_, ‹_›⟩)
  · exact wlp_seq (wlp_main1 hI) (e _ fun x hx => by simp [ws1, heads, three] at hx; casesm* _ ∨ _ <;> exact Or.inl ⟨_, ‹_›⟩)
  · exact wlp_seq (wlp_main2 hI) (e _ fun x hx => by simp [ws2, heads, three] at hx; casesm* _ ∨ _ <;> exact Or.inl ⟨_, ‹_›⟩)
  · exact wlp_seq (wlp_main3 hI) (e _ fun x hx => by simp [ws3, heads, three] at hx; casesm* _ ∨ _ <;> exact Or.inl ⟨_, ‹_›⟩)

end Cert.Attn

end
-- ==== Proof.RefVal.lean ====
/-
What the reference computes over the extended reals, where the inputs of its scores are real numbers: the problem's output.

The operations are named in the order the reference runs them, and each is read at an index. The softmax subtracts a row's
largest score before it exponentiates; the quotient does not see it.
-/
module

public import proofs.«01_k».proof.Proof.Ops
public import proofs.«01_k».proof.Proof.Words
public import proofs.«01_k».proof.Proof.Gen.ReferenceIdeal.Run
public import Idealize.ShloMosaic.Lib.StackMember

@[expose] public section

noncomputable section

namespace Cert.Attn.Ref

open Idealize.ShloMosaic Idealize.ShloMosaic.ValueIdx Cert.ReferenceIdeal Cert.ReferenceIdeal.Gen
open Finset (range)

/-! ## The operations -/

def maskV : S1024x4096.Idx → BitVec 1 :=
  ori (ori (cmpi .sle (absi (subi (iotaInDim S1024x4096 32 0) (iotaInDim S1024x4096 32 1))) (broadcastInDim S1024x4096 ![] bcast_S_S1024x4096 (constantI S_ 32 128#32)))
    (cmpi .slt (iotaInDim S1024x4096 32 1) (broadcastInDim S1024x4096 ![] bcast_S_S1024x4096 (constantI S_ 32 32#32))))
    (cmpi .slt (iotaInDim S1024x4096 32 0) (broadcastInDim S1024x4096 ![] bcast_S_S1024x4096 (constantI S_ 32 32#32)))

def keepV : S1x1x1024x1.Idx → BitVec 1 :=
  broadcastInDim S1x1x1024x1 ![2] bcast_S1024_S1x1x1024x1_2 (Host.reduce IntOp.ori maskV (constantI S_ 1 0#1) reducesTo_S1024x4096_S1024_d1 h_S_)

def queryV (x : FVec Ideal S1x1024x1024 .f32) (wq : FVec Ideal S1024x1024 .f32) : FVec Ideal S1x1024x8x128 .f32 :=
  shapeCast _ (Host.dotGeneral dot_S1024x1024_S1024x1024_S1024x1024_1_0_0_1_n_n none (shapeCast _ x shapeCasts_S1x1024x1024_S1024x1024) wq) shapeCasts_S1024x1024_S1x1024x8x128

def scoreV (q : FVec Ideal S1x1024x8x128 .f32) (k : FVec Ideal S1x4096x8x128 .f32) : FVec Ideal S1x8x1024x4096 .f32 :=
  select (broadcastInDim S1x8x1024x4096 ![0, 1, 2, 3] bcast_S1x1x1024x4096_S1x8x1024x4096_0_1_2_3 (broadcastInDim S1x1x1024x4096 ![2, 3] bcast_S1024x4096_S1x1x1024x4096_2_3 maskV))
    (Host.divf (Host.dotGeneral dot_S1x1024x8x128_S1x4096x8x128_S1x8x1024x4096_3_3_1_1_02_02 none q k)
      (broadcastInDim S1x8x1024x4096 ![] bcast_S_S1x8x1024x4096 (Host.sqrt (constant S_ .f32 0x43000000#32))))
    (broadcastInDim S1x8x1024x4096 ![] bcast_S_S1x8x1024x4096 (id (constant S_ .f32 0xFF800000#32)))

def maxV (s : FVec Ideal S1x8x1024x4096 .f32) : FVec Ideal S1x8x1024 .f32 :=
  Host.reduce FloatOps.maximumf s (constant S_ .f32 0xFF800000#32) reducesTo_S1x8x1024x4096_S1x8x1024_d3 h_S_

def expV (s : FVec Ideal S1x8x1024x4096 .f32) : FVec Ideal S1x8x1024x4096 .f32 :=
  Host.exp (subf s (broadcastInDim S1x8x1024x4096 ![0, 1, 2, 3] bcast_S1x8x1024x1_S1x8x1024x4096_0_1_2_3
    (broadcastInDim S1x8x1024x1 ![0, 1, 2] bcast_S1x8x1024_S1x8x1024x1_0_1_2 (maxV s))))

def sumV (e : FVec Ideal S1x8x1024x4096 .f32) : FVec Ideal S1x8x1024 .f32 :=
  Host.reduceAdd e (constant S_ .f32 0x00000000#32) reducesTo_S1x8x1024x4096_S1x8x1024_d3 h_S_

def denV (e : FVec Ideal S1x8x1024x4096 .f32) : FVec Ideal S1x8x1024x1 .f32 :=
  select (broadcastInDim S1x8x1024x1 ![0, 1, 2, 3] bcast_S1x1x1024x1_S1x8x1024x1_0_1_2_3 keepV)
    (broadcastInDim S1x8x1024x1 ![0, 1, 2] bcast_S1x8x1024_S1x8x1024x1_0_1_2 (sumV e))
    (broadcastInDim S1x8x1024x1 ![] bcast_S_S1x8x1024x1 (id (constant S_ .f32 0x3F800000#32)))

def probV (e : FVec Ideal S1x8x1024x4096 .f32) : FVec Ideal S1x8x1024x4096 .f32 :=
  select (broadcastInDim S1x8x1024x4096 ![0, 1, 2, 3] bcast_S1x1x1024x1_S1x8x1024x4096_0_1_2_3 keepV)
    (Host.divf e (broadcastInDim S1x8x1024x4096 ![0, 1, 2, 3] bcast_S1x8x1024x1_S1x8x1024x4096_0_1_2_3 (denV e)))
    (broadcastInDim S1x8x1024x4096 ![] bcast_S_S1x8x1024x4096 (id (constant S_ .f32 0x00000000#32)))

def ctxV (v : FVec Ideal S1x4096x8x128 .f32) (p : FVec Ideal S1x8x1024x4096 .f32) : FVec Ideal S1x1024x1024 .f32 :=
  shapeCast _ (transpose S1x1024x8x128 [0, 3, 1, 2] (Host.dotGeneral dot_S1x4096x8x128_S1x8x1024x4096_S1x8x128x1024_1_3_3_2_02_01 none v p)
    transposes_S1x8x128x1024_S1x1024x8x128_0_3_1_2) shapeCasts_S1x1024x8x128_S1x1024x1024

/-- The reference's result, of its arguments. -/
def outV (x : FVec Ideal S1x1024x1024 .f32) (wq : FVec Ideal S1024x1024 .f32) (k v : FVec Ideal S1x4096x8x128 .f32) (wo : FVec Ideal S1024x1024 .f32) :
    FVec Ideal S1x1024x1024 .f32 :=
  Host.dotGeneral dot_S1x1024x1024_S1024x1024_S1x1024x1024_2_0_01_1_n_n none (ctxV v (probV (expV (scoreV (queryV x wq) k)))) wo

theorem res_eq (m : (ℓ : Loc nD τ sig) → Buf (Elt Ideal) ℓ) (c : Dev nD) :
    Cert.ReferenceIdeal.Value.res_out0 m c = outV (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_out0 Cert.ReferenceIdeal.Value.res_main_v37
  rfl

/-! ## Their readings -/

/-- A contraction of one axis whose products are real numbers. -/
theorem dot_real {sl sr so : Shape} (d : DotDims sl sr so) (n : ℕ) (hr : d.contr.rank = 1) (hs : d.contr.size ⟨0, by omega⟩ = n)
    (a : FVec Ideal sl .f32) (b : FVec Ideal sr .f32) (j : so.Idx) (G : ℕ → ℝ)
    (h : ∀ k : d.contr.Idx, a (d.lhsIdx j k) * b (d.rhsIdx j k) = ((G (k ⟨0, by omega⟩).val : ℝ) : EReal)) :
    Host.dotGeneral d none a b j = ((∑ t ∈ range n, G t : ℝ) : EReal) := by
  show FloatOps.dotGeneral _ none _ a b j = _
  rw [Ideal.dotGeneral_apply, ← Equiv.sum_comp (contrEquiv1 d n hr hs).symm, ← coe_sum_range]
  refine Finset.sum_congr rfl fun t _ => ?_
  rw [h, contrEquiv1_symm_val d n hr hs t]

/-- A contraction of one axis. -/
theorem dot_sum {sl sr so : Shape} (d : DotDims sl sr so) (n : ℕ) (hr : d.contr.rank = 1) (hs : d.contr.size ⟨0, by omega⟩ = n)
    (a : FVec Ideal sl .f32) (b : FVec Ideal sr .f32) (j : so.Idx) (G : ℕ → EReal)
    (h : ∀ k : d.contr.Idx, a (d.lhsIdx j k) * b (d.rhsIdx j k) = G (k ⟨0, by omega⟩).val) :
    Host.dotGeneral d none a b j = ∑ t ∈ range n, G t := by
  show FloatOps.dotGeneral _ none _ a b j = _
  rw [Ideal.dotGeneral_apply, ← Equiv.sum_comp (contrEquiv1 d n hr hs).symm, Finset.sum_range]
  refine Finset.sum_congr rfl fun t _ => ?_
  rw [h, contrEquiv1_symm_val d n hr hs t]

/-- A row's value, for each of its keys. -/
theorem row_keys {α : Type} (x : S1x8x1024x1.Idx → α) (h) (i : S1x8x1024x4096.Idx) :
    broadcastInDim (s := S1x8x1024x1) S1x8x1024x4096 ![0, 1, 2, 3] h x i = x (ix4 0 (i 1) (i 2) 0) :=
  broadcastInDim_apply _ h x i _ (fun a => by match a with | ⟨0, _⟩ => rfl | ⟨1, _⟩ => rfl | ⟨2, _⟩ => rfl | ⟨3, _⟩ => rfl)
theorem row_unit {α : Type} (x : S1x8x1024.Idx → α) (h) (i : S1x8x1024x1.Idx) :
    broadcastInDim (s := S1x8x1024) S1x8x1024x1 ![0, 1, 2] h x i = x (ix3 0 (i 1) (i 2)) :=
  broadcastInDim_apply _ h x i _ (fun a => by match a with | ⟨0, _⟩ => rfl | ⟨1, _⟩ => rfl | ⟨2, _⟩ => rfl)
theorem keep_keys {α : Type} (x : S1x1x1024x1.Idx → α) (h) (i : S1x8x1024x4096.Idx) :
    broadcastInDim (s := S1x1x1024x1) S1x8x1024x4096 ![0, 1, 2, 3] h x i = x (ix4 0 0 (i 2) 0) :=
  broadcastInDim_apply _ h x i _ (fun a => by match a with | ⟨0, _⟩ => rfl | ⟨1, _⟩ => rfl | ⟨2, _⟩ => rfl | ⟨3, _⟩ => rfl)
theorem keep_unit {α : Type} (x : S1x1x1024x1.Idx → α) (h) (i : S1x8x1024x1.Idx) :
    broadcastInDim (s := S1x1x1024x1) S1x8x1024x1 ![0, 1, 2, 3] h x i = x (ix4 0 0 (i 2) 0) :=
  broadcastInDim_apply _ h x i _ (fun a => by match a with | ⟨0, _⟩ => rfl | ⟨1, _⟩ => rfl | ⟨2, _⟩ => rfl | ⟨3, _⟩ => rfl)

theorem mask_keys {α : Type} (x : S1x1x1024x4096.Idx → α) (h) (i : S1x8x1024x4096.Idx) :
    broadcastInDim (s := S1x1x1024x4096) S1x8x1024x4096 ![0, 1, 2, 3] h x i = x (ix4 0 0 (i 2) (i 3)) :=
  broadcastInDim_apply _ h x i _ (fun a => by match a with | ⟨0, _⟩ => rfl | ⟨1, _⟩ => rfl | ⟨2, _⟩ => rfl | ⟨3, _⟩ => rfl)
theorem mask_lead {α : Type} (x : S1024x4096.Idx → α) (h) (i : S1x1x1024x4096.Idx) :
    broadcastInDim (s := S1024x4096) S1x1x1024x4096 ![2, 3] h x i = x (ix2 (i 2) (i 3)) :=
  broadcastInDim_apply _ h x i _ (fun a => by match a with | ⟨0, _⟩ => rfl | ⟨1, _⟩ => rfl)
theorem keep_lead {α : Type} (x : S1024.Idx → α) (h) (i : S1x1x1024x1.Idx) :
    broadcastInDim (s := S1024) S1x1x1024x1 ![2] h x i = x (ix1 (i 2)) :=
  broadcastInDim_apply _ h x i _ (fun a => by match a with | ⟨0, _⟩ => rfl)

/-- Row `i`'s mask word for key `j`. -/
theorem maskV_apply (i : S1024x4096.Idx) : maskV i = BitVec.ofBool (decide (sees (i 0).val (i 1).val)) := by
  have h0 : (i 0).val < 1024 := (i 0).isLt
  have h1 : (i 1).val < 4096 := (i 1).isLt
  show IntOp.ori (IntOp.ori (IntOp.cmpi .sle (IntOp.absi (IntOp.subi (BitVec.ofNat 32 (i 0).val) (BitVec.ofNat 32 (i 1).val))) 128#32)
    (IntOp.cmpi .slt (BitVec.ofNat 32 (i 1).val) 32#32)) (IntOp.cmpi .slt (BitVec.ofNat 32 (i 0).val) 32#32) = _
  rw [near_word (by omega) (by omega), glob_word (by omega), glob_word (by omega), ori_word, ori_word]
  refine congrArg BitVec.ofBool ?_
  rw [Bool.or_assoc, ← Bool.decide_or, ← Bool.decide_or]
  exact decide_eq_decide.2 Iff.rfl

/-- Words of one bit, the first of them set: their disjunction is set. -/
theorem fold_ori {n : ℕ} (f : Fin (n + 1) → BitVec 1) (h : f 0 = 1#1) :
    (Finset.univ : Finset (Fin (n + 1))).fold (IntOp.ori (w := 1)) 0#1 f = 1#1 := by
  rw [← Finset.insert_erase (Finset.mem_univ (0 : Fin (n + 1))), Finset.fold_insert (Finset.notMem_erase _ _), h]
  exact (by decide : ∀ w : BitVec 1, IntOp.ori 1#1 w = 1#1) _

/-- Every row sees a key: the first. -/
theorem keepV_apply (i : S1x1x1024x1.Idx) : keepV i = BitVec.ofBool true := by
  have hR : S1024x4096.Reduces [1] S1024 := by decide
  unfold keepV
  rw [keep_lead, Host.reduce_eq_fold_single IntOp.ori maskV _ _ hR]
  have hm : maskV (hR.lift (ix1 (i 2)) (0 : Fin 4096)) = 1#1 := by
    rw [maskV_apply]
    have : (hR.lift (ix1 (i 2)) (0 : Fin 4096) 1).val = 0 := rfl
    rw [this, decide_eq_true (show sees _ 0 from Or.inr (Or.inl (by norm_num)))]; rfl
  exact fold_ori (n := 4095) _ hm

variable {D : Data}

/-- The unmasked score. -/
def T (D : Data) (h i j : ℕ) : ℝ := (∑ d ∈ range 128, D.Q h i d * D.K j h d) / Real.sqrt 128

theorem W_eq (h i j : ℕ) : D.W h i j = Real.exp (T D h i j) := by
  unfold Data.W
  show (2 : ℝ) ^ D.S h i j = _
  rw [Real.rpow_def_of_pos two_pos]
  refine congrArg Real.exp ?_
  unfold Data.S T qs
  rw [Finset.mul_sum, Finset.sum_div]
  refine Finset.sum_congr rfl fun d _ => ?_
  have : Real.log 2 ≠ 0 := (Real.log_pos one_lt_two).ne'
  field_simp

theorem queryV_apply {x : FVec Ideal S1x1024x1024 .f32} {wq : FVec Ideal S1024x1024 .f32} (hx : R3 x fun _ i t => D.X i t) (hw : R2 wq D.Wq) :
    R4 (queryV x wq) fun _ i h d => D.Q h i d := fun (i : S1x1024x8x128.Idx) => by
  have h0 : (i 0).val < 1 := (i 0).isLt
  have h2 : (i 2).val < 8 := (i 2).isLt
  have h3 : (i 3).val < 128 := (i 3).isLt
  unfold queryV
  refine (shapeCast_apply (s := S1024x1024) _ _ i (ix2 (i 1) ⟨128 * (i 2).val + (i 3).val, by omega⟩) (by
    rw [Shape.rowMajor_val_two, Shape.rowMajor_val_four]; simp [ix2]; omega)).trans ?_
  exact dot_real _ 1024 rfl rfl _ wq _ (fun t => D.X (i 1).val t * D.Wq t (128 * (i 2).val + (i 3).val)) fun k => by
    rw [hx.drop, hw, ← EReal.coe_mul]; rfl

theorem scoreV_apply {q : FVec Ideal S1x1024x8x128 .f32} {k : FVec Ideal S1x4096x8x128 .f32} (hq : R4 q fun _ i h d => D.Q h i d)
    (hk : R4 k fun _ j h d => D.K j h d) (i : S1x8x1024x4096.Idx) :
    scoreV q k i = if sees (i 2).val (i 3).val then ((T D (i 1).val (i 2).val (i 3).val : ℝ) : EReal) else ⊥ := by
  unfold scoreV
  have e1 : broadcastInDim S1x8x1024x4096 ![0, 1, 2, 3] bcast_S1x1x1024x4096_S1x8x1024x4096_0_1_2_3
      (broadcastInDim S1x1x1024x4096 ![2, 3] bcast_S1024x4096_S1x1x1024x4096_2_3 maskV) i = BitVec.ofBool (decide (sees (i 2).val (i 3).val)) := by
    rw [mask_keys, mask_lead, maskV_apply]
  have e2 : Host.dotGeneral dot_S1x1024x8x128_S1x4096x8x128_S1x8x1024x4096_3_3_1_1_02_02 none q k i
      = ((∑ d ∈ range 128, D.Q (i 1).val (i 2).val d * D.K (i 3).val (i 1).val d : ℝ) : EReal) :=
    dot_real _ 128 rfl rfl q k i (fun d => D.Q (i 1).val (i 2).val d * D.K (i 3).val (i 1).val d) fun k => by
      rw [hq, hk, ← EReal.coe_mul]; rfl
  have e3 : Ideal.ofBits .f32 0x43000000#32 = ((128 : ℝ) : EReal) := by simp [Ideal.ofBits, Ideal.ieee, -EReal.coe_mul]; norm_num
  have e4 : Ideal.ofBits .f32 0xFF800000#32 = ⊥ := by simp [Ideal.ofBits, Ideal.ieee]
  have e5 : Ideal.sqrt ((128 : ℝ) : EReal) = ((Real.sqrt 128 : ℝ) : EReal) := by rw [Ideal.sqrt_coe, if_neg (by norm_num : ¬ (128 : ℝ) < 0)]
  show Scalar.select (broadcastInDim S1x8x1024x4096 ![0, 1, 2, 3] bcast_S1x1x1024x4096_S1x8x1024x4096_0_1_2_3
      (broadcastInDim S1x1x1024x4096 ![2, 3] bcast_S1024x4096_S1x1x1024x4096_2_3 maskV) i)
    (Ideal.div (Host.dotGeneral dot_S1x1024x8x128_S1x4096x8x128_S1x8x1024x4096_3_3_1_1_02_02 none q k i) (Ideal.sqrt (Ideal.ofBits .f32 0x43000000#32)))
    (Ideal.ofBits .f32 0xFF800000#32) = _
  rw [e1, select_word, e2, e3, e4, e5, Ideal.div_coe (by positivity), ← EReal.coe_mul, mul_one_div]
  simp only [decide_eq_true_eq]
  rfl

/-- The largest of some elements, each a real number or `⊥`, the first a real number, is a real number. -/
theorem fold_max_real {n : ℕ} (f : Fin (n + 1) → EReal) (h : ∀ k, f k = ⊥ ∨ ∃ r : ℝ, f k = r) (h0 : ∃ r : ℝ, f 0 = r) :
    ∃ r : ℝ, (Finset.univ : Finset (Fin (n + 1))).fold max ⊥ f = r := by
  have ht : (Finset.univ : Finset (Fin (n + 1))).fold max ⊥ f < ⊤ :=
    (Finset.fold_max_lt _).2 ⟨bot_lt_top, fun k _ => by rcases h k with e | ⟨r, e⟩ <;> rw [e]; exacts [bot_lt_top, EReal.coe_lt_top r]⟩
  obtain ⟨r, e⟩ := h0
  have hb : ⊥ < (Finset.univ : Finset (Fin (n + 1))).fold max ⊥ f :=
    (EReal.bot_lt_coe r).trans_le ((Finset.le_fold_max _).2 (Or.inr ⟨0, Finset.mem_univ _, e.ge⟩))
  exact ⟨_, (EReal.coe_toReal ht.ne hb.ne').symm⟩

theorem maxV_real {s : FVec Ideal S1x8x1024x4096 .f32} (hs : ∀ i, s i = if sees (i 2).val (i 3).val then ((T D (i 1).val (i 2).val (i 3).val : ℝ) : EReal) else ⊥)
    (i : S1x8x1024.Idx) : ∃ r : ℝ, maxV s i = r := by
  have hR : S1x8x1024x4096.Reduces [3] S1x8x1024 := by decide
  have e4 : Ideal.ofBits .f32 0xFF800000#32 = ⊥ := by simp [Ideal.ofBits, Ideal.ieee]
  unfold maxV
  rw [Host.reduce_eq_fold_single (FloatOps.maximumf (F := Ideal) (φ := .f32)) s _ _ hR]
  show ∃ r : ℝ, (Finset.univ : Finset (Fin 4096)).fold max (Ideal.ofBits .f32 0xFF800000#32) (s ∘ hR.lift i) = r
  rw [e4]
  refine fold_max_real (n := 4095) _ (fun k => ?_) ⟨T D (i 1).val (i 2).val 0, ?_⟩
  · show s (hR.lift i k) = ⊥ ∨ ∃ r : ℝ, s (hR.lift i k) = r
    rw [hs]
    split
    · exact Or.inr ⟨_, rfl⟩
    · exact Or.inl rfl
  · show s (hR.lift i (0 : Fin 4096)) = _
    rw [hs]
    exact if_pos (Or.inr (Or.inl (show (0 : ℕ) < 32 by norm_num)))

/-- A weight, scaled by the exponential of the row's largest score. -/
theorem expV_apply {s : FVec Ideal S1x8x1024x4096 .f32} (hs : ∀ i, s i = if sees (i 2).val (i 3).val then ((T D (i 1).val (i 2).val (i 3).val : ℝ) : EReal) else ⊥) :
    ∃ g : S1x8x1024.Idx → ℝ, (∀ j, 0 < g j) ∧ ∀ i : S1x8x1024x4096.Idx, expV s i = ((D.M (i 1).val (i 2).val (i 3).val * g (ix3 0 (i 1) (i 2)) : ℝ) : EReal) := by
  choose r hr using maxV_real hs
  refine ⟨fun j => Real.exp (- r j), fun j => Real.exp_pos _, fun i => ?_⟩
  have e : broadcastInDim S1x8x1024x4096 ![0, 1, 2, 3] bcast_S1x8x1024x1_S1x8x1024x4096_0_1_2_3
      (broadcastInDim S1x8x1024x1 ![0, 1, 2] bcast_S1x8x1024_S1x8x1024x1_0_1_2 (maxV s)) i = ((r (ix3 0 (i 1) (i 2)) : ℝ) : EReal) := by
    rw [row_keys, row_unit, hr]
  show Ideal.exp (s i - broadcastInDim S1x8x1024x4096 ![0, 1, 2, 3] bcast_S1x8x1024x1_S1x8x1024x4096_0_1_2_3
      (broadcastInDim S1x8x1024x1 ![0, 1, 2] bcast_S1x8x1024_S1x8x1024x1_0_1_2 (maxV s)) i) = _
  rw [e, hs]
  unfold Data.M
  split
  · rw [← EReal.coe_sub, Ideal.exp_coe, W_eq, ← Real.exp_add, sub_eq_add_neg]
  · rw [EReal.bot_sub, Ideal.exp_bot, zero_mul]; rfl

theorem sumV_apply {e : FVec Ideal S1x8x1024x4096 .f32} {g : S1x8x1024.Idx → ℝ}
    (he : ∀ i : S1x8x1024x4096.Idx, e i = ((D.M (i 1).val (i 2).val (i 3).val * g (ix3 0 (i 1) (i 2)) : ℝ) : EReal)) (h : Fin 8) (i : Fin 1024) :
    sumV e (ix3 0 h i) = ((D.L h.val i.val 0 4096 * g (ix3 0 h i) : ℝ) : EReal) := by
  have hR : S1x8x1024x4096.Reduces [3] S1x8x1024 := by decide
  show Ideal.hostReduceAdd reducesTo_S1x8x1024x4096_S1x8x1024_d3 e (Ideal.ofBits .f32 0x00000000#32) (ix3 0 h i) = _
  rw [Ideal.hostReduceAdd_single _ hR, Ideal.ofBits_zero_f32, zero_add]
  have : ∀ k : Fin 4096, e (hR.lift (ix3 0 h i) k) = (((fun j => D.M h.val i.val j * g (ix3 0 h i)) k.val : ℝ) : EReal) := fun k => by rw [he]; rfl
  show ∑ k : Fin 4096, e (hR.lift (ix3 0 h i) k) = _
  rw [Finset.sum_congr rfl fun k _ => this k]
  refine (coe_sum_range (fun j => D.M h.val i.val j * g (ix3 0 h i)) 4096).trans (congrArg _ ?_)
  rw [← Finset.sum_mul]
  unfold Data.L Data.P
  simp only [Finset.range_eq_Ico]

theorem hdiv {s : Shape} (x y : FVec Ideal s .f32) (i : s.Idx) : Host.divf x y i = Ideal.div (x i) (y i) := rfl
theorem hsel {s : Shape} (c : s.Idx → BitVec 1) (x y : FVec Ideal s .f32) (i : s.Idx) : select c x y i = Scalar.select (c i) (x i) (y i) := rfl
theorem denV_eq (e : FVec Ideal S1x8x1024x4096 .f32) (i : S1x8x1024x1.Idx) :
    denV e i = Scalar.select (broadcastInDim S1x8x1024x1 ![0, 1, 2, 3] bcast_S1x1x1024x1_S1x8x1024x1_0_1_2_3 keepV i)
      (broadcastInDim S1x8x1024x1 ![0, 1, 2] bcast_S1x8x1024_S1x8x1024x1_0_1_2 (sumV e) i)
      (broadcastInDim S1x8x1024x1 ![] bcast_S_S1x8x1024x1 (id (constant (F := Ideal) S_ .f32 0x3F800000#32)) i) := rfl
theorem probV_eq (e : FVec Ideal S1x8x1024x4096 .f32) (i : S1x8x1024x4096.Idx) :
    probV e i = Scalar.select (broadcastInDim S1x8x1024x4096 ![0, 1, 2, 3] bcast_S1x1x1024x1_S1x8x1024x4096_0_1_2_3 keepV i)
      (Ideal.div (e i) (broadcastInDim S1x8x1024x4096 ![0, 1, 2, 3] bcast_S1x8x1024x1_S1x8x1024x4096_0_1_2_3 (denV e) i))
      (broadcastInDim S1x8x1024x4096 ![] bcast_S_S1x8x1024x4096 (id (constant (F := Ideal) S_ .f32 0x00000000#32)) i) := by
  unfold probV
  rw [hsel, hdiv]

/-- The softmax. -/
theorem probV_apply {e : FVec Ideal S1x8x1024x4096 .f32} {g : S1x8x1024.Idx → ℝ} (hg : ∀ j, 0 < g j)
    (he : ∀ i : S1x8x1024x4096.Idx, e i = ((D.M (i 1).val (i 2).val (i 3).val * g (ix3 0 (i 1) (i 2)) : ℝ) : EReal)) :
    R4 (probV e) fun _ h i j => D.M h i j / D.L h i 0 4096 := fun (i : S1x8x1024x4096.Idx) => by
  have b4 : ∀ i : S1x8x1024x4096.Idx, broadcastInDim S1x8x1024x4096 ![0, 1, 2, 3] bcast_S1x1x1024x1_S1x8x1024x4096_0_1_2_3 keepV i = BitVec.ofBool true := fun i => by
    rw [keep_keys, keepV_apply]
  have b1 : ∀ i : S1x8x1024x1.Idx, broadcastInDim S1x8x1024x1 ![0, 1, 2, 3] bcast_S1x1x1024x1_S1x8x1024x1_0_1_2_3 keepV i = BitVec.ofBool true := fun i => by
    rw [keep_unit, keepV_apply]
  have den : broadcastInDim S1x8x1024x4096 ![0, 1, 2, 3] bcast_S1x8x1024x1_S1x8x1024x4096_0_1_2_3 (denV e) i
      = ((D.L (i 1).val (i 2).val 0 4096 * g (ix3 0 (i 1) (i 2)) : ℝ) : EReal) := by
    rw [row_keys]
    rw [denV_eq, b1, select_word, if_pos rfl, row_unit]
    exact sumV_apply he (i 1) (i 2)
  have gp := hg (ix3 0 (i 1) (i 2))
  have lp := D.L_pos (i 1).val (i 2).val 4096 (by norm_num)
  rw [probV_eq, b4, select_word, if_pos rfl, den, he, Ideal.div_coe (by positivity), ← EReal.coe_mul]
  refine congrArg _ ?_
  field_simp

theorem ctxV_apply {v : FVec Ideal S1x4096x8x128 .f32} {p : FVec Ideal S1x8x1024x4096 .f32} (hv : E4 v fun _ j h d => D.V j h d)
    (hp : R4 p fun _ h i j => D.M h i j / D.L h i 0 4096) : E3 (ctxV v p) fun _ i e => D.A (e / 128) i (e % 128) := fun (i : S1x1024x1024.Idx) => by
  have h0 : (i 0).val < 1 := (i 0).isLt
  have h2 : (i 2).val < 1024 := (i 2).isLt
  unfold ctxV
  refine (shapeCast_apply (s := S1x1024x8x128) _ _ i (ix4 (0 : Fin 1) (i 1) ⟨(i 2).val / 128, by omega⟩ ⟨(i 2).val % 128, by omega⟩) (by
      rw [Shape.rowMajor_val_three, Shape.rowMajor_val_four]; simp [ix4]; omega)).trans ?_
  refine (transpose_apply (s := S1x8x128x1024) [0, 3, 1, 2] _ _ _ (ix4 (0 : Fin 1) ⟨(i 2).val / 128, by omega⟩ ⟨(i 2).val % 128, by omega⟩ (i 1))
      (fun b => by match b with | ⟨0, _⟩ => rfl | ⟨1, _⟩ => rfl | ⟨2, _⟩ => rfl | ⟨3, _⟩ => rfl)).trans ?_
  refine (dot_sum _ 4096 rfl rfl v p _ (fun j => D.V j ((i 2).val / 128) ((i 2).val % 128)
      * ((D.M ((i 2).val / 128) (i 1).val j / D.L ((i 2).val / 128) (i 1).val 0 4096 : ℝ) : EReal)) fun k => by rw [hv, hp]; rfl).trans ?_
  show _ = D.A ((i 2).val / 128) (i 1).val ((i 2).val % 128)
  unfold Data.A Data.C Data.P
  rw [Data.sum_quot _ _ (D.L_pos _ _ 4096 (by norm_num)), Finset.range_eq_Ico]
  refine Finset.sum_congr rfl fun j _ => ?_
  unfold Data.wv quot
  rw [← mul_one_div, EReal.coe_mul, mul_comm, mul_right_comm]

/-- The reference's result is the problem's output. -/
theorem outV_apply {x : FVec Ideal S1x1024x1024 .f32} {wq wo : FVec Ideal S1024x1024 .f32} {k v : FVec Ideal S1x4096x8x128 .f32}
    (hx : R3 x fun _ i t => D.X i t) (hq : R2 wq D.Wq) (hk : R4 k fun _ j h d => D.K j h d) (hv : E4 v fun _ j h d => D.V j h d) (ho : E2 wo D.Wo) :
    E3 (outV x wq k v wo) fun _ i n => D.O i n := fun i => by
  obtain ⟨g, hg, he⟩ := expV_apply (scoreV_apply (queryV_apply hx hq) hk)
  have hc := ctxV_apply hv (probV_apply hg he)
  exact dot_sum _ 1024 rfl rfl _ wo i (fun e => D.A (e / 128) (i 1).val (e % 128) * D.Wo e (i 2).val) fun k => by
    rw [hc, ho]; rfl

end Cert.Attn.Ref

end
-- ==== Proof.Value.lean ====
/-
The value claim: where `x`, `Wq` and `K` are finite, every device's result is the reference's.

Finite arguments are real numbers, so the two programs' readings are of one `Data`; each device holds a quarter of its
keys and values.
-/
module

public import proofs.«01_k».proof.Defs
public import proofs.«01_k».proof.Proof.Dev
public import proofs.«01_k».proof.Proof.RefVal
public import proofs.«01_k».proof.Proof.Frames

@[expose] public section

noncomputable section

namespace Cert.Attn

open Idealize.ShloMosaic Idealize.ShloMosaic.ValueIdx Idealize.ShloMosaic.TcCoe Idealize.SL.Sem

/-! ## Finite arguments -/

instance facts_kernel : Cert.Pre_finite_KernelIdeal.Facts := by constructor <;> decide
instance facts_reference : Cert.Pre_finite_ReferenceIdeal.Facts := by constructor <;> decide

theorem andi_one {x y : BitVec 1} (h : IntOp.andi x y = 1#1) : x = 1#1 ∧ y = 1#1 := by
  revert x y; decide

/-- A conjunction of bits that is set has each of them set. -/
theorem fold_andi {ι : Type} [DecidableEq ι] (s : Finset ι) (f : ι → BitVec 1) (h : s.fold (IntOp.andi (w := 1)) 1#1 f = 1#1) : ∀ k ∈ s, f k = 1#1 := by
  induction s using Finset.induction_on with
  | empty => exact fun k hk => absurd hk (Finset.notMem_empty k)
  | insert a s ha ih =>
    rw [Finset.fold_insert ha] at h
    obtain ⟨h1, h2⟩ := andi_one h
    intro k hk
    rcases Finset.mem_insert.1 hk with rfl | hk
    · exact h1
    · exact ih h2 k hk

/-- Every element is a real number. -/
def AllReal {s : Shape} (x : s.Idx → EReal) : Prop := ∀ i, x i = (((x i).toReal : ℝ) : EReal)

/-- What the precondition asks of one argument. -/
theorem real_of {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel)
    (h : Host.reduce IntOp.andi (cmpf .olt (Host.absf x) (broadcastInDim s ![] hb (constant ⟨0, ![]⟩ .f32 0x7F800000#32))) (constantI ⟨0, ![]⟩ 1 1#1) hr hu ix0 = 1#1) :
    AllReal x := fun i => by
  rw [Host.reduce_eq_fold] at h
  have hi := fold_andi _ _ h i (Finset.mem_filter.2 ⟨Finset.mem_univ _, funext fun a => a.elim0⟩)
  have hinf : Ideal.ofBits .f32 0x7F800000#32 = ⊤ := by simp [Ideal.ofBits, Ideal.ieee]
  have h2 : Ideal.cmp .olt (max (x i) (- x i)) (Ideal.ofBits .f32 0x7F800000#32) = 1#1 := hi
  rw [hinf] at h2
  have h3 : max (x i) (- x i) < ⊤ := by
    by_contra hn
    simp [Ideal.cmp, hn] at h2
  have h4 := max_lt_iff.1 h3
  refine (EReal.coe_toReal h4.1.ne fun e => ?_).symm
  rw [e] at h4
  exact absurd h4.2 (by simp)

/-- What it asks: that the first three are real. -/
theorem reals (a0 : FVec Ideal ⟨3, ![1, 1024, 1024]⟩ .f32) (a1 a4 : FVec Ideal ⟨2, ![1024, 1024]⟩ .f32) (a2 a3 : FVec Ideal ⟨4, ![1, 1024, 8, 128]⟩ .f32)
    (h : Cert.Pre_finite_KernelIdeal.fn (F := Ideal) a0 a1 a2 a3 a4 = fun _ => 1#1) :
    AllReal a0 ∧ AllReal a1 ∧ AllReal a2 := by
  have h0 := congrFun h ix0
  obtain ⟨h0, h2⟩ := andi_one h0
  obtain ⟨h0, h1⟩ := andi_one h0
  exact ⟨real_of a0 _ _ _ h0, real_of a1 _ _ _ h1, real_of a2 _ _ _ h2⟩

/-! ## The numbers of the arguments -/

/-- A number's coordinate on an axis; past its end, the first. -/
def coord (n : ℕ) [NeZero n] (i : ℕ) : Fin n := Fin.ofNat n i
theorem coord_val (n : ℕ) [NeZero n] (i : Fin n) : coord n i.val = i := Fin.ofNat_val_eq_self i

/-- The arguments' numbers. -/
def dataOf (x : FVec Ideal ⟨3, ![1, 1024, 1024]⟩ .f32) (wq wo : FVec Ideal ⟨2, ![1024, 1024]⟩ .f32) (k v : FVec Ideal ⟨4, ![1, 4096, 8, 128]⟩ .f32) : Data where
  X i t := (x (ix3 0 (coord 1024 i) (coord 1024 t))).toReal
  Wq i j := (wq (ix2 (coord 1024 i) (coord 1024 j))).toReal
  K j h d := (k (ix4 0 (coord 4096 j) (coord 8 h) (coord 128 d))).toReal
  V j h d := v (ix4 0 (coord 4096 j) (coord 8 h) (coord 128 d))
  Wo i j := wo (ix2 (coord 1024 i) (coord 1024 j))

theorem real2 {f : FVec Ideal ⟨2, ![1024, 1024]⟩ .f32} (h : AllReal f) : R2 f fun i j => (f (ix2 (coord 1024 i) (coord 1024 j))).toReal := fun i => by
  obtain ⟨r, c, rfl⟩ : ∃ r c, i = ix2 r c := ⟨i 0, i 1, eq_ix2 i⟩
  show f (ix2 r c) = (((f (ix2 (coord 1024 r.val) (coord 1024 c.val))).toReal : ℝ) : EReal)
  rw [coord_val, coord_val]; exact h _
theorem real3 {f : FVec Ideal ⟨3, ![1, 1024, 1024]⟩ .f32} (h : AllReal f) : R3 f fun _ i t => (f (ix3 0 (coord 1024 i) (coord 1024 t))).toReal := fun i => by
  obtain ⟨z, r, c, rfl⟩ : ∃ z r c, i = ix3 z r c := ⟨i 0, i 1, i 2, eq_ix3 i⟩
  obtain rfl : z = 0 := Subsingleton.elim (α := Fin 1) _ _
  show f (ix3 0 r c) = (((f (ix3 0 (coord 1024 r.val) (coord 1024 c.val))).toReal : ℝ) : EReal)
  rw [coord_val, coord_val]; exact h _
theorem real4 {f : FVec Ideal ⟨4, ![1, 4096, 8, 128]⟩ .f32} (h : AllReal f) :
    R4 f fun _ j h d => (f (ix4 0 (coord 4096 j) (coord 8 h) (coord 128 d))).toReal := fun i => by
  obtain ⟨z, r, c, d, rfl⟩ : ∃ z r c d, i = ix4 z r c d := ⟨i 0, i 1, i 2, i 3, eq_ix4 i⟩
  obtain rfl : z = 0 := Subsingleton.elim (α := Fin 1) _ _
  show f (ix4 0 r c d) = (((f (ix4 0 (coord 4096 r.val) (coord 8 c.val) (coord 128 d.val))).toReal : ℝ) : EReal)
  rw [coord_val, coord_val, coord_val]; exact h _

theorem elem2 (f : FVec Ideal ⟨2, ![1024, 1024]⟩ .f32) : E2 f fun i j => f (ix2 (coord 1024 i) (coord 1024 j)) := fun i => by
  obtain ⟨r, c, rfl⟩ : ∃ r c, i = ix2 r c := ⟨i 0, i 1, eq_ix2 i⟩
  show f (ix2 r c) = f (ix2 (coord 1024 r.val) (coord 1024 c.val))
  rw [coord_val, coord_val]
theorem elem4 (f : FVec Ideal ⟨4, ![1, 4096, 8, 128]⟩ .f32) : E4 f fun _ j h d => f (ix4 0 (coord 4096 j) (coord 8 h) (coord 128 d)) := fun i => by
  obtain ⟨z, r, c, d, rfl⟩ : ∃ z r c d, i = ix4 z r c d := ⟨i 0, i 1, i 2, i 3, eq_ix4 i⟩
  obtain rfl : z = 0 := Subsingleton.elim (α := Fin 1) _ _
  show f (ix4 0 r c d) = f (ix4 0 (coord 4096 r.val) (coord 8 c.val) (coord 128 d.val))
  rw [coord_val, coord_val, coord_val]

/-- Arrays cut into blocks whose elements are real numbers. -/
theorem real_of_blocks {f : FVec Ideal ⟨4, ![1, 4096, 8, 128]⟩ .f32}
    (h : ∀ c : Fin 4, AllReal (s := ⟨4, ![1, 1024, 8, 128]⟩) (Layout.block ⟨4, ![1, 1024, 8, 128]⟩ ⟨4, ![1, 4096, 8, 128]⟩ 1 4 c f)) : AllReal f := fun i => by
  obtain ⟨z, r, c, d, rfl⟩ : ∃ z r c d, i = ix4 z r c d := ⟨i 0, i 1, i 2, i 3, eq_ix4 i⟩
  have hr : r.val < 4096 := r.isLt
  have := h ⟨r.val / 1024, by omega⟩ (ix4 z ⟨r.val % 1024, by omega⟩ c d)
  rw [Layout.block_apply] at this
  have e : Layout.Tiles.idx (S := ⟨4, ![1, 1024, 8, 128]⟩) (T := ⟨4, ![1, 4096, 8, 128]⟩) (a := 1) (k := 4) (by decide) ⟨r.val / 1024, by omega⟩
      (ix4 z ⟨r.val % 1024, by omega⟩ c d) = ix4 z r c d := by
    funext b
    apply Fin.ext
    rw [Layout.Tiles.idx_val]
    match b with
    | ⟨0, _⟩ => rfl
    | ⟨1, _⟩ => show r.val / 1024 * 1024 + r.val % 1024 = r.val; omega
    | ⟨2, _⟩ => rfl
    | ⟨3, _⟩ => rfl
  rwa [e] at this
/-- A block's reading. -/
theorem block_reading {f : FVec Ideal ⟨4, ![1, 4096, 8, 128]⟩ .f32} {G : ℕ → ℕ → ℕ → EReal} (h : E4 f fun _ j h d => G j h d) (c : Fin 4) :
    E4 (a := 1) (b := 1024) (c := 8) (d := 128) (Layout.block ⟨4, ![1, 1024, 8, 128]⟩ ⟨4, ![1, 4096, 8, 128]⟩ 1 4 c f) fun _ j h d => G (1024 * c.val + j) h d := fun i => by
  rw [Layout.block_apply, h]
  rw [Layout.Tiles.idx_val, Layout.Tiles.idx_val, Layout.Tiles.idx_val]
  show G (c.val * 1024 + (i 1).val) (i 2).val (i 3).val = _
  rw [Nat.mul_comm]

/-! ## The claims -/

theorem frame_ideal_finite : Cert.quiescent_KernelIdeal_pre_finite_KernelIdeal := fun m ρ _ => frame_ideal m ρ trivial
theorem frame_reference_finite : Cert.quiescent_ReferenceIdeal_pre_finite_ReferenceIdeal := fun m ρ _ => frame_reference m ρ trivial

theorem algebraic : Cert.algebraic_KernelIdeal_ReferenceIdeal_pre_finite_KernelIdeal := fun m g m' g' hpre hm => by
  have fin := fun c => reals _ _ _ _ _ (hpre c)
  have r0 := (fin 0).1
  have r1 := (fin 0).2.1
  rw [(hm 0).1] at r0
  rw [(hm 0).2.1] at r1
  have r2 := real_of_blocks fun c => by have := (fin c).2.2; rw [(hm c).2.2.1] at this; exact this
  have hx := real3 r0
  have hq := real2 r1
  have hk := real4 r2
  have hv := elem4 (m' (((0 : Dev Cert.ReferenceIdeal.nD).tc : Thread Cert.ReferenceIdeal.nD Cert.ReferenceIdeal.τ).loc Cert.ReferenceIdeal.main_arg3))
  have ho := elem2 (m' (((0 : Dev Cert.ReferenceIdeal.nD).tc : Thread Cert.ReferenceIdeal.nD Cert.ReferenceIdeal.τ).loc Cert.ReferenceIdeal.main_arg4))
  let D : Data := dataOf (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))
    (m' (((0 : Dev Cert.ReferenceIdeal.nD).tc : Thread Cert.ReferenceIdeal.nD Cert.ReferenceIdeal.τ).loc Cert.ReferenceIdeal.main_arg4))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3))
  have hw : Computes (F := Ideal) m (good D) (fun _ => Out D) := fun c σ hσ => wlp_full c {
    x := by rw [hσ.1]; exact (hm c).1 ▸ hx
    wq := by rw [hσ.2.1]; exact (hm c).2.1 ▸ hq
    k := by rw [hσ.2.2.1]; exact (hm c).2.2.1 ▸ block_reading (G := fun j h d => ((D.K j h d : ℝ) : EReal)) hk c
    v := by rw [hσ.2.2.2.1]; exact (hm c).2.2.2.1 ▸ block_reading (G := D.V) hv c
    wo := by rw [hσ.2.2.2.2]; exact (hm c).2.2.2.2 ▸ ho }
  have href : ∀ i : (⟨3, ![1, 1024, 1024]⟩ : Shape).Idx, Cert.ReferenceIdeal.Value.res_out0 m' 0 i = D.O (i 1).val (i 2).val := fun i => by
    rw [Ref.res_eq]; exact Ref.outV_apply (D := D) hx hq hk hv ho i
  refine ⟨Cert.ReferenceIdeal.Value.res_out0 m' 0, (θ_run Cert.KernelIdeal.defs _ _).mono (fun r h c => ⟨?_, (h.1 c).2⟩) (run_main (F := Ideal) m g (good D) (fun _ => Out D) hw),
    (θ_run Cert.ReferenceIdeal.defs _ _).mono (fun r h => h 0) (Cert.ReferenceIdeal.Value.run (F := Ideal) m' g')⟩
  exact funext fun i => ((h.1 c).1 i).trans (href i).symm

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Attn.facts_kernel, Cert.Attn.facts_reference,
    Cert.Attn.frame_kernel, Cert.Attn.frame_ideal, Cert.Attn.frame_ideal_finite, Cert.Attn.frame_reference, Cert.Attn.frame_reference_finite,
    Cert.Attn.named, Cert.Attn.algebraic⟩

end Cert.Proof

end
